-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "kScale" .f32 0x3DB504F3#32 (((Real.sqrt 128)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)) (v2 : (c : Dev Cert.KernelIdeal.nD) → Buf (Elt Ideal) ((c.tc : Thread Cert.KernelIdeal.nD Cert.KernelIdeal.τ).loc Cert.KernelIdeal.main_v57_2)) (v3 : (c : Dev Cert.KernelIdeal.nD) → Buf (Elt Ideal) ((c.tc : Thread Cert.KernelIdeal.nD Cert.KernelIdeal.τ).loc Cert.KernelIdeal.main_v57_3)) (v4 : (c : Dev Cert.KernelIdeal.nD) → Buf (Elt Ideal) ((c.tc : Thread Cert.KernelIdeal.nD Cert.KernelIdeal.τ).loc Cert.KernelIdeal.main_v57_4)) (v5 : (c : Dev Cert.KernelIdeal.nD) → Buf (Elt Ideal) ((c.tc : Thread Cert.KernelIdeal.nD Cert.KernelIdeal.τ).loc Cert.KernelIdeal.main_v57_5)) (v6 : (c : Dev Cert.KernelIdeal.nD) → Buf (Elt Ideal) ((c.tc : Thread Cert.KernelIdeal.nD Cert.KernelIdeal.τ).loc Cert.KernelIdeal.main_v57_6)) (v7 : (c : Dev Cert.KernelIdeal.nD) → Buf (Elt Ideal) ((c.tc : Thread Cert.KernelIdeal.nD Cert.KernelIdeal.τ).loc Cert.KernelIdeal.main_v57_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v57_1) = v1 c
          ∧ r.2.mem ((c.tc : Thread Cert.KernelIdeal.nD Cert.KernelIdeal.τ).loc Cert.KernelIdeal.main_v57_2) = v2 c
          ∧ r.2.mem ((c.tc : Thread Cert.KernelIdeal.nD Cert.KernelIdeal.τ).loc Cert.KernelIdeal.main_v57_3) = v3 c
          ∧ r.2.mem ((c.tc : Thread Cert.KernelIdeal.nD Cert.KernelIdeal.τ).loc Cert.KernelIdeal.main_v57_4) = v4 c
          ∧ r.2.mem ((c.tc : Thread Cert.KernelIdeal.nD Cert.KernelIdeal.τ).loc Cert.KernelIdeal.main_v57_5) = v5 c
          ∧ r.2.mem ((c.tc : Thread Cert.KernelIdeal.nD Cert.KernelIdeal.τ).loc Cert.KernelIdeal.main_v57_6) = v6 c
          ∧ r.2.mem ((c.tc : Thread Cert.KernelIdeal.nD Cert.KernelIdeal.τ).loc Cert.KernelIdeal.main_v57_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_v150) = v2 c
          ∧ r.2.mem ((c.tc : Thread Cert.ReferenceIdeal.nD Cert.ReferenceIdeal.τ).loc Cert.ReferenceIdeal.main_v151) = v3 c
          ∧ r.2.mem ((c.tc : Thread Cert.ReferenceIdeal.nD Cert.ReferenceIdeal.τ).loc Cert.ReferenceIdeal.main_v152) = v4 c
          ∧ r.2.mem ((c.tc : Thread Cert.ReferenceIdeal.nD Cert.ReferenceIdeal.τ).loc Cert.ReferenceIdeal.main_v153) = v5 c
          ∧ r.2.mem ((c.tc : Thread Cert.ReferenceIdeal.nD Cert.ReferenceIdeal.τ).loc Cert.ReferenceIdeal.main_v154) = v6 c
          ∧ r.2.mem ((c.tc : Thread Cert.ReferenceIdeal.nD Cert.ReferenceIdeal.τ).loc Cert.ReferenceIdeal.main_v155) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v43) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S4x8192x1024 : Shape := ⟨3, ![4, 8192, 1024]⟩
abbrev S16x1024 : Shape := ⟨2, ![16, 1024]⟩
abbrev S1024 : Shape := ⟨1, ![1024]⟩
abbrev S1024x3328 : Shape := ⟨2, ![1024, 3328]⟩
abbrev S64 : Shape := ⟨1, ![64]⟩
abbrev S_ : Shape := ⟨0, ![]⟩
abbrev S112x1024 : Shape := ⟨2, ![112, 1024]⟩
abbrev S128x1024 : Shape := ⟨2, ![128, 1024]⟩
abbrev S8320 : Shape := ⟨1, ![8320]⟩
abbrev S8320x1 : Shape := ⟨2, ![8320, 1]⟩
abbrev S1x64 : Shape := ⟨2, ![1, 64]⟩
abbrev S8320x64 : Shape := ⟨2, ![8320, 64]⟩
abbrev S8320x128 : Shape := ⟨2, ![8320, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x64 : Shape := ⟨2, ![8, 64]⟩
abbrev S2x64 : Shape := ⟨2, ![2, 64]⟩
abbrev S1x1024 : Shape := ⟨2, ![1, 1024]⟩
abbrev S4x8320x512 : Shape := ⟨3, ![4, 8320, 512]⟩
abbrev S1x640x1024 : Shape := ⟨3, ![1, 640, 1024]⟩
abbrev S640x128 : Shape := ⟨2, ![640, 128]⟩
abbrev S1x640x512 : Shape := ⟨3, ![1, 640, 512]⟩
abbrev S640x1024 : Shape := ⟨2, ![640, 1024]⟩
abbrev S512x1024 : Shape := ⟨2, ![512, 1024]⟩
abbrev S640 : Shape := ⟨1, ![640]⟩
abbrev S640x1 : Shape := ⟨2, ![640, 1]⟩
abbrev S1024x512 : Shape := ⟨2, ![1024, 512]⟩
abbrev S640x512 : Shape := ⟨2, ![640, 512]⟩
abbrev S1024x128 : Shape := ⟨2, ![1024, 128]⟩
abbrev S1x640x128 : Shape := ⟨3, ![1, 640, 128]⟩

abbrev nBuf : Space → Nat
  | .hbm => 153
  | .vmem => 29
  | .smem => 0
  | _ => 0

abbrev hbmTy0_0 (i : Nat) : BufTy := match i % 128 with
  | 0 => ⟨S4x8192x1024, .f32⟩
  | 1 => ⟨S16x1024, .f32⟩
  | 2 => ⟨S1024, .f32⟩
  | 3 => ⟨S1024x3328, .f32⟩
  | 4 => ⟨S64, .f32⟩
  | 5 => ⟨S64, .f32⟩
  | 6 => ⟨S_, .f32⟩
  | 7 => ⟨S112x1024, .f32⟩
  | 8 => ⟨S128x1024, .f32⟩
  | 9 => ⟨S8320, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S8320x1, .f32⟩
  | 25 => ⟨S1x64, .f32⟩
  | 26 => ⟨S8320x64, .f32⟩
  | 27 => ⟨S8320x64, .f32⟩
  | 28 => ⟨S8320x64, .f32⟩
  | 29 => ⟨S8320x64, .f32⟩
  | 30 => ⟨S8320x64, .f32⟩
  | 31 => ⟨S8320x128, .f32⟩
  | 32 => ⟨S8320x64, .f32⟩
  | 33 => ⟨S8320x64, .f32⟩
  | 34 => ⟨S8320x64, .f32⟩
  | 35 => ⟨S8320x128, .f32⟩
  | 36 => ⟨S512, .i32⟩
  | 37 => ⟨S512x1, .i32⟩
  | 38 => ⟨S_, .i32⟩
  | 39 => ⟨S_, .i32⟩
  | 40 => ⟨S512x1, .i32⟩
  | 41 => ⟨S512x1, .i32⟩
  | 42 => ⟨S512x1, .i32⟩
  | 43 => ⟨S_, .i32⟩
  | 44 => ⟨S512x1, .i32⟩
  | 45 => ⟨S512x1, .i1⟩
  | 46 => ⟨S512x1, .i32⟩
  | 47 => ⟨S512x1, .i32⟩
  | 48 => ⟨S_, .i32⟩
  | 49 => ⟨S512x1, .i32⟩
  | 50 => ⟨S512x1, .i1⟩
  | 51 => ⟨S512x1, .i1⟩
  | 52 => ⟨S_, .i32⟩
  | 53 => ⟨S512x1, .i32⟩
  | 54 => ⟨S512x1, .i32⟩
  | 55 => ⟨S512x1, .i32⟩
  | 56 => ⟨S1x512, .i32⟩
  | 57 => ⟨S_, .i32⟩
  | 58 => ⟨S_, .i32⟩
  | 59 => ⟨S1x512, .i32⟩
  | 60 => ⟨S1x512, .i32⟩
  | 61 => ⟨S1x512, .i32⟩
  | 62 => ⟨S_, .i32⟩
  | 63 => ⟨S1x512, .i32⟩
  | 64 => ⟨S1x512, .i1⟩
  | 65 => ⟨S1x512, .i32⟩
  | 66 => ⟨S1x512, .i32⟩
  | 67 => ⟨S_, .i32⟩
  | 68 => ⟨S1x512, .i32⟩
  | 69 => ⟨S1x512, .i1⟩
  | 70 => ⟨S1x512, .i1⟩
  | 71 => ⟨S_, .i32⟩
  | 72 => ⟨S1x512, .i32⟩
  | 73 => ⟨S1x512, .i32⟩
  | 74 => ⟨S1x512, .i32⟩
  | 75 => ⟨S512x512, .i32⟩
  | 76 => ⟨S512x512, .i32⟩
  | 77 => ⟨S512x512, .i1⟩
  | 78 => ⟨S_, .f32⟩
  | 79 => ⟨S_, .f32⟩
  | 80 => ⟨S512x512, .f32⟩
  | 81 => ⟨S512x512, .f32⟩
  | 82 => ⟨S512x512, .f32⟩
  | 83 => ⟨S512x512, .bf16⟩
  | 84 => ⟨S128, .i32⟩
  | 85 => ⟨S128x1, .i32⟩
  | 86 => ⟨S_, .i32⟩
  | 87 => ⟨S_, .i32⟩
  | 88 => ⟨S128x1, .i32⟩
  | 89 => ⟨S128x1, .i32⟩
  | 90 => ⟨S128x1, .i32⟩
  | 91 => ⟨S_, .i32⟩
  | 92 => ⟨S128x1, .i32⟩
  | 93 => ⟨S128x1, .i1⟩
  | 94 => ⟨S128x1, .i32⟩
  | 95 => ⟨S128x1, .i32⟩
  | 96 => ⟨S_, .i32⟩
  | 97 => ⟨S128x1, .i32⟩
  | 98 => ⟨S128x1, .i1⟩
  | 99 => ⟨S128x1, .i1⟩
  | 100 => ⟨S_, .i32⟩
  | 101 => ⟨S128x1, .i32⟩
  | 102 => ⟨S128x1, .i32⟩
  | 103 => ⟨S128x1, .i32⟩
  | 104 => ⟨S1x128, .i32⟩
  | 105 => ⟨S_, .i32⟩
  | 106 => ⟨S_, .i32⟩
  | 107 => ⟨S1x128, .i32⟩
  | 108 => ⟨S1x128, .i32⟩
  | 109 => ⟨S1x128, .i32⟩
  | 110 => ⟨S_, .i32⟩
  | 111 => ⟨S1x128, .i32⟩
  | 112 => ⟨S1x128, .i1⟩
  | 113 => ⟨S1x128, .i32⟩
  | 114 => ⟨S1x128, .i32⟩
  | 115 => ⟨S_, .i32⟩
  | 116 => ⟨S1x128, .i32⟩
  | 117 => ⟨S1x128, .i1⟩
  | 118 => ⟨S1x128, .i1⟩
  | 119 => ⟨S_, .i32⟩
  | 120 => ⟨S1x128, .i32⟩
  | 121 => ⟨S1x128, .i32⟩
  | 122 => ⟨S1x128, .i32⟩
  | 123 => ⟨S128x128, .i32⟩
  | 124 => ⟨S128x128, .i32⟩
  | 125 => ⟨S128x128, .i1⟩
  | 126 => ⟨S_, .f32⟩
  | 127 => ⟨S_, .f32⟩
  | _ => ⟨S4x8192x1024, .f32⟩

abbrev hbmTy0_1 (i : Nat) : BufTy := match i % 128 with
  | 0 => ⟨S128x128, .f32⟩
  | 1 => ⟨S128x128, .f32⟩
  | 2 => ⟨S128x128, .f32⟩
  | 3 => ⟨S128x128, .bf16⟩
  | 4 => ⟨S1x64, .f32⟩
  | 5 => ⟨S8x64, .f32⟩
  | 6 => ⟨S512, .f32⟩
  | 7 => ⟨S_, .f32⟩
  | 8 => ⟨S512, .f32⟩
  | 9 => ⟨S512, .f32⟩
  | 10 => ⟨S1x512, .f32⟩
  | 11 => ⟨S1x64, .f32⟩
  | 12 => ⟨S2x64, .f32⟩
  | 13 => ⟨S128, .f32⟩
  | 14 => ⟨S1x128, .f32⟩
  | 15 => ⟨S1x1024, .f32⟩
  | 16 => ⟨S1024x3328, .bf16⟩
  | 17 => ⟨S4x8320x512, .bf16⟩
  | 18 => ⟨S4x8320x512, .bf16⟩
  | 19 => ⟨S4x8320x512, .bf16⟩
  | 20 => ⟨S4x8320x512, .bf16⟩
  | 21 => ⟨S4x8320x512, .bf16⟩
  | 22 => ⟨S4x8320x512, .bf16⟩
  | 23 => ⟨S4x8320x512, .bf16⟩
  | 24 => ⟨S4x8320x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S1x640x1024, .f32⟩
  | .local _ .vmem, ⟨1, _⟩ => ⟨S1x640x1024, .f32⟩
  | .local _ .vmem, ⟨2, _⟩ => ⟨S128x1024, .f32⟩
  | .local _ .vmem, ⟨3, _⟩ => ⟨S1x1024, .f32⟩
  | .local _ .vmem, ⟨4, _⟩ => ⟨S1024x3328, .bf16⟩
  | .local _ .vmem, ⟨5, _⟩ => ⟨S640x128, .f32⟩
  | .local _ .vmem, ⟨6, _⟩ => ⟨S640x128, .f32⟩
  | .local _ .vmem, ⟨7, _⟩ => ⟨S640x128, .f32⟩
  | .local _ .vmem, ⟨8, _⟩ => ⟨S640x128, .f32⟩
  | .local _ .vmem, ⟨9, _⟩ => ⟨S1x512, .f32⟩
  | .local _ .vmem, ⟨10, _⟩ => ⟨S1x128, .f32⟩
  | .local _ .vmem, ⟨11, _⟩ => ⟨S512x512, .bf16⟩
  | .local _ .vmem, ⟨12, _⟩ => ⟨S128x128, .bf16⟩
  | .local _ .vmem, ⟨13, _⟩ => ⟨S1x640x512, .bf16⟩
  | .local _ .vmem, ⟨14, _⟩ => ⟨S1x640x512, .bf16⟩
  | .local _ .vmem, ⟨15, _⟩ => ⟨S1x640x512, .bf16⟩
  | .local _ .vmem, ⟨16, _⟩ => ⟨S1x640x512, .bf16⟩
  | .local _ .vmem, ⟨17, _⟩ => ⟨S1x640x512, .bf16⟩
  | .local _ .vmem, ⟨18, _⟩ => ⟨S1x640x512, .bf16⟩
  | .local _ .vmem, ⟨19, _⟩ => ⟨S1x640x512, .bf16⟩
  | .local _ .vmem, ⟨20, _⟩ => ⟨S1x640x512, .bf16⟩
  | .local _ .vmem, ⟨21, _⟩ => ⟨S1x640x512, .bf16⟩
  | .local _ .vmem, ⟨22, _⟩ => ⟨S1x640x512, .bf16⟩
  | .local _ .vmem, ⟨23, _⟩ => ⟨S1x640x512, .bf16⟩
  | .local _ .vmem, ⟨24, _⟩ => ⟨S1x640x512, .bf16⟩
  | .local _ .vmem, ⟨25, _⟩ => ⟨S1x640x512, .bf16⟩
  | .local _ .vmem, ⟨26, _⟩ => ⟨S1x640x512, .bf16⟩
  | .local _ .vmem, ⟨27, _⟩ => ⟨S1x640x512, .bf16⟩
  | .local _ .vmem, ⟨28, _⟩ => ⟨S1x640x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v27 : Ref sig .tc := ⟨.hbm, 55, rfl⟩
abbrev main_v28 : Ref sig .tc := ⟨.hbm, 56, rfl⟩
abbrev main_c_4 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_c : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_0 : Ref sig .tc := ⟨.hbm, 71, rfl⟩
abbrev main_call1_v12 : Ref sig .tc := ⟨.hbm, 72, rfl⟩
abbrev main_call1_v13 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_cst_5 : Ref sig .tc := ⟨.hbm, 78, rfl⟩
abbrev main_cst_6 : Ref sig .tc := ⟨.hbm, 79, rfl⟩
abbrev main_call2_v0 : Ref sig .tc := ⟨.hbm, 80, rfl⟩
abbrev main_call2_v1 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_c_7 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_c : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_c_0 : Ref sig .tc := ⟨.hbm, 100, rfl⟩
abbrev main_call3_v12 : Ref sig .tc := ⟨.hbm, 101, rfl⟩
abbrev main_call3_v13 : Ref sig .tc := ⟨.hbm, 102, rfl⟩
abbrev main_v37 : Ref sig .tc := ⟨.hbm, 103, rfl⟩
abbrev main_v38 : Ref sig .tc := ⟨.hbm, 104, rfl⟩
abbrev main_c_8 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_v6 : Ref sig .tc := ⟨.hbm, 112, rfl⟩
abbrev main_call4_v7 : Ref sig .tc := ⟨.hbm, 113, rfl⟩
abbrev main_call4_v8 : Ref sig .tc := ⟨.hbm, 114, rfl⟩
abbrev main_call4_c : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_c_0 : Ref sig .tc := ⟨.hbm, 119, rfl⟩
abbrev main_call4_v12 : Ref sig .tc := ⟨.hbm, 120, rfl⟩
abbrev main_call4_v13 : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_v42 : Ref sig .tc := ⟨.hbm, 125, rfl⟩
abbrev main_cst_9 : Ref sig .tc := ⟨.hbm, 126, rfl⟩
abbrev main_cst_10 : Ref sig .tc := ⟨.hbm, 127, rfl⟩
abbrev main_call5_v0 : Ref sig .tc := ⟨.hbm, 128, rfl⟩
abbrev main_call5_v1 : Ref sig .tc := ⟨.hbm, 129, rfl⟩
abbrev main_v43 : Ref sig .tc := ⟨.hbm, 130, rfl⟩
abbrev main_v44 : Ref sig .tc := ⟨.hbm, 131, rfl⟩
abbrev main_v45 : Ref sig .tc := ⟨.hbm, 132, rfl⟩
abbrev main_v46 : Ref sig .tc := ⟨.hbm, 133, rfl⟩
abbrev main_v47 : Ref sig .tc := ⟨.hbm, 134, rfl⟩
abbrev main_cst_11 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_v53 : Ref sig .tc := ⟨.hbm, 141, rfl⟩
abbrev main_v54 : Ref sig .tc := ⟨.hbm, 142, rfl⟩
abbrev main_v55 : Ref sig .tc := ⟨.hbm, 143, rfl⟩
abbrev main_v56 : Ref sig .tc := ⟨.hbm, 144, rfl⟩
abbrev main_v57_0 : Ref sig .tc := ⟨.hbm, 145, rfl⟩
abbrev main_v57_1 : Ref sig .tc := ⟨.hbm, 146, rfl⟩
abbrev main_v57_2 : Ref sig .tc := ⟨.hbm, 147, rfl⟩
abbrev main_v57_3 : Ref sig .tc := ⟨.hbm, 148, rfl⟩
abbrev main_v57_4 : Ref sig .tc := ⟨.hbm, 149, rfl⟩
abbrev main_v57_5 : Ref sig .tc := ⟨.hbm, 150, rfl⟩
abbrev main_v57_6 : Ref sig .tc := ⟨.hbm, 151, rfl⟩
abbrev main_v57_7 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![4, 13], ![false, false]⟩

def k0_mult1 (i : grid0.Coords) : BitVec 32 :=
  let arg1 : BitVec 32 := BitVec.ofNat 32 (i 1).val
  let c640_i32 : BitVec 32 := 640#32
  let v0 : BitVec 32 := Scalar.muli arg1 c640_i32
  let c128_i32 : BitVec 32 := 128#32
  let v1 : BitVec 32 := Scalar.subi v0 c128_i32
  let c0_i32 : BitVec 32 := 0#32
  let v2 : BitVec 32 := Scalar.maxsi v1 c0_i32
  v2
def cc0_transform_0 (i : grid0.Coords) : Fin 3 → Nat :=
  let arg0 : BitVec 32 := BitVec.ofNat 32 (i 0).val
  let arg1 : BitVec 32 := BitVec.ofNat 32 (i 1).val
  let c640_i32 : BitVec 32 := 640#32
  let v0 : BitVec 32 := Scalar.muli arg1 c640_i32
  let c128_i32 : BitVec 32 := 128#32
  let v1 : BitVec 32 := Scalar.subi v0 c128_i32
  let c0_i32 : BitVec 32 := 0#32
  let v2 : BitVec 32 := Scalar.maxsi v1 c0_i32
  let v3 : BitVec 32 := v2
  let c0_i32_0 : BitVec 32 := 0#32
  let c0_i32_1 : BitVec 32 := 0#32
  ![arg0.toNat, v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3328 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S640x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x640x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x640x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x640x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x640x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x640x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x640x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x640x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x640x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== KernelIdeal.lean ====
variable {F : FTy → Type} [FloatOps F] [Named F]
def κ : String → Option EReal := fun
  | "kScale" => some (((Real.sqrt 128)⁻¹ : ℝ) : EReal)
  | _ => none
-- ==== ReferenceIdeal.lean ====
abbrev S4x8192x1024 : Shape := ⟨3, ![4, 8192, 1024]⟩
abbrev S16x1024 : Shape := ⟨2, ![16, 1024]⟩
abbrev S1024 : Shape := ⟨1, ![1024]⟩
abbrev S1024x3328 : Shape := ⟨2, ![1024, 3328]⟩
abbrev S64 : Shape := ⟨1, ![64]⟩
abbrev S1x16x1024 : Shape := ⟨3, ![1, 16, 1024]⟩
abbrev S4x16x1024 : Shape := ⟨3, ![4, 16, 1024]⟩
abbrev S4x8208x1024 : Shape := ⟨3, ![4, 8208, 1024]⟩
abbrev S_ : Shape := ⟨0, ![]⟩
abbrev S4x8208 : Shape := ⟨2, ![4, 8208]⟩
abbrev S4x8208x1 : Shape := ⟨3, ![4, 8208, 1]⟩
abbrev S1x1x1024 : Shape := ⟨3, ![1, 1, 1024]⟩
abbrev S4x8208x3328 : Shape := ⟨3, ![4, 8208, 3328]⟩
abbrev S4x8320x3328 : Shape := ⟨3, ![4, 8320, 3328]⟩
abbrev S8320 : Shape := ⟨1, ![8320]⟩
abbrev S1x8320x1 : Shape := ⟨3, ![1, 8320, 1]⟩
abbrev S4x8320x512 : Shape := ⟨3, ![4, 8320, 512]⟩
abbrev S4x8320x128 : Shape := ⟨3, ![4, 8320, 128]⟩
abbrev S4x8320x8x64 : Shape := ⟨4, ![4, 8320, 8, 64]⟩
abbrev S4x8320x8 : Shape := ⟨3, ![4, 8320, 8]⟩
abbrev S4x8320x8x1 : Shape := ⟨4, ![4, 8320, 8, 1]⟩
abbrev S1x1x1x64 : Shape := ⟨4, ![1, 1, 1, 64]⟩
abbrev S4x8320x2x64 : Shape := ⟨4, ![4, 8320, 2, 64]⟩
abbrev S4x8320x2 : Shape := ⟨3, ![4, 8320, 2]⟩
abbrev S4x8320x2x1 : Shape := ⟨4, ![4, 8320, 2, 1]⟩
abbrev S4x8320x4x128 : Shape := ⟨4, ![4, 8320, 4, 128]⟩
abbrev S8320x1 : Shape := ⟨2, ![8320, 1]⟩
abbrev S1x64 : Shape := ⟨2, ![1, 64]⟩
abbrev S8320x64 : Shape := ⟨2, ![8320, 64]⟩
abbrev S1x8320x1x64 : Shape := ⟨4, ![1, 8320, 1, 64]⟩
abbrev S4x8320x4x64 : Shape := ⟨4, ![4, 8320, 4, 64]⟩
abbrev S4x8320x64 : Shape := ⟨3, ![4, 8320, 64]⟩

abbrev nBuf : Space → Nat
  | .hbm => 186
  | .vmem => 0
  | .smem => 0
  | _ => 0

abbrev hbmTy0_0 (i : Nat) : BufTy := match i % 128 with
  | 0 => ⟨S4x8192x1024, .f32⟩
  | 1 => ⟨S16x1024, .f32⟩
  | 2 => ⟨S1024, .f32⟩
  | 3 => ⟨S1024x3328, .f32⟩
  | 4 => ⟨S64, .f32⟩
  | 5 => ⟨S64, .f32⟩
  | 6 => ⟨S1x16x1024, .f32⟩
  | 7 => ⟨S4x16x1024, .f32⟩
  | 8 => ⟨S4x8208x1024, .f32⟩
  | 9 => ⟨S4x8208x1024, .f32⟩
  | 10 => ⟨S_, .f32⟩
  | 11 => ⟨S4x8208, .f32⟩
  | 12 => ⟨S4x8208x1, .f32⟩
  | 13 => ⟨S_, .f32⟩
  | 14 => ⟨S4x8208x1, .f32⟩
  | 15 => ⟨S4x8208x1, .f32⟩
  | 16 => ⟨S_, .f32⟩
  | 17 => ⟨S4x8208x1, .f32⟩
  | 18 => ⟨S4x8208x1, .f32⟩
  | 19 => ⟨S4x8208x1, .f32⟩
  | 20 => ⟨S4x8208x1024, .f32⟩
  | 21 => ⟨S4x8208x1024, .f32⟩
  | 22 => ⟨S1x1x1024, .f32⟩
  | 23 => ⟨S4x8208x1024, .f32⟩
  | 24 => ⟨S4x8208x1024, .f32⟩
  | 25 => ⟨S4x8208x3328, .f32⟩
  | 26 => ⟨S_, .i32⟩
  | 27 => ⟨S_, .f32⟩
  | 28 => ⟨S4x8320x3328, .f32⟩
  | 29 => ⟨S8320, .i32⟩
  | 30 => ⟨S_, .i32⟩
  | 31 => ⟨S8320, .i32⟩
  | 32 => ⟨S8320, .i1⟩
  | 33 => ⟨S8320, .f32⟩
  | 34 => ⟨S1x8320x1, .f32⟩
  | 35 => ⟨S4x8320x512, .f32⟩
  | 36 => ⟨S4x8320x128, .f32⟩
  | 37 => ⟨S4x8320x128, .f32⟩
  | 38 => ⟨S4x8320x512, .f32⟩
  | 39 => ⟨S4x8320x512, .f32⟩
  | 40 => ⟨S4x8320x512, .f32⟩
  | 41 => ⟨S4x8320x512, .f32⟩
  | 42 => ⟨S4x8320x512, .f32⟩
  | 43 => ⟨S4x8320x8x64, .f32⟩
  | 44 => ⟨S4x8320x8x64, .f32⟩
  | 45 => ⟨S_, .f32⟩
  | 46 => ⟨S4x8320x8, .f32⟩
  | 47 => ⟨S4x8320x8x1, .f32⟩
  | 48 => ⟨S_, .f32⟩
  | 49 => ⟨S4x8320x8x1, .f32⟩
  | 50 => ⟨S4x8320x8x1, .f32⟩
  | 51 => ⟨S_, .f32⟩
  | 52 => ⟨S4x8320x8x1, .f32⟩
  | 53 => ⟨S4x8320x8x1, .f32⟩
  | 54 => ⟨S4x8320x8x1, .f32⟩
  | 55 => ⟨S4x8320x8x64, .f32⟩
  | 56 => ⟨S4x8320x8x64, .f32⟩
  | 57 => ⟨S1x1x1x64, .f32⟩
  | 58 => ⟨S4x8320x8x64, .f32⟩
  | 59 => ⟨S4x8320x8x64, .f32⟩
  | 60 => ⟨S4x8320x512, .f32⟩
  | 61 => ⟨S_, .f32⟩
  | 62 => ⟨S4x8320x512, .f32⟩
  | 63 => ⟨S4x8320x512, .f32⟩
  | 64 => ⟨S4x8320x2x64, .f32⟩
  | 65 => ⟨S4x8320x2x64, .f32⟩
  | 66 => ⟨S_, .f32⟩
  | 67 => ⟨S4x8320x2, .f32⟩
  | 68 => ⟨S4x8320x2x1, .f32⟩
  | 69 => ⟨S_, .f32⟩
  | 70 => ⟨S4x8320x2x1, .f32⟩
  | 71 => ⟨S4x8320x2x1, .f32⟩
  | 72 => ⟨S_, .f32⟩
  | 73 => ⟨S4x8320x2x1, .f32⟩
  | 74 => ⟨S4x8320x2x1, .f32⟩
  | 75 => ⟨S4x8320x2x1, .f32⟩
  | 76 => ⟨S4x8320x2x64, .f32⟩
  | 77 => ⟨S4x8320x2x64, .f32⟩
  | 78 => ⟨S1x1x1x64, .f32⟩
  | 79 => ⟨S4x8320x2x64, .f32⟩
  | 80 => ⟨S4x8320x2x64, .f32⟩
  | 81 => ⟨S4x8320x128, .f32⟩
  | 82 => ⟨S4x8320x4x128, .f32⟩
  | 83 => ⟨S64, .f32⟩
  | 84 => ⟨S_, .f32⟩
  | 85 => ⟨S64, .f32⟩
  | 86 => ⟨S64, .f32⟩
  | 87 => ⟨S_, .f32⟩
  | 88 => ⟨S64, .f32⟩
  | 89 => ⟨S64, .f32⟩
  | 90 => ⟨S64, .f32⟩
  | 91 => ⟨S_, .f32⟩
  | 92 => ⟨S64, .f32⟩
  | 93 => ⟨S64, .f32⟩
  | 94 => ⟨S_, .f32⟩
  | 95 => ⟨S64, .f32⟩
  | 96 => ⟨S64, .f32⟩
  | 97 => ⟨S8320, .f32⟩
  | 98 => ⟨S8320x1, .f32⟩
  | 99 => ⟨S1x64, .f32⟩
  | 100 => ⟨S8320x64, .f32⟩
  | 101 => ⟨S8320x64, .f32⟩
  | 102 => ⟨S8320x64, .f32⟩
  | 103 => ⟨S8320x64, .f32⟩
  | 104 => ⟨S1x8320x1x64, .f32⟩
  | 105 => ⟨S8320x64, .f32⟩
  | 106 => ⟨S1x8320x1x64, .f32⟩
  | 107 => ⟨S4x8320x4x64, .f32⟩
  | 108 => ⟨S4x8320x4x64, .f32⟩
  | 109 => ⟨S4x8320x4x64, .f32⟩
  | 110 => ⟨S4x8320x4x64, .f32⟩
  | 111 => ⟨S4x8320x4x64, .f32⟩
  | 112 => ⟨S4x8320x4x64, .f32⟩
  | 113 => ⟨S4x8320x4x64, .f32⟩
  | 114 => ⟨S4x8320x4x64, .f32⟩
  | 115 => ⟨S4x8320x4x64, .f32⟩
  | 116 => ⟨S4x8320x4x64, .f32⟩
  | 117 => ⟨S4x8320x4x64, .f32⟩
  | 118 => ⟨S4x8320x4x64, .f32⟩
  | 119 => ⟨S4x8320x4x128, .f32⟩
  | 120 => ⟨S4x8320x512, .f32⟩
  | 121 => ⟨S4x8320x4x128, .f32⟩
  | 122 => ⟨S64, .f32⟩
  | 123 => ⟨S_, .f32⟩
  | 124 => ⟨S64, .f32⟩
  | 125 => ⟨S64, .f32⟩
  | 126 => ⟨S_, .f32⟩
  | 127 => ⟨S64, .f32⟩
  | _ => ⟨S4x8192x1024, .f32⟩

abbrev hbmTy0_1 (i : Nat) : BufTy := match i % 128 with
  | 0 => ⟨S64, .f32⟩
  | 1 => ⟨S64, .f32⟩
  | 2 => ⟨S_, .f32⟩
  | 3 => ⟨S64, .f32⟩
  | 4 => ⟨S64, .f32⟩
  | 5 => ⟨S_, .f32⟩
  | 6 => ⟨S64, .f32⟩
  | 7 => ⟨S64, .f32⟩
  | 8 => ⟨S8320, .f32⟩
  | 9 => ⟨S8320x1, .f32⟩
  | 10 => ⟨S1x64, .f32⟩
  | 11 => ⟨S8320x64, .f32⟩
  | 12 => ⟨S8320x64, .f32⟩
  | 13 => ⟨S8320x64, .f32⟩
  | 14 => ⟨S8320x64, .f32⟩
  | 15 => ⟨S1x8320x1x64, .f32⟩
  | 16 => ⟨S8320x64, .f32⟩
  | 17 => ⟨S1x8320x1x64, .f32⟩
  | 18 => ⟨S4x8320x4x64, .f32⟩
  | 19 => ⟨S4x8320x4x64, .f32⟩
  | 20 => ⟨S4x8320x4x64, .f32⟩
  | 21 => ⟨S4x8320x4x64, .f32⟩
  | 22 => ⟨S4x8320x4x64, .f32⟩
  | 23 => ⟨S4x8320x4x64, .f32⟩
  | 24 => ⟨S4x8320x4x64, .f32⟩
  | 25 => ⟨S4x8320x4x64, .f32⟩
  | 26 => ⟨S4x8320x4x64, .f32⟩
  | 27 => ⟨S4x8320x4x64, .f32⟩
  | 28 => ⟨S4x8320x4x64, .f32⟩
  | 29 => ⟨S4x8320x4x64, .f32⟩
  | 30 => ⟨S4x8320x4x128, .f32⟩
  | 31 => ⟨S4x8320x512, .f32⟩
  | 32 => ⟨S_, .f32⟩
  | 33 => ⟨S_, .f32⟩
  | 34 => ⟨S4x8320x512, .f32⟩
  | 35 => ⟨S4x8320x512, .f32⟩
  | 36 => ⟨S4x8320x512, .f32⟩
  | 37 => ⟨S4x8320x512, .f32⟩
  | 38 => ⟨S4x8320x64, .f32⟩
  | 39 => ⟨S4x8320x64, .f32⟩
  | 40 => ⟨S_, .f32⟩
  | 41 => ⟨S4x8320x64, .f32⟩
  | 42 => ⟨S4x8320x512, .f32⟩
  | 43 => ⟨S4x8320x64, .f32⟩
  | 44 => ⟨S4x8320x64, .f32⟩
  | 45 => ⟨S_, .f32⟩
  | 46 => ⟨S4x8320x64, .f32⟩
  | 47 => ⟨S4x8320x512, .f32⟩
  | 48 => ⟨S4x8320x512, .f32⟩
  | 49 => ⟨S4x8320x512, .f32⟩
  | 50 => ⟨S4x8320x512, .bf16⟩
  | 51 => ⟨S4x8320x512, .bf16⟩
  | 52 => ⟨S4x8320x512, .bf16⟩
  | 53 => ⟨S4x8320x512, .bf16⟩
  | 54 => ⟨S4x8320x512, .bf16⟩
  | 55 => ⟨S4x8320x512, .bf16⟩
  | 56 => ⟨S4x8320x512, .bf16⟩
  | 57 => ⟨S4x8320x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_10 : Ref sig .tc := ⟨.hbm, 84, rfl⟩
abbrev main_v65 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_cst_13 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_cst_14 : Ref sig .tc := ⟨.hbm, 123, rfl⟩
abbrev main_v100 : Ref sig .tc := ⟨.hbm, 124, rfl⟩
abbrev main_v101 : Ref sig .tc := ⟨.hbm, 125, rfl⟩
abbrev main_cst_15 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_cst_16 : Ref sig .tc := ⟨.hbm, 130, rfl⟩
abbrev main_v105 : Ref sig .tc := ⟨.hbm, 131, rfl⟩
abbrev main_v106 : Ref sig .tc := ⟨.hbm, 132, rfl⟩
abbrev main_cst_17 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_cst_18 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_cst_19 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_cst_20 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩

abbrev nD : Nat := 1
abbrev τ : Topo := Topo.v7x

variable {F : FTy → Type} [FloatOps F]
-- ==== Kernel2.lean ====
abbrev S4x16x1040x1024 : Shape := ⟨4, ![4, 16, 1040, 1024]⟩
abbrev S4x16x1024x2816 : Shape := ⟨4, ![4, 16, 1024, 2816]⟩
abbrev S4x16x2816x1024 : Shape := ⟨4, ![4, 16, 2816, 1024]⟩
abbrev S2x1x1040x1024 : Shape := ⟨4, ![2, 1, 1040, 1024]⟩
abbrev S1x1x1024x256 : Shape := ⟨4, ![1, 1, 1024, 256]⟩
abbrev S1x1x256x1024 : Shape := ⟨4, ![1, 1, 256, 1024]⟩
abbrev S2080x2816 : Shape := ⟨2, ![2080, 2816]⟩
abbrev S2816x1024 : Shape := ⟨2, ![2816, 1024]⟩
abbrev S1024x256 : Shape := ⟨2, ![1024, 256]⟩
abbrev S1x1x1040x1024 : Shape := ⟨4, ![1, 1, 1040, 1024]⟩
abbrev S1040x1024 : Shape := ⟨2, ![1040, 1024]⟩
abbrev S1040x256 : Shape := ⟨2, ![1040, 256]⟩
abbrev S256x1024 : Shape := ⟨2, ![256, 1024]⟩
abbrev S1040x2816 : Shape := ⟨2, ![1040, 2816]⟩

abbrev nBuf : Space → Nat
  | .hbm => 5
  | .vmem => 12
  | .smem => 0
  | _ => 0

abbrev bufTy : (tb : Table) → Fin (tcTables nBuf tb) → BufTy
  | .hbm, ⟨0, _⟩ => ⟨S4x16x1040x1024, .bf16⟩
  | .hbm, ⟨1, _⟩ => ⟨S4x16x1024x2816, .f32⟩
  | .hbm, ⟨2, _⟩ => ⟨S4x16x1024x2816, .f32⟩
  | .hbm, ⟨3, _⟩ => ⟨S4x16x2816x1024, .f32⟩
  | .hbm, ⟨4, _⟩ => ⟨S4x16x1040x1024, .bf16⟩
  | .local _ .vmem, ⟨0, _⟩ => ⟨S2x1x1040x1024, .bf16⟩
  | .local _ .vmem, ⟨1, _⟩ => ⟨S2x1x1040x1024, .bf16⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S2x1x1040x1024, .bf16⟩
  | .local _ .vmem, ⟨9, _⟩ => ⟨S2x1x1040x1024, .bf16⟩
  | .local _ .vmem, ⟨10, _⟩ => ⟨S2080x2816, .bf16⟩
  | .local _ .vmem, ⟨11, _⟩ => ⟨S2816x1024, .bf16⟩
  | _, _ => ⟨S4x16x1040x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 11], ![false, false, false]⟩

def k0_mult1 (i : grid0.Coords) : BitVec 32 :=
  let arg2 : BitVec 32 := BitVec.ofNat 32 (i 2).val
  let c256_i32 : BitVec 32 := 256#32
  let v6 : BitVec 32 := Scalar.muli arg2 c256_i32
  v6
def k0_off1 (i : grid0.Coords) : Fin 2 → Nat :=
  let c0_12 : Index := 0#32
  let arg2 : BitVec 32 := BitVec.ofNat 32 (i 2).val
  let c256_i32 : BitVec 32 := 256#32
  let v6 : BitVec 32 := Scalar.muli arg2 c256_i32
  let v7 : BitVec 32 := v6
  let v16 : Index := Scalar.indexCast v7
  ![0, v16.toNat]
def k0_off2 (i : grid0.Coords) : Fin 2 → Nat :=
  let c1040 : Index := 1040#32
  let arg2 : BitVec 32 := BitVec.ofNat 32 (i 2).val
  let c256_i32 : BitVec 32 := 256#32
  let v6 : BitVec 32 := Scalar.muli arg2 c256_i32
  let v7 : BitVec 32 := v6
  let v28 : Index := Scalar.indexCast v7
  ![1040, v28.toNat]
def k0_off3 (i : grid0.Coords) : Fin 2 → Nat :=
  let arg2 : BitVec 32 := BitVec.ofNat 32 (i 2).val
  let c256_i32 : BitVec 32 := 256#32
  let v6 : BitVec 32 := Scalar.muli arg2 c256_i32
  let v7 : BitVec 32 := v6
  let v35 : Index := Scalar.indexCast v7
  let c0_22 : Index := 0#32
  ![v35.toNat, 0]
def k0_cond1 (i : grid0.Coords) : BitVec 1 :=
  let arg2 : BitVec 32 := BitVec.ofNat 32 (i 2).val
  let c10_i32 : BitVec 32 := 10#32
  let v39 : BitVec 1 := Scalar.cmpi .eq arg2 c10_i32
  let v40 : BitVec 32 := Scalar.extui v39
  let c0_i32 : BitVec 32 := 0#32
  let v41 : BitVec 1 := Scalar.cmpi .ne v40 c0_i32
  v41

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg2.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S2x1x1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S2x1x1040x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference2Ideal.lean ====
abbrev S4x16x1040x1024 : Shape := ⟨4, ![4, 16, 1040, 1024]⟩
abbrev S4x16x1024x2816 : Shape := ⟨4, ![4, 16, 1024, 2816]⟩
abbrev S4x16x2816x1024 : Shape := ⟨4, ![4, 16, 2816, 1024]⟩
abbrev S1x16x1024x2816 : Shape := ⟨4, ![1, 16, 1024, 2816]⟩
abbrev S16x1024x2816 : Shape := ⟨3, ![16, 1024, 2816]⟩
abbrev S16x2816x4x1040 : Shape := ⟨4, ![16, 2816, 4, 1040]⟩
abbrev S4x16x1040x2816 : Shape := ⟨4, ![4, 16, 1040, 2816]⟩
abbrev S_ : Shape := ⟨0, ![]⟩
abbrev S1x16x2816x1024 : Shape := ⟨4, ![1, 16, 2816, 1024]⟩
abbrev S16x2816x1024 : Shape := ⟨3, ![16, 2816, 1024]⟩
abbrev S16x1024x4x1040 : Shape := ⟨4, ![16, 1024, 4, 1040]⟩

abbrev nBuf : Space → Nat
  | .hbm => 28
  | .vmem => 0
  | .smem => 0
  | _ => 0

abbrev bufTy : (tb : Table) → Fin (tcTables nBuf tb) → BufTy
  | .hbm, ⟨0, _⟩ => ⟨S4x16x1040x1024, .bf16⟩
  | .hbm, ⟨1, _⟩ => ⟨S4x16x1024x2816, .f32⟩
  | .hbm, ⟨2, _⟩ => ⟨S4x16x1024x2816, .f32⟩
  | .hbm, ⟨3, _⟩ => ⟨S4x16x2816x1024, .f32⟩
  | .hbm, ⟨4, _⟩ => ⟨S4x16x1040x1024, .f32⟩
  | .hbm, ⟨5, _⟩ => ⟨S1x16x1024x2816, .f32⟩
  | .hbm, ⟨6, _⟩ => ⟨S16x1024x2816, .f32⟩
  | .hbm, ⟨7, _⟩ => ⟨S16x2816x4x1040, .f32⟩
  | .hbm, ⟨8, _⟩ => ⟨S4x16x1040x2816, .f32⟩
  | .hbm, ⟨9, _⟩ => ⟨S1x16x1024x2816, .f32⟩
  | .hbm, ⟨10, _⟩ => ⟨S16x1024x2816, .f32⟩
  | .hbm, ⟨11, _⟩ => ⟨S16x2816x4x1040, .f32⟩
  | .hbm, ⟨12, _⟩ => ⟨S4x16x1040x2816, .f32⟩
  | .hbm, ⟨13, _⟩ => ⟨S4x16x1040x2816, .f32⟩
  | .hbm, ⟨14, _⟩ => ⟨S4x16x1040x2816, .f32⟩
  | .hbm, ⟨15, _⟩ => ⟨S_, .f32⟩
  | .hbm, ⟨16, _⟩ => ⟨S4x16x1040x2816, .f32⟩
  | .hbm, ⟨17, _⟩ => ⟨S4x16x1040x2816, .f32⟩
  | .hbm, ⟨18, _⟩ => ⟨S_, .f32⟩
  | .hbm, ⟨19, _⟩ => ⟨S4x16x1040x2816, .f32⟩
  | .hbm, ⟨20, _⟩ => ⟨S4x16x1040x2816, .f32⟩
  | .hbm, ⟨21, _⟩ => ⟨S4x16x1040x2816, .f32⟩
  | .hbm, ⟨22, _⟩ => ⟨S4x16x1040x2816, .f32⟩
  | .hbm, ⟨23, _⟩ => ⟨S1x16x2816x1024, .f32⟩
  | .hbm, ⟨24, _⟩ => ⟨S16x2816x1024, .f32⟩
  | .hbm, ⟨25, _⟩ => ⟨S16x1024x4x1040, .f32⟩
  | .hbm, ⟨26, _⟩ => ⟨S4x16x1040x1024, .f32⟩
  | .hbm, ⟨27, _⟩ => ⟨S4x16x1040x1024, .bf16⟩
  | _, _ => ⟨S4x16x1040x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Kernel3.lean ====
abbrev S2x4 : Shape := ⟨2, ![2, 4]⟩
abbrev S4x8320x512 : Shape := ⟨3, ![4, 8320, 512]⟩
abbrev S4x65x4x128x128 : Shape := ⟨5, ![4, 65, 4, 128, 128]⟩
abbrev S4x640x512 : Shape := ⟨3, ![4, 640, 512]⟩
abbrev S4x5x4x128x128 : Shape := ⟨5, ![4, 5, 4, 128, 128]⟩
abbrev S4x2x4x128x128 : Shape := ⟨5, ![4, 2, 4, 128, 128]⟩
abbrev S128x1 : Shape := ⟨2, ![128, 1]⟩
abbrev S1x128 : Shape := ⟨2, ![1, 128]⟩
abbrev S1x1 : Shape := ⟨2, ![1, 1]⟩
abbrev S1x1x1x128x128 : Shape := ⟨5, ![1, 1, 1, 128, 128]⟩
abbrev S128x128 : Shape := ⟨2, ![128, 128]⟩
abbrev S1x128x128 : Shape := ⟨3, ![1, 128, 128]⟩

abbrev nBuf : Space → Nat
  | .hbm => 7
  | .vmem => 13
  | .smem => 1
  | _ => 0

abbrev bufTy : (tb : Table) → Fin (tcTables nBuf tb) → BufTy
  | .hbm, ⟨0, _⟩ => ⟨S2x4, .f32⟩
  | .hbm, ⟨1, _⟩ => ⟨S4x8320x512, .bf16⟩
  | .hbm, ⟨2, _⟩ => ⟨S4x8320x512, .bf16⟩
  | .hbm, ⟨3, _⟩ => ⟨S2x4, .f32⟩
  | .hbm, ⟨4, _⟩ => ⟨S2x4, .f32⟩
  | .hbm, ⟨5, _⟩ => ⟨S4x65x4x128x128, .bf16⟩
  | .hbm, ⟨6, _⟩ => ⟨S4x65x4x128x128, .bf16⟩
  | .local _ .vmem, ⟨0, _⟩ => ⟨S4x640x512, .bf16⟩
  | .local _ .vmem, ⟨1, _⟩ => ⟨S4x640x512, .bf16⟩
  | .local _ .vmem, ⟨2, _⟩ => ⟨S4x640x512, .bf16⟩
  | .local _ .vmem, ⟨3, _⟩ => ⟨S4x640x512, .bf16⟩
  | .local _ .vmem, ⟨4, _⟩ => ⟨S4x640x512, .bf16⟩
  | .local _ .vmem, ⟨5, _⟩ => ⟨S4x640x512, .bf16⟩
  | .local _ .vmem, ⟨6, _⟩ => ⟨S4x640x512, .bf16⟩
  | .local _ .vmem, ⟨7, _⟩ => ⟨S4x640x512, .bf16⟩
  | .local _ .vmem, ⟨8, _⟩ => ⟨S4x5x4x128x128, .bf16⟩
  | .local _ .vmem, ⟨9, _⟩ => ⟨S4x5x4x128x128, .bf16⟩
  | .local _ .vmem, ⟨10, _⟩ => ⟨S4x5x4x128x128, .bf16⟩
  | .local _ .vmem, ⟨11, _⟩ => ⟨S4x5x4x128x128, .bf16⟩
  | .local _ .vmem, ⟨12, _⟩ => ⟨S4x2x4x128x128, .f32⟩
  | .local _ .smem, ⟨0, _⟩ => ⟨S2x4, .f32⟩
  | _, _ => ⟨S2x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_6 (i : grid0.Coords) : Fin 5 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v0.toNat, c0_i32_0.toNat, c0_i32_1.toNat, c0_i32_2.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x640x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x5x4x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x5x4x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S2x4 : Shape := ⟨2, ![2, 4]⟩
abbrev S4x8320x512 : Shape := ⟨3, ![4, 8320, 512]⟩
abbrev S4x8320x4x128 : Shape := ⟨4, ![4, 8320, 4, 128]⟩
abbrev S128 : Shape := ⟨1, ![128]⟩
abbrev S2x1x4 : Shape := ⟨3, ![2, 1, 4]⟩
abbrev S_ : Shape := ⟨0, ![]⟩
abbrev S1x128x1 : Shape := ⟨3, ![1, 128, 1]⟩
abbrev S2x128x4 : Shape := ⟨3, ![2, 128, 4]⟩
abbrev S1x4x8320x4x128 : Shape := ⟨5, ![1, 4, 8320, 4, 128]⟩
abbrev S2x4x8320x4x128 : Shape := ⟨5, ![2, 4, 8320, 4, 128]⟩
abbrev S2x4x65x128x4x128 : Shape := ⟨6, ![2, 4, 65, 128, 4, 128]⟩
abbrev S2x1x1x128x4x1 : Shape := ⟨6, ![2, 1, 1, 128, 4, 1]⟩
abbrev S65x2x4x4x128x128 : Shape := ⟨6, ![65, 2, 4, 4, 128, 128]⟩
abbrev S2x4x4x128x128 : Shape := ⟨5, ![2, 4, 4, 128, 128]⟩
abbrev S1x2x4x4x128x128 : Shape := ⟨6, ![1, 2, 4, 4, 128, 128]⟩
abbrev S2x1x4x1x1 : Shape := ⟨5, ![2, 1, 4, 1, 1]⟩
abbrev S65x1x4x4x128x128 : Shape := ⟨6, ![65, 1, 4, 4, 128, 128]⟩
abbrev S65x4x4x128x128 : Shape := ⟨5, ![65, 4, 4, 128, 128]⟩
abbrev S4x65x4x128x128 : Shape := ⟨5, ![4, 65, 4, 128, 128]⟩

abbrev nBuf : Space → Nat
  | .hbm => 78
  | .vmem => 0
  | .smem => 0
  | _ => 0

abbrev bufTy : (tb : Table) → Fin (tcTables nBuf tb) → BufTy
  | .hbm, ⟨0, _⟩ => ⟨S2x4, .f32⟩
  | .hbm, ⟨1, _⟩ => ⟨S4x8320x512, .bf16⟩
  | .hbm, ⟨2, _⟩ => ⟨S4x8320x512, .bf16⟩
  | .hbm, ⟨3, _⟩ => ⟨S4x8320x512, .f32⟩
  | .hbm, ⟨4, _⟩ => ⟨S4x8320x4x128, .f32⟩
  | .hbm, ⟨5, _⟩ => ⟨S4x8320x512, .f32⟩
  | .hbm, ⟨6, _⟩ => ⟨S4x8320x4x128, .f32⟩
  | .hbm, ⟨7, _⟩ => ⟨S2x4, .f32⟩
  | .hbm, ⟨8, _⟩ => ⟨S2x4, .f32⟩
  | .hbm, ⟨9, _⟩ => ⟨S128, .f32⟩
  | .hbm, ⟨10, _⟩ => ⟨S2x1x4, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S1x128x1, .f32⟩
  | .hbm, ⟨15, _⟩ => ⟨S2x128x4, .f32⟩
  | .hbm, ⟨16, _⟩ => ⟨S2x128x4, .f32⟩
  | .hbm, ⟨17, _⟩ => ⟨S2x128x4, .f32⟩
  | .hbm, ⟨18, _⟩ => ⟨S2x128x4, .f32⟩
  | .hbm, ⟨19, _⟩ => ⟨S_, .f32⟩
  | .hbm, ⟨20, _⟩ => ⟨S2x4, .f32⟩
  | .hbm, ⟨21, _⟩ => ⟨S2x4, .f32⟩
  | .hbm, ⟨22, _⟩ => ⟨S2x4, .f32⟩
  | .hbm, ⟨23, _⟩ => ⟨S4x8320x4x128, .f32⟩
  | .hbm, ⟨24, _⟩ => ⟨S1x4x8320x4x128, .f32⟩
  | .hbm, ⟨25, _⟩ => ⟨S1x4x8320x4x128, .f32⟩
  | .hbm, ⟨26, _⟩ => ⟨S2x4x8320x4x128, .f32⟩
  | .hbm, ⟨27, _⟩ => ⟨S2x4x65x128x4x128, .f32⟩
  | .hbm, ⟨28, _⟩ => ⟨S2x1x1x128x4x1, .f32⟩
  | .hbm, ⟨29, _⟩ => ⟨S2x4x65x128x4x128, .f32⟩
  | .hbm, ⟨30, _⟩ => ⟨S2x4x65x128x4x128, .f32⟩
  | .hbm, ⟨31, _⟩ => ⟨S4x8320x4x128, .f32⟩
  | .hbm, ⟨32, _⟩ => ⟨S1x4x8320x4x128, .f32⟩
  | .hbm, ⟨33, _⟩ => ⟨S1x4x8320x4x128, .f32⟩
  | .hbm, ⟨34, _⟩ => ⟨S2x4x8320x4x128, .f32⟩
  | .hbm, ⟨35, _⟩ => ⟨S2x4x65x128x4x128, .f32⟩
  | .hbm, ⟨36, _⟩ => ⟨S65x2x4x4x128x128, .f32⟩
  | .hbm, ⟨37, _⟩ => ⟨S_, .f32⟩
  | .hbm, ⟨38, _⟩ => ⟨S2x4x4x128x128, .f32⟩
  | .hbm, ⟨39, _⟩ => ⟨S_, .f32⟩
  | .hbm, ⟨40, _⟩ => ⟨S65x2x4x4x128x128, .f32⟩
  | .hbm, ⟨41, _⟩ => ⟨S_, .i32⟩
  | .hbm, ⟨42, _⟩ => ⟨S65x2x4x4x128x128, .f32⟩
  | .hbm, ⟨43, _⟩ => ⟨S2x4, .f32⟩
  | .hbm, ⟨44, _⟩ => ⟨S_, .i32⟩
  | .hbm, ⟨45, _⟩ => ⟨S2x4x4x128x128, .f32⟩
  | .hbm, ⟨46, _⟩ => ⟨S65x2x4x4x128x128, .f32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S1x2x4x4x128x128, .f32⟩
  | .hbm, ⟨55, _⟩ => ⟨S2x4x4x128x128, .f32⟩
  | .hbm, ⟨56, _⟩ => ⟨S2x1x4x1x1, .f32⟩
  | .hbm, ⟨57, _⟩ => ⟨S2x4x4x128x128, .f32⟩
  | .hbm, ⟨58, _⟩ => ⟨S2x4x4x128x128, .f32⟩
  | .hbm, ⟨59, _⟩ => ⟨S2x4x4x128x128, .f32⟩
  | .hbm, ⟨60, _⟩ => ⟨S1x2x4x4x128x128, .f32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S65x2x4x4x128x128, .f32⟩
  | .hbm, ⟨67, _⟩ => ⟨S_, .i32⟩
  | .hbm, ⟨68, _⟩ => ⟨S_, .i32⟩
  | .hbm, ⟨69, _⟩ => ⟨S65x1x4x4x128x128, .f32⟩
  | .hbm, ⟨70, _⟩ => ⟨S65x4x4x128x128, .f32⟩
  | .hbm, ⟨71, _⟩ => ⟨S4x65x4x128x128, .f32⟩
  | .hbm, ⟨72, _⟩ => ⟨S65x1x4x4x128x128, .f32⟩
  | .hbm, ⟨73, _⟩ => ⟨S65x4x4x128x128, .f32⟩
  | .hbm, ⟨74, _⟩ => ⟨S4x65x4x128x128, .f32⟩
  | .hbm, ⟨75, _⟩ => ⟨S4x65x4x128x128, .f32⟩
  | .hbm, ⟨76, _⟩ => ⟨S4x65x4x128x128, .bf16⟩
  | .hbm, ⟨77, _⟩ => ⟨S4x65x4x128x128, .bf16⟩
  | _, _ => ⟨S2x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_c : Ref sig .tc := ⟨.hbm, 41, rfl⟩
abbrev main_v34_0 : Ref sig .tc := ⟨.hbm, 42, rfl⟩
abbrev main_v34_1 : Ref sig .tc := ⟨.hbm, 43, rfl⟩
abbrev main_v34_2 : Ref sig .tc := ⟨.hbm, 44, rfl⟩
abbrev main_v34_3 : Ref sig .tc := ⟨.hbm, 45, rfl⟩
abbrev main_v34_4 : Ref sig .tc := ⟨.hbm, 46, rfl⟩
abbrev main_while0c_c_7 : Ref sig .tc := ⟨.hbm, 47, rfl⟩
abbrev main_while0c_v44 : Ref sig .tc := ⟨.hbm, 48, rfl⟩
abbrev main_while0b_call0_c : Ref sig .tc := ⟨.hbm, 49, rfl⟩
abbrev main_while0b_call0_c_0 : Ref sig .tc := ⟨.hbm, 50, rfl⟩
abbrev main_while0b_call0_c_1 : Ref sig .tc := ⟨.hbm, 51, rfl⟩
abbrev main_while0b_call0_c_2 : Ref sig .tc := ⟨.hbm, 52, rfl⟩
abbrev main_while0b_call0_c_3 : Ref sig .tc := ⟨.hbm, 53, rfl⟩
abbrev main_while0b_call0_v0 : Ref sig .tc := ⟨.hbm, 54, rfl⟩
abbrev main_while0b_v44 : Ref sig .tc := ⟨.hbm, 55, rfl⟩
abbrev main_while0b_v45 : Ref sig .tc := ⟨.hbm, 56, rfl⟩
abbrev main_while0b_v46 : Ref sig .tc := ⟨.hbm, 57, rfl⟩
abbrev main_while0b_v47 : Ref sig .tc := ⟨.hbm, 58, rfl⟩
abbrev main_while0b_v48 : Ref sig .tc := ⟨.hbm, 59, rfl⟩
abbrev main_while0b_call1_v0 : Ref sig .tc := ⟨.hbm, 60, rfl⟩
abbrev main_while0b_call1_c : Ref sig .tc := ⟨.hbm, 61, rfl⟩
abbrev main_while0b_call1_c_0 : Ref sig .tc := ⟨.hbm, 62, rfl⟩
abbrev main_while0b_call1_c_1 : Ref sig .tc := ⟨.hbm, 63, rfl⟩
abbrev main_while0b_call1_c_2 : Ref sig .tc := ⟨.hbm, 64, rfl⟩
abbrev main_while0b_call1_c_3 : Ref sig .tc := ⟨.hbm, 65, rfl⟩
abbrev main_while0b_v49 : Ref sig .tc := ⟨.hbm, 66, rfl⟩
abbrev main_while0b_c_7 : Ref sig .tc := ⟨.hbm, 67, rfl⟩
abbrev main_while0b_v50 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩

abbrev nD : Nat := 1
abbrev τ : Topo := Topo.v7x

variable {F : FTy → Type} [FloatOps F]

abbrev main_while0_count : Scf.Loop 32 := ⟨0#32, 65#32, 1#32⟩
-- ==== Proof.Spec.lean ====
/- What the first layer's input projection computes, as functions of coordinates over the extended reals: the padded
   sequence's normalized rows, the projection of one row onto one column, and the eight results. Both programs are read
   into these functions (`RefValue`, `KernelValue`). -/
module

public import Idealize.ShloMosaic.Lib.Pointwise
public import Idealize.ShloMosaic.Lib.WordCmp

@[expose] public section

noncomputable section

namespace Cert.InProj

open Idealize.ShloMosaic

/-- The arguments of the call: the tokens, the meta tokens, the norm's gain, the combined weight, the gains of the
    queries' and of the keys' norm. -/
structure Args where
  x : (⟨3, ![4, 8192, 1024]⟩ : Shape).Idx → EReal
  mt : (⟨2, ![16, 1024]⟩ : Shape).Idx → EReal
  g : (⟨1, ![1024]⟩ : Shape).Idx → EReal
  w : (⟨2, ![1024, 3328]⟩ : Shape).Idx → EReal
  gq : (⟨1, ![64]⟩ : Shape).Idx → EReal
  gk : (⟨1, ![64]⟩ : Shape).Idx → EReal

/-- The small constant under every root. -/
def eps : EReal := Ideal.ofBits .f32 0x358637BD#32
/-- The softmax's scale in base two, `64 ^ (-1/2) · log₂ e`, as the programs round it. -/
def qScale : EReal := Ideal.ofBits .f32 0x3E38AA3B#32
/-- The retention keys' scale, `128 ^ (-1/2)`. -/
def kScale : EReal := (((Real.sqrt 128)⁻¹ : ℝ) : EReal)

/-- The angle of position `r` in the pair of lanes `k`. -/
def angle (r k : ℕ) : EReal :=
  FloatOps.sitofp (F := Ideal) .f32 (BitVec.ofNat 32 r) *
    Ideal.pow (Ideal.ofBits .f32 0x461C4000#32)
      (Ideal.div (-(Ideal.ofBits .f32 0x40000000#32 * FloatOps.sitofp (F := Ideal) .f32 (BitVec.ofNat 32 k)))
        (Ideal.ofBits .f32 0x43000000#32))

variable (A : Args)

/-- Token `n` of sequence `b`: the 16 meta tokens come first. -/
def Args.row (b : Fin 4) (n : Fin 8208) (d : Fin 1024) : EReal :=
  if h : n.val < 16 then A.mt (ix2 ⟨n.val, h⟩ d) else A.x (ix3 b ⟨n.val - 16, by omega⟩ d)

/-- Token `n`, divided by its root mean square and multiplied by the gain. -/
def Args.normed (b : Fin 4) (n : Fin 8208) (d : Fin 1024) : EReal :=
  A.row b n d * Ideal.rsqrt (Ideal.div (∑ k : Fin 1024, A.row b n k * A.row b n k) (Ideal.ofBits .f32 0x44800000#32) + eps)
    * A.g (ix1 d)

/-- The projection onto column `e` at padded position `r`: zero in the 112 positions in front of the tokens. -/
def Args.proj (b : Fin 4) (r : Fin 8320) (e : Fin 3328) : EReal :=
  if h : 112 ≤ r.val then ∑ d : Fin 1024, A.normed b ⟨r.val - 112, by omega⟩ d * A.w (ix2 d e) else 0

/-- The normalized row at padded position `r`, zero in front of the tokens. -/
def Args.padded (b : Fin 4) (r : Fin 8320) (d : Fin 1024) : EReal :=
  if h : 112 ≤ r.val then A.normed b ⟨r.val - 112, by omega⟩ d else 0

/-- The zero rows project to zero. -/
theorem Args.sum_padded (b : Fin 4) (r : Fin 8320) (e : Fin 3328) :
    ∑ d : Fin 1024, A.padded b r d * A.w (ix2 d e) = A.proj b r e := by
  unfold padded proj
  split
  · rfl
  · simp

/-- The queries: each head of 64 lanes normalized, times the gain and the softmax's scale. -/
def Args.query (b : Fin 4) (r : Fin 8320) (e : Fin 512) : EReal :=
  A.proj b r ⟨e.val, by omega⟩
    * Ideal.rsqrt (Ideal.div (∑ k : Fin 64, A.proj b r ⟨e.val / 64 * 64 + k.val, by omega⟩ * A.proj b r ⟨e.val / 64 * 64 + k.val, by omega⟩)
        (Ideal.ofBits .f32 0x42800000#32) + eps)
    * A.gq (ix1 ⟨e.val % 64, by omega⟩) * qScale

/-- The keys: each of the two heads of 64 lanes normalized, times the gain. -/
def Args.key (b : Fin 4) (r : Fin 8320) (e : Fin 128) : EReal :=
  A.proj b r ⟨512 + e.val, by omega⟩
    * Ideal.rsqrt (Ideal.div (∑ k : Fin 64, A.proj b r ⟨512 + (e.val / 64 * 64 + k.val), by omega⟩ * A.proj b r ⟨512 + (e.val / 64 * 64 + k.val), by omega⟩)
        (Ideal.ofBits .f32 0x42800000#32) + eps)
    * A.gk (ix1 ⟨e.val % 64, by omega⟩)

/-- The values, two heads of 64 lanes. -/
def Args.value (b : Fin 4) (r : Fin 8320) (e : Fin 128) : EReal := A.proj b r ⟨640 + e.val, by omega⟩

/-- Two heads of 64 lanes, each given in the lower and in the upper half of a row of 128 lanes. -/
def twice (t : Fin 128 → EReal) (e : Fin 512) : EReal :=
  if h : e.val < 64 then t ⟨e.val, by omega⟩
  else if h : e.val < 192 then 0
  else if h : e.val < 256 then t ⟨e.val - 192, by omega⟩
  else if h : e.val < 320 then t ⟨e.val - 192, by omega⟩
  else if h : e.val < 448 then 0
  else t ⟨e.val - 384, by omega⟩

/-- `twice` as a chain of eight blocks of 64 lanes. -/
theorem twice_chain (t : Fin 128 → EReal) (e : Fin 512) :
    (if h : e.val < 64 then t ⟨e.val, by omega⟩
     else if h : e.val - 64 < 64 then 0
     else if h : e.val - 64 - 64 < 64 then 0
     else if h : e.val - 64 - 64 - 64 < 64 then t ⟨e.val - 64 - 64 - 64, by omega⟩
     else if h : e.val - 64 - 64 - 64 - 64 < 64 then t ⟨64 + (e.val - 64 - 64 - 64 - 64), by omega⟩
     else if h : e.val - 64 - 64 - 64 - 64 - 64 < 64 then 0
     else if h : e.val - 64 - 64 - 64 - 64 - 64 - 64 < 64 then 0
     else t ⟨64 + (e.val - 64 - 64 - 64 - 64 - 64 - 64 - 64), by omega⟩) = twice t e := by
  unfold twice
  split_ifs <;> first | rfl | omega | exact congrArg t (Fin.ext (by dsimp only; omega))

/-- Four heads of 128 lanes, from column `o` of the projection on, rotated by the position's angles. -/
def Args.rotated (o : ℕ) (ho : o + 512 ≤ 3328) (b : Fin 4) (r : Fin 8320) (e : Fin 512) : EReal :=
  if h : e.val % 128 < 64 then
    A.proj b r ⟨o + e.val, by omega⟩ * Ideal.cos (angle r.val (e.val % 128))
      - A.proj b r ⟨o + (e.val + 64), by omega⟩ * Ideal.sin (angle r.val (e.val % 128))
  else
    A.proj b r ⟨o + (e.val - 64), by omega⟩ * Ideal.sin (angle r.val (e.val % 128 - 64))
      + A.proj b r ⟨o + e.val, by omega⟩ * Ideal.cos (angle r.val (e.val % 128 - 64))

/-- A position in front of the tokens projects to zero, so its rotated heads are zero. -/
theorem Args.rotated_of_lt (o : ℕ) (ho : o + 512 ≤ 3328) (b : Fin 4) (r : Fin 8320) (e : Fin 512) (hr : r.val < 112) :
    A.rotated o ho b r e = 0 := by
  have hp : ∀ c, A.proj b r c = 0 := fun c => by unfold proj; rw [dif_neg (by omega)]
  unfold rotated
  split <;> simp [hp]

end Cert.InProj
-- ==== Proof.Blocks.lean ====
/- The arrays that the launch finds, as typed functions, and the block of each input window at a grid point: point `t` is
   row tile `t % 13` of sequence `t / 13`. -/
module

public import proofs.«01_k».proof.Proof.Gen.KernelIdeal.Value
public import proofs.«01_k».proof.Proof.Spec
public import Idealize.ShloMosaic.Lib.Pipeline.ValueKit

@[expose] public section

noncomputable section

namespace Cert.KernelIdeal.Blocks

open Cert.KernelIdeal Cert.KernelIdeal.Gen Cert.InProj Idealize.ShloMosaic Idealize.ShloMosaic.TcCoe Idealize.SL.Sem

variable (m : (ℓ : Loc nD τ sig) → Buf (Elt Ideal) ℓ)

/-! ## The arrays at the launch -/

/-- The tokens. -/
def xA (c : Dev nD) : Vec Ideal S4x8192x1024 .f32 := V m c main_arg0
/-- The rows of the first tile that hold no token of `x`: zeros, then the meta tokens. -/
def headA (c : Dev nD) : Vec Ideal S128x1024 .f32 := V m c main_v1
/-- The norm's gain. -/
def gA (c : Dev nD) : Vec Ideal S1x1024 .f32 := V m c main_v55
/-- The combined weight. -/
def wA (c : Dev nD) : Vec Ideal S1024x3328 .bf16 := V m c main_v56
/-- The cosines. -/
def ccA (c : Dev nD) : Vec Ideal S8320x128 .f32 := V m c main_v20
/-- The signed sines. -/
def ssA (c : Dev nD) : Vec Ideal S8320x128 .f32 := V m c main_v24
/-- The queries' gain, times the scale. -/
def qgA (c : Dev nD) : Vec Ideal S1x512 .f32 := V m c main_v50
/-- The keys' gain. -/
def kgA (c : Dev nD) : Vec Ideal S1x128 .f32 := V m c main_v54
/-- The queries' averaging matrix. -/
def bdqA (c : Dev nD) : Vec Ideal S512x512 .bf16 := V m c main_v34
/-- The keys' averaging matrix. -/
def bdkA (c : Dev nD) : Vec Ideal S128x128 .bf16 := V m c main_v44

/-! ## The blocks at a grid point -/

def blk0 (c : Dev nD) (t : Fin cfg0.N) : Vec Ideal S1x640x1024 .f32 := iblk m c 0 t
def blk1 (c : Dev nD) (t : Fin cfg0.N) : Vec Ideal S128x1024 .f32 := iblk m c 1 t
def blk2 (c : Dev nD) (t : Fin cfg0.N) : Vec Ideal S1x1024 .f32 := iblk m c 2 t
def blk3 (c : Dev nD) (t : Fin cfg0.N) : Vec Ideal S1024x3328 .bf16 := iblk m c 3 t
def blk4 (c : Dev nD) (t : Fin cfg0.N) : Vec Ideal S640x128 .f32 := iblk m c 4 t
def blk5 (c : Dev nD) (t : Fin cfg0.N) : Vec Ideal S640x128 .f32 := iblk m c 5 t
def blk6 (c : Dev nD) (t : Fin cfg0.N) : Vec Ideal S1x512 .f32 := iblk m c 6 t
def blk7 (c : Dev nD) (t : Fin cfg0.N) : Vec Ideal S1x128 .f32 := iblk m c 7 t
def blk8 (c : Dev nD) (t : Fin cfg0.N) : Vec Ideal S512x512 .bf16 := iblk m c 8 t
def blk9 (c : Dev nD) (t : Fin cfg0.N) : Vec Ideal S128x128 .bf16 := iblk m c 9 t

/-- The grid has 52 points. -/
theorem lt52 (t : Fin cfg0.N) : t.val < 52 := t.isLt

/-- The sequence of a grid point. -/
def seqOf (t : Fin cfg0.N) : Fin 4 := ⟨t.val / 13, by have := lt52 t; omega⟩
/-- Row `r` of the grid point's tile, in the padded sequence. -/
def rowOf (t : Fin cfg0.N) (r : Fin 640) : Fin 8320 := ⟨640 * (t.val % 13) + r.val, by omega⟩

/-- The second grid coordinate is the tile. -/
theorem coord1 : ∀ t : Fin cfg0.N, (grid0.coords t 1).val = t.val % 13 :=
  (by decide +kernel : ∀ t : Fin grid0.N, (grid0.coords t 1).val = t.val % 13)

/-- The window on the tokens starts at element `640 · tile - 128` of its sequence, or at 0. -/
theorem idx0 : ∀ t : Fin cfg0.N, win0_0.index t 0 = t.val / 13 ∧ win0_0.index t 1 = 640 * (t.val % 13) - 128 ∧ win0_0.index t 2 = 0 :=
  (by decide +kernel : ∀ t : Fin grid0.N, win0_0.index t 0 = t.val / 13 ∧ win0_0.index t 1 = 640 * (t.val % 13) - 128 ∧ win0_0.index t 2 = 0)

theorem blk0_apply (c : Dev nD) (t : Fin cfg0.N) (r : Fin 640) (d : Fin 1024) :
    blk0 m c t (ix3 0 r d) = xA m c (ix3 (seqOf t) ⟨640 * (t.val % 13) - 128 + r.val, by omega⟩ d) := by
  unfold blk0 xA
  have hi := idx0 t
  refine congrArg (V m c main_arg0) (funext fun a => Fin.ext ?_)
  show ((win0_0.rect t).emb (ix3 0 r d) a : Nat) = _
  rw [win0_0.rect_emb_val_off]
  show win0_0.index t a + (ix3 0 r d a : Nat) = _
  match a with
  | ⟨0, _⟩ => show win0_0.index t 0 + 0 = t.val / 13; omega
  | ⟨1, _⟩ => show win0_0.index t 1 + r.val = 640 * (t.val % 13) - 128 + r.val; omega
  | ⟨2, _⟩ => show win0_0.index t 2 + d.val = d.val; omega

theorem idx1 : ∀ t : Fin cfg0.N, win0_1.index t 0 = 0 ∧ win0_1.index t 1 = 0 :=
  (by decide +kernel : ∀ t : Fin grid0.N, win0_1.index t 0 = 0 ∧ win0_1.index t 1 = 0)

theorem blk1_apply (c : Dev nD) (t : Fin cfg0.N) (a : Fin 128) (b : Fin 1024) : blk1 m c t (ix2 a b) = headA m c (ix2 a b) := by
  unfold blk1 headA
  have hi := idx1 t
  blk_ext [iblk, hi.1, hi.2]

theorem idx2 : ∀ t : Fin cfg0.N, win0_2.index t 0 = 0 ∧ win0_2.index t 1 = 0 :=
  (by decide +kernel : ∀ t : Fin grid0.N, win0_2.index t 0 = 0 ∧ win0_2.index t 1 = 0)

theorem blk2_apply (c : Dev nD) (t : Fin cfg0.N) (a : Fin 1) (b : Fin 1024) : blk2 m c t (ix2 a b) = gA m c (ix2 a b) := by
  unfold blk2 gA
  have hi := idx2 t
  blk_ext [iblk, hi.1, hi.2]

theorem idx3 : ∀ t : Fin cfg0.N, win0_3.index t 0 = 0 ∧ win0_3.index t 1 = 0 :=
  (by decide +kernel : ∀ t : Fin grid0.N, win0_3.index t 0 = 0 ∧ win0_3.index t 1 = 0)

theorem blk3_apply (c : Dev nD) (t : Fin cfg0.N) (a : Fin 1024) (b : Fin 3328) : blk3 m c t (ix2 a b) = wA m c (ix2 a b) := by
  unfold blk3 wA
  have hi := idx3 t
  blk_ext [iblk, hi.1, hi.2]

theorem idx6 : ∀ t : Fin cfg0.N, win0_6.index t 0 = 0 ∧ win0_6.index t 1 = 0 :=
  (by decide +kernel : ∀ t : Fin grid0.N, win0_6.index t 0 = 0 ∧ win0_6.index t 1 = 0)

theorem blk6_apply (c : Dev nD) (t : Fin cfg0.N) (a : Fin 1) (b : Fin 512) : blk6 m c t (ix2 a b) = qgA m c (ix2 a b) := by
  unfold blk6 qgA
  have hi := idx6 t
  blk_ext [iblk, hi.1, hi.2]

theorem idx7 : ∀ t : Fin cfg0.N, win0_7.index t 0 = 0 ∧ win0_7.index t 1 = 0 :=
  (by decide +kernel : ∀ t : Fin grid0.N, win0_7.index t 0 = 0 ∧ win0_7.index t 1 = 0)

theorem blk7_apply (c : Dev nD) (t : Fin cfg0.N) (a : Fin 1) (b : Fin 128) : blk7 m c t (ix2 a b) = kgA m c (ix2 a b) := by
  unfold blk7 kgA
  have hi := idx7 t
  blk_ext [iblk, hi.1, hi.2]

theorem idx8 : ∀ t : Fin cfg0.N, win0_8.index t 0 = 0 ∧ win0_8.index t 1 = 0 :=
  (by decide +kernel : ∀ t : Fin grid0.N, win0_8.index t 0 = 0 ∧ win0_8.index t 1 = 0)

theorem blk8_apply (c : Dev nD) (t : Fin cfg0.N) (a : Fin 512) (b : Fin 512) : blk8 m c t (ix2 a b) = bdqA m c (ix2 a b) := by
  unfold blk8 bdqA
  have hi := idx8 t
  blk_ext [iblk, hi.1, hi.2]

theorem idx9 : ∀ t : Fin cfg0.N, win0_9.index t 0 = 0 ∧ win0_9.index t 1 = 0 :=
  (by decide +kernel : ∀ t : Fin grid0.N, win0_9.index t 0 = 0 ∧ win0_9.index t 1 = 0)

theorem blk9_apply (c : Dev nD) (t : Fin cfg0.N) (a : Fin 128) (b : Fin 128) : blk9 m c t (ix2 a b) = bdkA m c (ix2 a b) := by
  unfold blk9 bdkA
  have hi := idx9 t
  blk_ext [iblk, hi.1, hi.2]

theorem idx4 : ∀ t : Fin cfg0.N, win0_4.index t 0 = t.val % 13 ∧ win0_4.index t 1 = 0 :=
  (by decide +kernel : ∀ t : Fin grid0.N, win0_4.index t 0 = t.val % 13 ∧ win0_4.index t 1 = 0)

theorem blk4_apply (c : Dev nD) (t : Fin cfg0.N) (r : Fin 640) (d : Fin 128) : blk4 m c t (ix2 r d) = ccA m c (ix2 (rowOf t r) d) := by
  unfold blk4 ccA rowOf
  have hi := idx4 t
  blk_ext [iblk, hi.1, hi.2]

theorem idx5 : ∀ t : Fin cfg0.N, win0_5.index t 0 = t.val % 13 ∧ win0_5.index t 1 = 0 :=
  (by decide +kernel : ∀ t : Fin grid0.N, win0_5.index t 0 = t.val % 13 ∧ win0_5.index t 1 = 0)

theorem blk5_apply (c : Dev nD) (t : Fin cfg0.N) (r : Fin 640) (d : Fin 128) : blk5 m c t (ix2 r d) = ssA m c (ix2 (rowOf t r) d) := by
  unfold blk5 ssA rowOf
  have hi := idx5 t
  blk_ext [iblk, hi.1, hi.2]

theorem idx10 : ∀ t : Fin cfg0.N, win0_10.index t 0 = t.val / 13 ∧ win0_10.index t 1 = t.val % 13 ∧ win0_10.index t 2 = 0 :=
  (by decide +kernel : ∀ t : Fin grid0.N, win0_10.index t 0 = t.val / 13 ∧ win0_10.index t 1 = t.val % 13 ∧ win0_10.index t 2 = 0)

theorem emb10 (t : Fin cfg0.N) (r : Fin 640) (e : Fin 512) :
    (((win0_10.blk t).view.emb (ix3 0 r e) : S4x8320x512.Idx)) = ix3 (seqOf t) (rowOf t r) e := by
  have hi := idx10 t
  unfold seqOf rowOf
  blk_ext [hi.1, hi.2.1, hi.2.2]

theorem idx11 : ∀ t : Fin cfg0.N, win0_11.index t 0 = t.val / 13 ∧ win0_11.index t 1 = t.val % 13 ∧ win0_11.index t 2 = 0 :=
  (by decide +kernel : ∀ t : Fin grid0.N, win0_11.index t 0 = t.val / 13 ∧ win0_11.index t 1 = t.val % 13 ∧ win0_11.index t 2 = 0)

theorem emb11 (t : Fin cfg0.N) (r : Fin 640) (e : Fin 512) :
    (((win0_11.blk t).view.emb (ix3 0 r e) : S4x8320x512.Idx)) = ix3 (seqOf t) (rowOf t r) e := by
  have hi := idx11 t
  unfold seqOf rowOf
  blk_ext [hi.1, hi.2.1, hi.2.2]

theorem idx12 : ∀ t : Fin cfg0.N, win0_12.index t 0 = t.val / 13 ∧ win0_12.index t 1 = t.val % 13 ∧ win0_12.index t 2 = 0 :=
  (by decide +kernel : ∀ t : Fin grid0.N, win0_12.index t 0 = t.val / 13 ∧ win0_12.index t 1 = t.val % 13 ∧ win0_12.index t 2 = 0)

theorem emb12 (t : Fin cfg0.N) (r : Fin 640) (e : Fin 512) :
    (((win0_12.blk t).view.emb (ix3 0 r e) : S4x8320x512.Idx)) = ix3 (seqOf t) (rowOf t r) e := by
  have hi := idx12 t
  unfold seqOf rowOf
  blk_ext [hi.1, hi.2.1, hi.2.2]

theorem idx13 : ∀ t : Fin cfg0.N, win0_13.index t 0 = t.val / 13 ∧ win0_13.index t 1 = t.val % 13 ∧ win0_13.index t 2 = 0 :=
  (by decide +kernel : ∀ t : Fin grid0.N, win0_13.index t 0 = t.val / 13 ∧ win0_13.index t 1 = t.val % 13 ∧ win0_13.index t 2 = 0)

theorem emb13 (t : Fin cfg0.N) (r : Fin 640) (e : Fin 512) :
    (((win0_13.blk t).view.emb (ix3 0 r e) : S4x8320x512.Idx)) = ix3 (seqOf t) (rowOf t r) e := by
  have hi := idx13 t
  unfold seqOf rowOf
  blk_ext [hi.1, hi.2.1, hi.2.2]

theorem idx14 : ∀ t : Fin cfg0.N, win0_14.index t 0 = t.val / 13 ∧ win0_14.index t 1 = t.val % 13 ∧ win0_14.index t 2 = 0 :=
  (by decide +kernel : ∀ t : Fin grid0.N, win0_14.index t 0 = t.val / 13 ∧ win0_14.index t 1 = t.val % 13 ∧ win0_14.index t 2 = 0)

theorem emb14 (t : Fin cfg0.N) (r : Fin 640) (e : Fin 512) :
    (((win0_14.blk t).view.emb (ix3 0 r e) : S4x8320x512.Idx)) = ix3 (seqOf t) (rowOf t r) e := by
  have hi := idx14 t
  unfold seqOf rowOf
  blk_ext [hi.1, hi.2.1, hi.2.2]

theorem idx15 : ∀ t : Fin cfg0.N, win0_15.index t 0 = t.val / 13 ∧ win0_15.index t 1 = t.val % 13 ∧ win0_15.index t 2 = 0 :=
  (by decide +kernel : ∀ t : Fin grid0.N, win0_15.index t 0 = t.val / 13 ∧ win0_15.index t 1 = t.val % 13 ∧ win0_15.index t 2 = 0)

theorem emb15 (t : Fin cfg0.N) (r : Fin 640) (e : Fin 512) :
    (((win0_15.blk t).view.emb (ix3 0 r e) : S4x8320x512.Idx)) = ix3 (seqOf t) (rowOf t r) e := by
  have hi := idx15 t
  unfold seqOf rowOf
  blk_ext [hi.1, hi.2.1, hi.2.2]

theorem idx16 : ∀ t : Fin cfg0.N, win0_16.index t 0 = t.val / 13 ∧ win0_16.index t 1 = t.val % 13 ∧ win0_16.index t 2 = 0 :=
  (by decide +kernel : ∀ t : Fin grid0.N, win0_16.index t 0 = t.val / 13 ∧ win0_16.index t 1 = t.val % 13 ∧ win0_16.index t 2 = 0)

theorem emb16 (t : Fin cfg0.N) (r : Fin 640) (e : Fin 512) :
    (((win0_16.blk t).view.emb (ix3 0 r e) : S4x8320x512.Idx)) = ix3 (seqOf t) (rowOf t r) e := by
  have hi := idx16 t
  unfold seqOf rowOf
  blk_ext [hi.1, hi.2.1, hi.2.2]

theorem idx17 : ∀ t : Fin cfg0.N, win0_17.index t 0 = t.val / 13 ∧ win0_17.index t 1 = t.val % 13 ∧ win0_17.index t 2 = 0 :=
  (by decide +kernel : ∀ t : Fin grid0.N, win0_17.index t 0 = t.val / 13 ∧ win0_17.index t 1 = t.val % 13 ∧ win0_17.index t 2 = 0)

theorem emb17 (t : Fin cfg0.N) (r : Fin 640) (e : Fin 512) :
    (((win0_17.blk t).view.emb (ix3 0 r e) : S4x8320x512.Idx)) = ix3 (seqOf t) (rowOf t r) e := by
  have hi := idx17 t
  unfold seqOf rowOf
  blk_ext [hi.1, hi.2.1, hi.2.2]

end Cert.KernelIdeal.Blocks
-- ==== Proof.HostValue.lean ====
/- The arrays that the host code prepares for the launch, read at an index. -/
module

public import proofs.«01_k».proof.Proof.Blocks
public import Idealize.ShloMosaic.Lib.StableHlo.ReadAt

@[expose] public section

noncomputable section

namespace Cert.KernelIdeal.HostValue

open Cert.KernelIdeal Cert.KernelIdeal.Gen Cert.KernelIdeal.Blocks Cert.InProj Idealize.ShloMosaic Idealize.ShloMosaic.TcCoe
  Idealize.SL.Sem

variable (m : (ℓ : Loc nD τ sig) → Buf (Elt Ideal) ℓ)

/-- The call's arguments, as the functions of `Spec`. -/
def args (c : Dev nD) : Args where
  x := m (c, Proc.tc.devRef main_arg0)
  mt := m (c, Proc.tc.devRef main_arg1)
  g := m (c, Proc.tc.devRef main_arg2)
  w := m (c, Proc.tc.devRef main_arg3)
  gq := m (c, Proc.tc.devRef main_arg4)
  gk := m (c, Proc.tc.devRef main_arg5)

theorem xA_apply (c : Dev nD) (b : Fin 4) (n : Fin 8192) (d : Fin 1024) : xA m c (ix3 b n d) = (args m c).x (ix3 b n d) := by
  unfold xA V
  after_reads_at
  rfl

theorem headA_apply (c : Dev nD) (a : Fin 128) (d : Fin 1024) :
    headA m c (ix2 a d) = if h : a.val < 112 then (0 : EReal) else (args m c).mt (ix2 ⟨a.val - 112, by omega⟩ d) := by
  unfold headA V
  after_reads_at
  rfl

theorem gA_apply (c : Dev nD) (d : Fin 1024) : gA m c (ix2 0 d) = (args m c).g (ix1 d) := by
  unfold gA V
  after_reads_at
  rfl

theorem wA_apply (c : Dev nD) (d : Fin 1024) (e : Fin 3328) : wA m c (ix2 d e) = (args m c).w (ix2 d e) := by
  unfold wA V
  after_reads_at
  rfl

theorem ccA_apply (c : Dev nD) (r : Fin 8320) (d : Fin 128) :
    ccA m c (ix2 r d) = if d.val < 64 then Ideal.cos (angle r.val d.val) else Ideal.cos (angle r.val (d.val - 64)) := by
  unfold ccA V
  after_reads_at
  rfl

theorem ssA_apply (c : Dev nD) (r : Fin 8320) (d : Fin 128) :
    ssA m c (ix2 r d) = if d.val < 64 then -Ideal.sin (angle r.val d.val) else Ideal.sin (angle r.val (d.val - 64)) := by
  unfold ssA V
  after_reads_at
  rfl

theorem qgA_apply (c : Dev nD) (e : Fin 512) :
    qgA m c (ix2 0 e) = (args m c).gq (ix1 ⟨e.val % 64, by omega⟩) * qScale := by
  unfold qgA V
  after_reads_at
  rfl

theorem kgA_apply (c : Dev nD) (e : Fin 128) : kgA m c (ix2 0 e) = (args m c).gk (ix1 ⟨e.val % 64, by omega⟩) := by
  unfold kgA V
  after_reads_at
  rfl

/-- The host's floor division of a small word by 64. -/
theorem floor64 : ∀ a : Fin 512,
    Scalar.select
      (IntOp.andi
        (IntOp.cmpi CmpIPredicate.ne
          (if BitVec.ofNat 32 a.val = 0 then (0 : BitVec 32) else if (BitVec.ofNat 32 a.val).msb = true then -1 else 1)
          (if 64#32 = 0 then (0 : BitVec 32) else if BitVec.msb 64#32 = true then -1 else 1))
        (IntOp.cmpi CmpIPredicate.ne (IntOp.remsi ArithUnit.host (BitVec.ofNat 32 a.val) 64#32) 0#32))
      (IntOp.subi (IntOp.divsi ArithUnit.host (BitVec.ofNat 32 a.val) 64#32) 1#32)
      (IntOp.divsi ArithUnit.host (BitVec.ofNat 32 a.val) 64#32)
      = BitVec.ofNat 32 (a.val / 64) := by
  decide +kernel

/-- A choice by the equality of two small words. -/
theorem select_eq (a b : ℕ) (ha : a < 512) (hb : b < 512) (x y : EReal) :
    Scalar.select (IntOp.cmpi .eq (BitVec.ofNat 32 a) (BitVec.ofNat 32 b)) x y = if a = b then x else y := by
  rw [WordCmp.cmpi_eq_ofNat (by omega) (by omega)]
  by_cases h : a = b <;> simp [h, Scalar.select]

theorem bdqA_apply (c : Dev nD) (a b : Fin 512) :
    bdqA m c (ix2 a b) = if a.val / 64 = b.val / 64 then Ideal.ofBits .f32 0x3C800000#32 else (0 : EReal) := by
  unfold bdqA V
  after_reads_at
  refine (congrArg₂ (fun x y => Scalar.select (IntOp.cmpi .eq x y) (Ideal.ofBits .f32 0x3C800000#32) (0 : EReal)) (floor64 a) (floor64 b)).trans ?_
  exact select_eq _ _ (by omega) (by omega) _ _

theorem bdkA_apply (c : Dev nD) (a b : Fin 128) :
    bdkA m c (ix2 a b) = if a.val / 64 = b.val / 64 then Ideal.ofBits .f32 0x3C800000#32 else (0 : EReal) := by
  unfold bdkA V
  after_reads_at
  refine (congrArg₂ (fun x y => Scalar.select (IntOp.cmpi .eq x y) (Ideal.ofBits .f32 0x3C800000#32) (0 : EReal))
    (floor64 ⟨a.val, by omega⟩) (floor64 ⟨b.val, by omega⟩)).trans ?_
  exact select_eq _ _ (by omega) (by omega) _ _

end Cert.KernelIdeal.HostValue
-- ==== Proof.Means.lean ====
/- The mean over a head of 64 lanes, taken as a product with an averaging matrix: a column of the matrix holds `1/64` in
   the lanes of its head and zero elsewhere. -/
module

public import Idealize.ShloMosaic.Lib.Pointwise

@[expose] public section

noncomputable section

namespace Cert.InProj

open Idealize.ShloMosaic

/-- `1/64` is a number of the format. -/
theorem inv64 : Ideal.ofBits .f32 0x3C800000#32 = ((1 / 64 : ℝ) : EReal) := by
  simp [Ideal.ofBits, Ideal.ieee]
  rw [← EReal.coe_mul]
  norm_num

theorem c64 : Ideal.ofBits .f32 0x42800000#32 = ((64 : ℝ) : EReal) := by
  simp [Ideal.ofBits, Ideal.ieee]
  rw [← EReal.coe_mul]
  norm_num

/-- A division by 64 is the product with `1/64`. -/
theorem div64 (x : EReal) : Ideal.div x (Ideal.ofBits .f32 0x42800000#32) = x * Ideal.ofBits .f32 0x3C800000#32 := by
  rw [c64, inv64]
  simp [Ideal.div]
  rfl

/-- A finite factor that isn't negative comes out of a sum. -/
theorem sum_mul_finite {ι : Type*} (s : Finset ι) (f : ι → EReal) (c : EReal) (h0 : 0 ≤ c) (h1 : c ≠ ⊤) :
    ∑ i ∈ s, f i * c = (∑ i ∈ s, f i) * c := by
  classical
  induction s using Finset.induction_on with
  | empty => simp
  | insert a s ha ih =>
      rw [Finset.sum_insert ha, Finset.sum_insert ha, ih, EReal.right_distrib_of_nonneg_of_ne_top h0 h1]

/-- The product with column `d` of the averaging matrix is the mean over the head of `d`. -/
theorem head_mean {N : ℕ} (hN : N % 64 = 0) (f : Fin N → EReal) (d : Fin N) :
    ∑ x : Fin N, f x * (if x.val / 64 = d.val / 64 then Ideal.ofBits .f32 0x3C800000#32 else (0 : EReal))
      = Ideal.div (∑ k : Fin 64, f ⟨d.val / 64 * 64 + k.val, by omega⟩) (Ideal.ofBits .f32 0x42800000#32) := by
  rw [div64]
  simp only [mul_ite, mul_zero]
  rw [← Finset.sum_filter, ← sum_mul_finite]
  · refine Finset.sum_nbij' (fun x => (⟨x.val % 64, by omega⟩ : Fin 64)) (fun k => ⟨d.val / 64 * 64 + k.val, by omega⟩) ?_ ?_ ?_ ?_ ?_
    · intro x _; exact Finset.mem_univ _
    · intro k _
      rw [Finset.mem_filter]
      exact ⟨Finset.mem_univ _, by dsimp only; omega⟩
    · intro x hx
      have := (Finset.mem_filter.mp hx).2
      exact Fin.ext (by dsimp only; omega)
    · intro k _
      exact Fin.ext (by dsimp only; omega)
    · intro x hx
      have := (Finset.mem_filter.mp hx).2
      exact congrArg (fun y => f y * Ideal.ofBits .f32 0x3C800000#32) (Fin.ext (by dsimp only; omega))
  · rw [inv64]; exact_mod_cast (by norm_num : (0 : ℝ) ≤ 1 / 64)
  · rw [inv64]; exact EReal.coe_ne_top _

end Cert.InProj
-- ==== Proof.Row.lean ====
/- One run of the body, from what its input blocks hold: the normalized rows of the tile, a column range of their
   projection, and the three results that are a projection alone. -/
module

public import proofs.«01_k».proof.Proof.Gen.KernelIdeal.Value
public import proofs.«01_k».proof.Proof.Spec
public import proofs.«01_k».proof.Proof.Means
public import Idealize.ShloMosaic.Lib.Pipeline.ValueKit

@[expose] public section

noncomputable section

namespace Cert.KernelIdeal.Body

open Cert.KernelIdeal Cert.KernelIdeal.Gen Cert.InProj Idealize.ShloMosaic Idealize.ShloMosaic.TcCoe Idealize.SL.Sem

/-- Row `r` of tile `n`, in the padded sequence. -/
def pos (n : Fin 13) (r : Fin 640) : Fin 8320 := ⟨640 * n.val + r.val, by omega⟩

/-- What the ten input blocks hold at tile `n` of sequence `b`. -/
structure Reads (A : Args) (b : Fin 4) (n : Fin 13) (x0 : Vec Ideal S1x640x1024 .f32) (x1 : Vec Ideal S128x1024 .f32)
    (x2 : Vec Ideal S1x1024 .f32) (x3 : Vec Ideal S1024x3328 .bf16) (x4 x5 : Vec Ideal S640x128 .f32)
    (x6 : Vec Ideal S1x512 .f32) (x7 : Vec Ideal S1x128 .f32) (x8 : Vec Ideal S512x512 .bf16) (x9 : Vec Ideal S128x128 .bf16) : Prop where
  tokens : ∀ (r : Fin 640) (d : Fin 1024), x0 (ix3 0 r d) = A.x (ix3 b ⟨640 * n.val - 128 + r.val, by omega⟩ d)
  head : ∀ (a : Fin 128) (d : Fin 1024), x1 (ix2 a d) = if h : a.val < 112 then (0 : EReal) else A.mt (ix2 ⟨a.val - 112, by omega⟩ d)
  gain : ∀ d : Fin 1024, x2 (ix2 0 d) = A.g (ix1 d)
  weight : ∀ (d : Fin 1024) (e : Fin 3328), x3 (ix2 d e) = A.w (ix2 d e)
  cosine : ∀ (r : Fin 640) (d : Fin 128),
    x4 (ix2 r d) = if d.val < 64 then Ideal.cos (angle (pos n r).val d.val) else Ideal.cos (angle (pos n r).val (d.val - 64))
  sine : ∀ (r : Fin 640) (d : Fin 128),
    x5 (ix2 r d) = if d.val < 64 then -Ideal.sin (angle (pos n r).val d.val) else Ideal.sin (angle (pos n r).val (d.val - 64))
  queryGain : ∀ e : Fin 512, x6 (ix2 0 e) = A.gq (ix1 ⟨e.val % 64, by omega⟩) * qScale
  keyGain : ∀ e : Fin 128, x7 (ix2 0 e) = A.gk (ix1 ⟨e.val % 64, by omega⟩)
  queryMean : ∀ a d : Fin 512, x8 (ix2 a d) = if a.val / 64 = d.val / 64 then Ideal.ofBits .f32 0x3C800000#32 else (0 : EReal)
  keyMean : ∀ a d : Fin 128, x9 (ix2 a d) = if a.val / 64 = d.val / 64 then Ideal.ofBits .f32 0x3C800000#32 else (0 : EReal)

/-! ## Words -/

/-- The word that says that row `r` of tile `n` lies at or behind position 112. -/
theorem word_pos (n : ℕ) (hn : n < 13) (r : Fin 640) :
    IntOp.cmpi .sge (IntOp.addi (Scalar.muli (BitVec.ofNat 32 n) 640#32) (BitVec.ofNat 32 r.val)) 112#32
      = BitVec.ofBool (decide (112 ≤ 640 * n + r.val)) := by
  have h : IntOp.addi (Scalar.muli (BitVec.ofNat 32 n) 640#32) (BitVec.ofNat 32 r.val) = BitVec.ofNat 32 (640 * n + r.val) := by
    apply BitVec.eq_of_toNat_eq
    show (BitVec.ofNat 32 n * 640#32 + BitVec.ofNat 32 r.val).toNat = _
    simp only [BitVec.toNat_add, BitVec.toNat_mul, BitVec.toNat_ofNat]
    omega
  rw [h]
  exact WordCmp.cmpi_sge_ofNat (by omega) (by omega)

/-- The word that says that the tile is the first. -/
theorem word_first (n : ℕ) (hn : n < 13) :
    Scalar.cmpi .eq (BitVec.ofNat 32 n) 0#32 = BitVec.ofBool (decide (n = 0)) := by
  interval_cases n <;> rfl

/-- A choice by a word that says `p`. -/
theorem select_word (p : Prop) [Decidable p] (x y : EReal) :
    Scalar.select (BitVec.ofBool (decide p)) x y = if p then x else y := by
  by_cases h : p <;> simp [h, Scalar.select]

/-- The word that says that a lane lies in the lower half. -/
theorem word_lane : ∀ d : Fin 128, IntOp.cmpi .slt (BitVec.ofNat 32 d.val) 64#32 = BitVec.ofBool (decide (d.val < 64)) := by
  decide +kernel

/-! ## A column range of the weight -/

theorem w_512 (X : Vec Ideal S1024x3328 .bf16) (d : Fin 1024) (e : Fin 128) :
    View.ld X r0_7 (ix2 d e) = X (ix2 d ⟨512 + e.val, by omega⟩) :=
  View.ld_unit_apply_of X _ _ _ _ _ fun a => match a with
    | ⟨0, _⟩ => (Nat.zero_add _).symm
    | ⟨1, _⟩ => rfl

theorem w_768 (X : Vec Ideal S1024x3328 .bf16) (d : Fin 1024) (e : Fin 512) :
    View.ld X r0_16 (ix2 d e) = X (ix2 d ⟨768 + e.val, by omega⟩) :=
  View.ld_unit_apply_of X _ _ _ _ _ fun a => match a with
    | ⟨0, _⟩ => (Nat.zero_add _).symm
    | ⟨1, _⟩ => rfl

theorem w_1280 (X : Vec Ideal S1024x3328 .bf16) (d : Fin 1024) (e : Fin 512) :
    View.ld X r0_17 (ix2 d e) = X (ix2 d ⟨1280 + e.val, by omega⟩) :=
  View.ld_unit_apply_of X _ _ _ _ _ fun a => match a with
    | ⟨0, _⟩ => (Nat.zero_add _).symm
    | ⟨1, _⟩ => rfl

/-! ## The normalized rows -/

section
variable {A : Args} {b : Fin 4} {n : Fin 13} {x0 : Vec Ideal S1x640x1024 .f32} {x1 : Vec Ideal S128x1024 .f32}
  {x2 : Vec Ideal S1x1024 .f32} {x3 : Vec Ideal S1024x3328 .bf16} {x4 x5 : Vec Ideal S640x128 .f32}
  {x6 : Vec Ideal S1x512 .f32} {x7 : Vec Ideal S1x128 .f32} {x8 : Vec Ideal S512x512 .bf16} {x9 : Vec Ideal S128x128 .bf16}
variable (H : Reads A b n x0 x1 x2 x3 x4 x5 x6 x7 x8 x9)
include H

/-- The body's row `r` in front of the norm, where it is a token: the head's or the window's. -/
theorem source_apply (r : Fin 640) (d : Fin 1024) (hr : 112 ≤ 640 * n.val + r.val) :
    (Scalar.select (Scalar.cmpi .eq (BitVec.ofNat 32 n.val) 0#32)
        (if h : r.val < 128 then x1 (ix2 ⟨r.val, h⟩ d) else x0 (ix3 0 ⟨r.val - 128, by omega⟩ d)) (x0 (ix3 0 r d)) : EReal)
      = A.row b ⟨(pos n r).val - 112, by have := (pos n r).isLt; omega⟩ d := by
  rw [word_first n.val n.isLt, select_word]
  unfold Args.row pos
  by_cases hn : n.val = 0
  · rw [if_pos hn]
    by_cases h : r.val < 128
    · rw [dif_pos h, H.head, dif_neg (by dsimp only; omega), dif_pos (by dsimp only; omega)]
      exact congrArg A.mt (congrArg (fun k => ix2 k d) (Fin.ext (by dsimp only; omega)))
    · rw [dif_neg h, H.tokens, dif_neg (by dsimp only; omega)]
      exact congrArg A.x (congrArg (fun k => ix3 b k d) (Fin.ext (by dsimp only; omega)))
  · rw [if_neg hn, H.tokens, dif_neg (by dsimp only; omega)]
    exact congrArg A.x (congrArg (fun k => ix3 b k d) (Fin.ext (by dsimp only; omega)))

/-- The normalized rows of the tile. -/
theorem rows_apply (i : grid0.Coords) (hi : (i 1).val = n.val) (r : Fin 640) (d : Fin 1024) :
    k0_pay5 i x0 x1 x2 (ix2 r d) = A.padded b (pos n r) d := by
  pointwise [k0_pay5]
  rw [hi, word_pos n.val n.isLt, select_word]
  unfold Args.padded
  by_cases h : 112 ≤ 640 * n.val + r.val
  · rw [if_pos h, dif_pos (show 112 ≤ (pos n r).val from h)]
    unfold Args.normed
    have hs := fun k => source_apply H r k h
    simp only [hs, H.gain]
    rfl
  · rw [if_neg h, dif_neg (show ¬ 112 ≤ (pos n r).val from h)]

/-- The rows that every projection of the body reads. -/
theorem pay42_apply (i : grid0.Coords) (hi : (i 1).val = n.val) (r : Fin 640) (d : Fin 1024) :
    k0_pay42 i x0 x1 x2 x3 x4 x5 x6 x7 x8 x9 (ix2 r d) = A.padded b (pos n r) d := by
  unfold k0_pay42
  have e0 : View.ld x0 r0_0 = x0 := View.ld_unit_zero (by decide) _ _
  have e1 : View.ld x1 r0_1 = x1 := View.ld_unit_zero (by decide) _ _
  have e2 : View.ld x2 r0_2 = x2 := View.ld_unit_zero (by decide) _ _
  rw [e0, e1, e2]
  exact rows_apply H i hi r d

/-- The product of the rows with a column of the weight. -/
theorem proj_apply (X : FVec Ideal S640x1024 .bf16) (hX : ∀ (r : Fin 640) (d : Fin 1024), X (ix2 r d) = A.padded b (pos n r) d)
    (r : Fin 640) (e : Fin 3328) :
    ∑ k : Fin 1024, (X (ix2 r k) : EReal) * x3 (ix2 k e) = A.proj b (pos n r) e := by
  rw [← Args.sum_padded]
  refine Finset.sum_congr rfl fun k _ => ?_
  rw [hX, H.weight]

/-- Result 5: the projection's columns from 1792 on. -/
theorem out15_apply (i : grid0.Coords) (hi : (i 1).val = n.val) (r : Fin 640) (e : Fin 512) :
    out0_15 i x0 x1 x2 x3 x4 x5 x6 x7 x8 x9 (ix3 0 r e) = A.proj b (pos n r) ⟨1792 + e.val, by omega⟩ := by
  unfold out0_15
  rw [View.canon_unit_zero (by decide)]
  pointwise [k0_pay2]
  exact proj_apply H _ (pay42_apply H i hi) r _

/-- Result 6: the projection's columns from 2304 on. -/
theorem out16_apply (i : grid0.Coords) (hi : (i 1).val = n.val) (r : Fin 640) (e : Fin 512) :
    out0_16 i x0 x1 x2 x3 x4 x5 x6 x7 x8 x9 (ix3 0 r e) = A.proj b (pos n r) ⟨2304 + e.val, by omega⟩ := by
  unfold out0_16
  rw [View.canon_unit_zero (by decide)]
  pointwise [k0_pay3]
  exact proj_apply H _ (pay42_apply H i hi) r _

/-- Result 7: the projection's columns from 2816 on. -/
theorem out17_apply (i : grid0.Coords) (hi : (i 1).val = n.val) (r : Fin 640) (e : Fin 512) :
    out0_17 i x0 x1 x2 x3 x4 x5 x6 x7 x8 x9 (ix3 0 r e) = A.proj b (pos n r) ⟨2816 + e.val, by omega⟩ := by
  unfold out0_17
  rw [View.canon_unit_zero (by decide)]
  pointwise [k0_pay4]
  exact proj_apply H _ (pay42_apply H i hi) r _

end

end Cert.KernelIdeal.Body
-- ==== Proof.Heads.lean ====
/- One run of the body: the queries, and the keys and values spread over eight half rows of 64 lanes. -/
module

public import proofs.«01_k».proof.Proof.Row

@[expose] public section

noncomputable section

namespace Cert.KernelIdeal.Body

open Cert.KernelIdeal Cert.KernelIdeal.Gen Cert.InProj Idealize.ShloMosaic Idealize.ShloMosaic.TcCoe Idealize.SL.Sem

variable {A : Args} {b : Fin 4} {n : Fin 13} {x0 : Vec Ideal S1x640x1024 .f32} {x1 : Vec Ideal S128x1024 .f32}
  {x2 : Vec Ideal S1x1024 .f32} {x3 : Vec Ideal S1024x3328 .bf16} {x4 x5 : Vec Ideal S640x128 .f32}
  {x6 : Vec Ideal S1x512 .f32} {x7 : Vec Ideal S1x128 .f32} {x8 : Vec Ideal S512x512 .bf16} {x9 : Vec Ideal S128x128 .bf16}
variable (H : Reads A b n x0 x1 x2 x3 x4 x5 x6 x7 x8 x9)
include H

theorem pay6_apply (i : grid0.Coords) (hi : (i 1).val = n.val) (r : Fin 640) (e : Fin 512) :
    k0_pay6 i x0 x1 x2 (View.ld x3 r0_3) (ix2 r e) = A.proj b (pos n r) ⟨e.val, by omega⟩ := by
  pointwise [k0_pay6]
  exact proj_apply H _ (rows_apply H i hi) r _

theorem pay7_apply (i : grid0.Coords) (hi : (i 1).val = n.val) (r : Fin 640) (e : Fin 512) :
    k0_pay7 i x0 x1 x2 (View.ld x3 r0_3) (ix2 r e) = A.proj b (pos n r) ⟨e.val, by omega⟩ * A.proj b (pos n r) ⟨e.val, by omega⟩ := by
  rw [← pay6_apply H i hi r e]
  rfl

/-- The queries. -/
theorem out10_apply (i : grid0.Coords) (hi : (i 1).val = n.val) (r : Fin 640) (e : Fin 512) :
    out0_10 i x0 x1 x2 x3 x4 x5 x6 x7 x8 x9 (ix3 0 r e) = A.query b (pos n r) e := by
  unfold out0_10
  rw [View.canon_unit_zero (by decide)]
  have e0 : View.ld x0 r0_0 = x0 := View.ld_unit_zero (by decide) _ _
  have e1 : View.ld x1 r0_1 = x1 := View.ld_unit_zero (by decide) _ _
  have e2 : View.ld x2 r0_2 = x2 := View.ld_unit_zero (by decide) _ _
  rw [e0, e1, e2]
  have h6 := pay6_apply H i hi r e
  have h7 := fun x => pay7_apply H i hi r x
  generalize k0_pay6 i x0 x1 x2 (View.ld x3 r0_3) = P at h6
  generalize k0_pay7 i x0 x1 x2 (View.ld x3 r0_3) = Q at h7
  pointwise [k0_pay8]
  simp only [h6, h7, H.queryMean, H.queryGain]
  rw [head_mean (by norm_num) (fun x : Fin 512 => A.proj b (pos n r) ⟨x.val, by omega⟩ * A.proj b (pos n r) ⟨x.val, by omega⟩) e]
  unfold Args.query
  rw [mul_assoc _ _ qScale]
  rfl

/-- The keys, before they are spread. -/
theorem pay43_apply (i : grid0.Coords) (hi : (i 1).val = n.val) (r : Fin 640) (e : Fin 128) :
    k0_pay43 i x0 x1 x2 x3 x4 x5 x6 x7 x8 x9 (ix2 r e) = A.key b (pos n r) e := by
  unfold k0_pay43
  have h := pay42_apply H i hi
  generalize k0_pay42 i x0 x1 x2 x3 x4 x5 x6 x7 x8 x9 = X at h
  have hp : ∀ c : Fin 128, ∑ k : Fin 1024, (X (ix2 r k) : EReal) * View.ld x3 r0_7 (ix2 k c) = A.proj b (pos n r) ⟨512 + c.val, by omega⟩ :=
    fun c => (Finset.sum_congr rfl fun k _ => congrArg (fun y : EReal => (X (ix2 r k) : EReal) * y) (w_512 x3 k c)).trans (proj_apply H X h r _)
  have e8 : View.ld x9 r0_8 = x9 := View.ld_unit_zero (by decide) _ _
  have e9 : View.ld x7 r0_9 = x7 := View.ld_unit_zero (by decide) _ _
  rw [e8, e9]
  generalize View.ld x3 r0_7 = W at hp
  pointwise [k0_pay9]
  simp only [hp, H.keyMean, H.keyGain]
  rw [head_mean (by norm_num) (fun x : Fin 128 => A.proj b (pos n r) ⟨512 + x.val, by omega⟩ * A.proj b (pos n r) ⟨512 + x.val, by omega⟩) e]
  rfl

/-- The values, before they are spread. -/
theorem pay44_apply (i : grid0.Coords) (hi : (i 1).val = n.val) (r : Fin 640) (e : Fin 128) :
    k0_pay44 i x0 x1 x2 x3 x4 x5 x6 x7 x8 x9 (ix2 r e) = A.value b (pos n r) e := by
  unfold k0_pay44
  have h := pay42_apply H i hi
  generalize k0_pay42 i x0 x1 x2 x3 x4 x5 x6 x7 x8 x9 = X at h
  pointwise [k0_pay10]
  exact proj_apply H X h r _

omit H

/-! ## Half rows: lane `d` of block `j` of a row spread by `twice` -/

theorem twice_block0 (t : Fin 128 → EReal) (d : Fin 128) (e : Fin 512) (he : e.val = 0 + d.val) :
    (if d.val < 64 then t d else 0) = twice t e := by
  unfold twice
  split_ifs <;> first | rfl | omega | exact congrArg t (Fin.ext (by dsimp only; omega))

theorem twice_block1 (t : Fin 128 → EReal) (d : Fin 128) (e : Fin 512) (he : e.val = 128 + d.val) :
    (if (d.val + 128 - 64) % 128 < 64 then t ⟨(d.val + 128 - 64) % 128, by omega⟩ else 0) = twice t e := by
  unfold twice
  split_ifs <;> first | rfl | omega | exact congrArg t (Fin.ext (by dsimp only; omega))

theorem twice_block2 (t : Fin 128 → EReal) (d : Fin 128) (e : Fin 512) (he : e.val = 256 + d.val) :
    (if (d.val + 128 - 64) % 128 < 64 then 0 else t ⟨(d.val + 128 - 64) % 128, by omega⟩) = twice t e := by
  unfold twice
  split_ifs <;> first | rfl | omega | exact congrArg t (Fin.ext (by dsimp only; omega))

theorem twice_block3 (t : Fin 128 → EReal) (d : Fin 128) (e : Fin 512) (he : e.val = 384 + d.val) :
    (if d.val < 64 then 0 else t d) = twice t e := by
  unfold twice
  split_ifs <;> first | rfl | omega | exact congrArg t (Fin.ext (by dsimp only; omega))

/-- The word of a rotated lane. -/
theorem word_rot (d : Fin 128) : IntOp.cmpi .slt (BitVec.ofNat 32 ((d.val + 128 - 64) % 128)) 64#32
    = BitVec.ofBool (decide ((d.val + 128 - 64) % 128 < 64)) := word_lane ⟨(d.val + 128 - 64) % 128, by omega⟩

theorem key_block0 (p : FVec Ideal S640x128 .f32) (t : Fin 128 → EReal) (r : Fin 640) (h : ∀ d : Fin 128, p (ix2 r d) = t d)
    (e : Fin 512) (u : Fin 1) (r' : Fin 640) (d : Fin 128) (hr : r.val = r'.val) (he : e.val = d.val) :
    k0_pay15 p (Scalar.ofBits .f32 0x00000000#32) k0_pay12 (ix3 u r' d) = twice t e := by
  obtain rfl : r = r' := Fin.ext hr
  pointwise [k0_pay15, k0_pay13, k0_pay12, k0_pay11]
  rw [word_lane, select_word, h]
  exact twice_block0 t d e (by omega)

theorem key_block1 (p : FVec Ideal S640x128 .f32) (t : Fin 128 → EReal) (r : Fin 640) (h : ∀ d : Fin 128, p (ix2 r d) = t d)
    (e : Fin 512) (u : Fin 1) (r' : Fin 640) (d : Fin 128) (hr : r.val = r'.val) (he : e.val = 128 + d.val) :
    k0_pay16 p (Scalar.ofBits .f32 0x00000000#32) k0_pay12 (ix3 u r' d) = twice t e := by
  obtain rfl : r = r' := Fin.ext hr
  pointwise [k0_pay16, k0_pay13, k0_pay12, k0_pay11]
  rw [word_rot, select_word, h]
  exact twice_block1 t d e (by omega)

theorem key_block2 (p : FVec Ideal S640x128 .f32) (t : Fin 128 → EReal) (r : Fin 640) (h : ∀ d : Fin 128, p (ix2 r d) = t d)
    (e : Fin 512) (u : Fin 1) (r' : Fin 640) (d : Fin 128) (hr : r.val = r'.val) (he : e.val = 256 + d.val) :
    k0_pay17 p k0_pay11 (ix3 u r' d) = twice t e := by
  obtain rfl : r = r' := Fin.ext hr
  pointwise [k0_pay17, k0_pay14, k0_pay11]
  rw [word_rot, select_word, h]
  exact twice_block2 t d e (by omega)

theorem key_block3 (p : FVec Ideal S640x128 .f32) (t : Fin 128 → EReal) (r : Fin 640) (h : ∀ d : Fin 128, p (ix2 r d) = t d)
    (e : Fin 512) (u : Fin 1) (r' : Fin 640) (d : Fin 128) (hr : r.val = r'.val) (he : e.val = 384 + d.val) :
    k0_pay18 p k0_pay11 (ix3 u r' d) = twice t e := by
  obtain rfl : r = r' := Fin.ext hr
  pointwise [k0_pay18, k0_pay14, k0_pay11]
  rw [word_lane, select_word, h]
  exact twice_block3 t d e (by omega)

theorem value_block0 (p : FVec Ideal S640x128 .f32) (t : Fin 128 → EReal) (r : Fin 640) (h : ∀ d : Fin 128, p (ix2 r d) = t d)
    (e : Fin 512) (u : Fin 1) (r' : Fin 640) (d : Fin 128) (hr : r.val = r'.val) (he : e.val = d.val) :
    k0_pay24 (k0_pay23 p k0_pay11) (ix3 u r' d) = twice t e := by
  obtain rfl : r = r' := Fin.ext hr
  pointwise [k0_pay24, k0_pay23, k0_pay19, k0_pay11]
  rw [word_lane, select_word, h]
  exact twice_block0 t d e (by omega)

theorem value_block1 (p : FVec Ideal S640x128 .f32) (t : Fin 128 → EReal) (r : Fin 640) (h : ∀ d : Fin 128, p (ix2 r d) = t d)
    (e : Fin 512) (u : Fin 1) (r' : Fin 640) (d : Fin 128) (hr : r.val = r'.val) (he : e.val = 128 + d.val) :
    k0_pay25 (k0_pay21 p k0_pay11) (ix3 u r' d) = twice t e := by
  obtain rfl : r = r' := Fin.ext hr
  pointwise [k0_pay25, k0_pay21, k0_pay19, k0_pay11]
  rw [word_rot, select_word, h]
  exact twice_block1 t d e (by omega)

theorem value_block2 (p : FVec Ideal S640x128 .f32) (t : Fin 128 → EReal) (r : Fin 640) (h : ∀ d : Fin 128, p (ix2 r d) = t d)
    (e : Fin 512) (u : Fin 1) (r' : Fin 640) (d : Fin 128) (hr : r.val = r'.val) (he : e.val = 256 + d.val) :
    k0_pay26 (k0_pay22 p k0_pay11) (ix3 u r' d) = twice t e := by
  obtain rfl : r = r' := Fin.ext hr
  pointwise [k0_pay26, k0_pay22, k0_pay20, k0_pay11]
  rw [word_rot, select_word, h]
  exact twice_block2 t d e (by omega)

theorem value_block3 (p : FVec Ideal S640x128 .f32) (t : Fin 128 → EReal) (r : Fin 640) (h : ∀ d : Fin 128, p (ix2 r d) = t d)
    (e : Fin 512) (u : Fin 1) (r' : Fin 640) (d : Fin 128) (hr : r.val = r'.val) (he : e.val = 384 + d.val) :
    k0_pay27 (k0_pay20 p k0_pay11) (ix3 u r' d) = twice t e := by
  obtain rfl : r = r' := Fin.ext hr
  pointwise [k0_pay27, k0_pay20, k0_pay11]
  rw [word_lane, select_word, h]
  exact twice_block3 t d e (by omega)

include H

/-- The spread keys. -/
theorem out11_apply (i : grid0.Coords) (hi : (i 1).val = n.val) (r : Fin 640) (e : Fin 512) :
    out0_11 i x0 x1 x2 x3 x4 x5 x6 x7 x8 x9 (ix3 0 r e) = twice (A.key b (pos n r)) e := by
  have h := pay43_apply H i hi r
  unfold out0_11 k0_pay46 k0_pay45
  generalize k0_pay43 i x0 x1 x2 x3 x4 x5 x6 x7 x8 x9 = p at h
  canon_tiles x hx
  all_goals rw [eq_ix3 x]
  · exact key_block3 p _ r h e _ _ _ hx1 hx2
  · exact key_block2 p _ r h e _ _ _ hx1 hx2
  · exact key_block1 p _ r h e _ _ _ hx1 hx2
  · exact key_block0 p _ r h e _ _ _ hx1 hx2

/-- The spread values. -/
theorem out12_apply (i : grid0.Coords) (hi : (i 1).val = n.val) (r : Fin 640) (e : Fin 512) :
    out0_12 i x0 x1 x2 x3 x4 x5 x6 x7 x8 x9 (ix3 0 r e) = twice (A.value b (pos n r)) e := by
  have h := pay44_apply H i hi r
  unfold out0_12 k0_pay45
  generalize k0_pay44 i x0 x1 x2 x3 x4 x5 x6 x7 x8 x9 = p at h
  canon_tiles x hx
  all_goals rw [eq_ix3 x]
  · exact value_block3 p _ r h e _ _ _ hx1 hx2
  · exact value_block2 p _ r h e _ _ _ hx1 hx2
  · exact value_block1 p _ r h e _ _ _ hx1 hx2
  · exact value_block0 p _ r h e _ _ _ hx1 hx2

end Cert.KernelIdeal.Body
-- ==== Proof.Rotary.lean ====
/- One run of the body: the retention's queries and keys, rotated in heads of 128 lanes by the position's angles. -/
module

public import proofs.«01_k».proof.Proof.Row

@[expose] public section

noncomputable section

namespace Cert.KernelIdeal.Body

open Cert.KernelIdeal Cert.KernelIdeal.Gen Cert.InProj Idealize.ShloMosaic Idealize.ShloMosaic.TcCoe Idealize.SL.Sem

/-- A rotation written with a signed sine and the head turned by 64 lanes. -/
theorem Args.rotated_of_turn (A : Args) (o : ℕ) (ho : o + 512 ≤ 3328) (b : Fin 4) (r : Fin 8320) (e : Fin 512) (j : ℕ) (d : Fin 128)
    (hj : j < 4) (he : e.val = 128 * j + d.val) :
    A.proj b r ⟨o + (128 * j + d.val), by omega⟩
        * (if d.val < 64 then Ideal.cos (angle r.val d.val) else Ideal.cos (angle r.val (d.val - 64)))
      + A.proj b r ⟨o + (128 * j + (d.val + 128 - 64) % 128), by omega⟩
        * (if d.val < 64 then -Ideal.sin (angle r.val d.val) else Ideal.sin (angle r.val (d.val - 64)))
      = A.rotated o ho b r e := by
  have hm : e.val % 128 = d.val := by omega
  have e1 : (⟨o + (128 * j + d.val), by omega⟩ : Fin 3328) = ⟨o + e.val, by omega⟩ := Fin.ext (by dsimp only; omega)
  rw [e1]
  unfold Args.rotated
  by_cases hd : d.val < 64
  · have e2 : (⟨o + (128 * j + (d.val + 128 - 64) % 128), by omega⟩ : Fin 3328) = ⟨o + (e.val + 64), by omega⟩ :=
      Fin.ext (by dsimp only; omega)
    rw [if_pos hd, if_pos hd, dif_pos (by omega), mul_neg, ← sub_eq_add_neg, e2]
    simp only [hm]
  · have e2 : (⟨o + (128 * j + (d.val + 128 - 64) % 128), by omega⟩ : Fin 3328) = ⟨o + (e.val - 64), by omega⟩ :=
      Fin.ext (by dsimp only; omega)
    rw [if_neg hd, if_neg hd, dif_neg (by omega), add_comm, e2]
    simp only [hm]

variable {A : Args} {b : Fin 4} {n : Fin 13} {x0 : Vec Ideal S1x640x1024 .f32} {x1 : Vec Ideal S128x1024 .f32}
  {x2 : Vec Ideal S1x1024 .f32} {x3 : Vec Ideal S1024x3328 .bf16} {x4 x5 : Vec Ideal S640x128 .f32}
  {x6 : Vec Ideal S1x512 .f32} {x7 : Vec Ideal S1x128 .f32} {x8 : Vec Ideal S512x512 .bf16} {x9 : Vec Ideal S128x128 .bf16}

/-! ## One head's payload, from the four columns it reads -/

theorem rq_head0 (X : FVec Ideal S640x1024 .bf16) (C S : Vec Ideal S640x128 .f32) (W : Vec Ideal S1024x512 .bf16)
    (P : Fin 512 → EReal) (u : Fin 1) (r : Fin 640) (d : Fin 128)
    (hP : ∀ c : Fin 512, ∑ k : Fin 1024, (X (ix2 r k) : EReal) * W (ix2 k c) = P c) :
    k0_pay31 X C S W (ix3 u r d)
      = P ⟨0 + d.val, by omega⟩ * C (ix2 r d) + P ⟨0 + (d.val + 128 - 64) % 128, by omega⟩ * S (ix2 r d) := by
  pointwise [k0_pay31, k0_pay30, k0_pay28, k0_pay29]
  rw [hP, hP] <;> first | rfl | exact congrArg₂ (fun y z => P y * C (ix2 r d) + P z * S (ix2 r d)) (Fin.ext (by dsimp only; omega)) (Fin.ext (by dsimp only; omega))

theorem rq_head1 (X : FVec Ideal S640x1024 .bf16) (C S : Vec Ideal S640x128 .f32) (W : Vec Ideal S1024x512 .bf16)
    (P : Fin 512 → EReal) (u : Fin 1) (r : Fin 640) (d : Fin 128)
    (hP : ∀ c : Fin 512, ∑ k : Fin 1024, (X (ix2 r k) : EReal) * W (ix2 k c) = P c) :
    k0_pay32 (k0_pay28 C) (k0_pay29 S) (k0_pay30 X W) (ix3 u r d)
      = P ⟨128 + d.val, by omega⟩ * C (ix2 r d) + P ⟨128 + (d.val + 128 - 64) % 128, by omega⟩ * S (ix2 r d) := by
  pointwise [k0_pay32, k0_pay30, k0_pay28, k0_pay29]
  rw [hP, hP] <;> first | rfl | exact congrArg₂ (fun y z => P y * C (ix2 r d) + P z * S (ix2 r d)) (Fin.ext (by dsimp only; omega)) (Fin.ext (by dsimp only; omega))

theorem rq_head2 (X : FVec Ideal S640x1024 .bf16) (C S : Vec Ideal S640x128 .f32) (W : Vec Ideal S1024x512 .bf16)
    (P : Fin 512 → EReal) (u : Fin 1) (r : Fin 640) (d : Fin 128)
    (hP : ∀ c : Fin 512, ∑ k : Fin 1024, (X (ix2 r k) : EReal) * W (ix2 k c) = P c) :
    k0_pay33 (k0_pay28 C) (k0_pay29 S) (k0_pay30 X W) (ix3 u r d)
      = P ⟨256 + d.val, by omega⟩ * C (ix2 r d) + P ⟨256 + (d.val + 128 - 64) % 128, by omega⟩ * S (ix2 r d) := by
  pointwise [k0_pay33, k0_pay30, k0_pay28, k0_pay29]
  rw [hP, hP] <;> first | rfl | exact congrArg₂ (fun y z => P y * C (ix2 r d) + P z * S (ix2 r d)) (Fin.ext (by dsimp only; omega)) (Fin.ext (by dsimp only; omega))

theorem rq_head3 (X : FVec Ideal S640x1024 .bf16) (C S : Vec Ideal S640x128 .f32) (W : Vec Ideal S1024x512 .bf16)
    (P : Fin 512 → EReal) (u : Fin 1) (r : Fin 640) (d : Fin 128)
    (hP : ∀ c : Fin 512, ∑ k : Fin 1024, (X (ix2 r k) : EReal) * W (ix2 k c) = P c) :
    k0_pay34 (k0_pay28 C) (k0_pay29 S) (k0_pay30 X W) (ix3 u r d)
      = P ⟨384 + d.val, by omega⟩ * C (ix2 r d) + P ⟨384 + (d.val + 128 - 64) % 128, by omega⟩ * S (ix2 r d) := by
  pointwise [k0_pay34, k0_pay30, k0_pay28, k0_pay29]
  rw [hP, hP] <;> first | rfl | exact congrArg₂ (fun y z => P y * C (ix2 r d) + P z * S (ix2 r d)) (Fin.ext (by dsimp only; omega)) (Fin.ext (by dsimp only; omega))

theorem rk_head0 (X : FVec Ideal S640x1024 .bf16) (C S : Vec Ideal S640x128 .f32) (W : Vec Ideal S1024x512 .bf16)
    (P : Fin 512 → EReal) (u : Fin 1) (r : Fin 640) (d : Fin 128)
    (hP : ∀ c : Fin 512, ∑ k : Fin 1024, (X (ix2 r k) : EReal) * W (ix2 k c) = P c) :
    k0_pay38 (k0_pay29 S) (k0_pay36 X W) (k0_pay37 X (k0_pay28 C) W) 64#32 (ix3 u r d)
      = (P ⟨0 + d.val, by omega⟩ * C (ix2 r d) + P ⟨0 + (d.val + 128 - 64) % 128, by omega⟩ * S (ix2 r d)) * kScale := by
  pointwise [k0_pay38, k0_pay36, k0_pay37, k0_pay35, k0_pay28, k0_pay29]
  rw [hP, hP] <;> first | rfl | exact congrArg₂ (fun y z => (P y * C (ix2 r d) + P z * S (ix2 r d)) * kScale) (Fin.ext (by dsimp only; omega)) (Fin.ext (by dsimp only; omega))

theorem rk_head1 (X : FVec Ideal S640x1024 .bf16) (C S : Vec Ideal S640x128 .f32) (W : Vec Ideal S1024x512 .bf16)
    (P : Fin 512 → EReal) (u : Fin 1) (r : Fin 640) (d : Fin 128)
    (hP : ∀ c : Fin 512, ∑ k : Fin 1024, (X (ix2 r k) : EReal) * W (ix2 k c) = P c) :
    k0_pay39 (k0_pay28 C) (k0_pay29 S) (k0_pay35 X W) (ix3 u r d)
      = (P ⟨128 + d.val, by omega⟩ * C (ix2 r d) + P ⟨128 + (d.val + 128 - 64) % 128, by omega⟩ * S (ix2 r d)) * kScale := by
  pointwise [k0_pay39, k0_pay35, k0_pay28, k0_pay29]
  rw [hP, hP] <;> first | rfl | exact congrArg₂ (fun y z => (P y * C (ix2 r d) + P z * S (ix2 r d)) * kScale) (Fin.ext (by dsimp only; omega)) (Fin.ext (by dsimp only; omega))

theorem rk_head2 (X : FVec Ideal S640x1024 .bf16) (C S : Vec Ideal S640x128 .f32) (W : Vec Ideal S1024x512 .bf16)
    (P : Fin 512 → EReal) (u : Fin 1) (r : Fin 640) (d : Fin 128)
    (hP : ∀ c : Fin 512, ∑ k : Fin 1024, (X (ix2 r k) : EReal) * W (ix2 k c) = P c) :
    k0_pay40 (k0_pay28 C) (k0_pay29 S) (k0_pay35 X W) (ix3 u r d)
      = (P ⟨256 + d.val, by omega⟩ * C (ix2 r d) + P ⟨256 + (d.val + 128 - 64) % 128, by omega⟩ * S (ix2 r d)) * kScale := by
  pointwise [k0_pay40, k0_pay35, k0_pay28, k0_pay29]
  rw [hP, hP] <;> first | rfl | exact congrArg₂ (fun y z => (P y * C (ix2 r d) + P z * S (ix2 r d)) * kScale) (Fin.ext (by dsimp only; omega)) (Fin.ext (by dsimp only; omega))

theorem rk_head3 (X : FVec Ideal S640x1024 .bf16) (C S : Vec Ideal S640x128 .f32) (W : Vec Ideal S1024x512 .bf16)
    (P : Fin 512 → EReal) (u : Fin 1) (r : Fin 640) (d : Fin 128)
    (hP : ∀ c : Fin 512, ∑ k : Fin 1024, (X (ix2 r k) : EReal) * W (ix2 k c) = P c) :
    k0_pay1 (k0_pay41 (k0_pay28 C) (k0_pay29 S) (k0_pay35 X W)) (ix3 u r d)
      = (P ⟨384 + d.val, by omega⟩ * C (ix2 r d) + P ⟨384 + (d.val + 128 - 64) % 128, by omega⟩ * S (ix2 r d)) * kScale := by
  pointwise [k0_pay1, k0_pay41, k0_pay35, k0_pay28, k0_pay29]
  rw [hP, hP] <;> first | rfl | exact congrArg₂ (fun y z => (P y * C (ix2 r d) + P z * S (ix2 r d)) * kScale) (Fin.ext (by dsimp only; omega)) (Fin.ext (by dsimp only; omega))

variable (H : Reads A b n x0 x1 x2 x3 x4 x5 x6 x7 x8 x9)
include H

/-- One head's sum, with the blocks' cosines and signed sines. -/
theorem head_apply (o : ℕ) (ho : o + 512 ≤ 3328) (r : Fin 640) (e : Fin 512) (j : ℕ) (d : Fin 128) (hj : j < 4) (he : e.val = 128 * j + d.val) :
    A.proj b (pos n r) ⟨o + (128 * j + d.val), by omega⟩ * (x4 (ix2 r d) : EReal)
      + A.proj b (pos n r) ⟨o + (128 * j + (d.val + 128 - 64) % 128), by omega⟩ * (x5 (ix2 r d) : EReal)
      = A.rotated o ho b (pos n r) e := by
  rw [H.cosine, H.sine]
  exact Args.rotated_of_turn A o ho b (pos n r) e j d hj he

/-- The rotated queries. -/
theorem out13_apply (i : grid0.Coords) (hi : (i 1).val = n.val) (r : Fin 640) (e : Fin 512) :
    out0_13 i x0 x1 x2 x3 x4 x5 x6 x7 x8 x9 (ix3 0 r e) = A.rotated 768 (by omega) b (pos n r) e := by
  have h := pay42_apply H i hi
  unfold out0_13 k0_pay49 k0_pay48 k0_pay47
  generalize k0_pay42 i x0 x1 x2 x3 x4 x5 x6 x7 x8 x9 = X at h
  have hp : ∀ c : Fin 512, ∑ k : Fin 1024, (X (ix2 r k) : EReal) * View.ld x3 r0_16 (ix2 k c) = A.proj b (pos n r) ⟨768 + c.val, by omega⟩ :=
    fun c => (Finset.sum_congr rfl fun k _ => congrArg (fun y : EReal => (X (ix2 r k) : EReal) * y) (w_768 x3 k c)).trans (proj_apply H X h r _)
  have e4 : View.ld x4 r0_15 = x4 := View.ld_unit_zero (by decide) _ _
  have e5 : View.ld x5 r0_15 = x5 := View.ld_unit_zero (by decide) _ _
  rw [e4, e5]
  generalize View.ld x3 r0_16 = W at hp
  canon_tiles x hx
  · have h1 : (x 1 : Fin 640) = r := Fin.ext hx1.symm
    rw [eq_ix3 x, h1]
    refine (rq_head3 X x4 x5 W _ _ r (x 2) hp).trans ?_
    exact head_apply H 768 (by omega) r e 3 (x 2) (by omega) hx2
  · have h1 : (x 1 : Fin 640) = r := Fin.ext hx1.symm
    rw [eq_ix3 x, h1]
    refine (rq_head2 X x4 x5 W _ _ r (x 2) hp).trans ?_
    exact head_apply H 768 (by omega) r e 2 (x 2) (by omega) hx2
  · have h1 : (x 1 : Fin 640) = r := Fin.ext hx1.symm
    rw [eq_ix3 x, h1]
    refine (rq_head1 X x4 x5 W _ _ r (x 2) hp).trans ?_
    exact head_apply H 768 (by omega) r e 1 (x 2) (by omega) hx2
  · have h1 : (x 1 : Fin 640) = r := Fin.ext hx1.symm
    rw [eq_ix3 x, h1]
    refine (rq_head0 X x4 x5 W _ _ r (x 2) hp).trans ?_
    exact head_apply H 768 (by omega) r e 0 (x 2) (by omega) (hx2.trans (Nat.zero_add _).symm)

/-- The rotated keys, scaled. -/
theorem out14_apply (i : grid0.Coords) (hi : (i 1).val = n.val) (r : Fin 640) (e : Fin 512) :
    out0_14 i x0 x1 x2 x3 x4 x5 x6 x7 x8 x9 (ix3 0 r e) = A.rotated 1280 (by omega) b (pos n r) e * kScale := by
  have h := pay42_apply H i hi
  unfold out0_14 k0_pay50 k0_pay48 k0_pay47
  generalize k0_pay42 i x0 x1 x2 x3 x4 x5 x6 x7 x8 x9 = X at h
  have hp : ∀ c : Fin 512, ∑ k : Fin 1024, (X (ix2 r k) : EReal) * View.ld x3 r0_17 (ix2 k c) = A.proj b (pos n r) ⟨1280 + c.val, by omega⟩ :=
    fun c => (Finset.sum_congr rfl fun k _ => congrArg (fun y : EReal => (X (ix2 r k) : EReal) * y) (w_1280 x3 k c)).trans (proj_apply H X h r _)
  have e4 : View.ld x4 r0_15 = x4 := View.ld_unit_zero (by decide) _ _
  have e5 : View.ld x5 r0_15 = x5 := View.ld_unit_zero (by decide) _ _
  rw [e4, e5]
  generalize View.ld x3 r0_17 = W at hp
  canon_tiles x hx
  · have h1 : (x 1 : Fin 640) = r := Fin.ext hx1.symm
    rw [eq_ix3 x, h1]
    refine (rk_head3 X x4 x5 W _ _ r (x 2) hp).trans ?_
    exact congrArg (· * kScale) (head_apply H 1280 (by omega) r e 3 (x 2) (by omega) hx2)
  · have h1 : (x 1 : Fin 640) = r := Fin.ext hx1.symm
    rw [eq_ix3 x, h1]
    refine (rk_head2 X x4 x5 W _ _ r (x 2) hp).trans ?_
    exact congrArg (· * kScale) (head_apply H 1280 (by omega) r e 2 (x 2) (by omega) hx2)
  · have h1 : (x 1 : Fin 640) = r := Fin.ext hx1.symm
    rw [eq_ix3 x, h1]
    refine (rk_head1 X x4 x5 W _ _ r (x 2) hp).trans ?_
    exact congrArg (· * kScale) (head_apply H 1280 (by omega) r e 1 (x 2) (by omega) hx2)
  · have h1 : (x 1 : Fin 640) = r := Fin.ext hx1.symm
    rw [eq_ix3 x, h1]
    refine (rk_head0 X x4 x5 W _ _ r (x 2) hp).trans ?_
    exact congrArg (· * kScale) (head_apply H 1280 (by omega) r e 0 (x 2) (by omega) (hx2.trans (Nat.zero_add _).symm))

end Cert.KernelIdeal.Body
-- ==== Proof.KernelValue.lean ====
/- What the launch leaves in its eight results: at every index the function that `Spec` gives. -/
module

public import proofs.«01_k».proof.Proof.HostValue
public import proofs.«01_k».proof.Proof.Heads
public import proofs.«01_k».proof.Proof.Rotary
public import Idealize.ShloMosaic.Lib.Pipeline.ValueKit

@[expose] public section

noncomputable section

namespace Cert.KernelIdeal.KernelValue

open Cert.KernelIdeal Cert.KernelIdeal.Gen Cert.KernelIdeal.Blocks Cert.KernelIdeal.HostValue Cert.KernelIdeal.Body Cert.InProj
  Idealize.ShloMosaic Idealize.ShloMosaic.TcCoe Idealize.SL.Sem

variable (m : (ℓ : Loc nD τ sig) → Buf (Elt Ideal) ℓ)

/-- The tile of a grid point. -/
def tileOf (t : Fin cfg0.N) : Fin 13 := ⟨t.val % 13, Nat.mod_lt _ (by decide)⟩

/-- The blocks of a grid point hold what the body's reading asks for. -/
theorem reads (c : Dev nD) (t : Fin cfg0.N) :
    Reads (args m c) (seqOf t) (tileOf t) (blk0 m c t) (blk1 m c t) (blk2 m c t) (blk3 m c t) (blk4 m c t) (blk5 m c t)
      (blk6 m c t) (blk7 m c t) (blk8 m c t) (blk9 m c t) where
  tokens r d := (blk0_apply m c t r d).trans (xA_apply m c _ _ _)
  head a d := (blk1_apply m c t a d).trans (headA_apply m c _ _)
  gain d := (blk2_apply m c t 0 d).trans (gA_apply m c _)
  weight d e := (blk3_apply m c t d e).trans (wA_apply m c _ _)
  cosine r d := (blk4_apply m c t r d).trans (ccA_apply m c _ _)
  sine r d := (blk5_apply m c t r d).trans (ssA_apply m c _ _)
  queryGain e := (blk6_apply m c t 0 e).trans (qgA_apply m c _)
  keyGain e := (blk7_apply m c t 0 e).trans (kgA_apply m c _)
  queryMean a d := (blk8_apply m c t a d).trans (bdqA_apply m c _ _)
  keyMean a d := (blk9_apply m c t a d).trans (bdkA_apply m c _ _)

/-- A function of sequence, position and lane, as an array. -/
def arr (f : Fin 4 → Fin 8320 → Fin 512 → EReal) : Vec Ideal S4x8320x512 .bf16 := fun y => f (y 0) (y 1) (y 2)

/-- An index of a block, by its row and lane. -/
theorem eq_row_lane (y : S1x640x512.Idx) : ∃ (r : Fin 640) (e : Fin 512), y = ix3 0 r e :=
  ⟨y 1, y 2, by
    have h : (y 0).val < 1 := (y 0).isLt
    funext a
    match a with
    | ⟨0, _⟩ => exact Fin.ext (by show (y 0).val = 0; omega)
    | ⟨1, _⟩ => rfl
    | ⟨2, _⟩ => rfl⟩

/-- Result 0, as an array. -/
def G0 (c : Dev nD) : Vec Ideal S4x8320x512 .bf16 := arr ((args m c).query)

theorem block0 (c : Dev nD) (t : Fin cfg0.N) (y : S1x640x512.Idx) :
    out0_10 (grid0.coords t) (blk0 m c t) (blk1 m c t) (blk2 m c t) (blk3 m c t) (blk4 m c t) (blk5 m c t)
      (blk6 m c t) (blk7 m c t) (blk8 m c t) (blk9 m c t) y = G0 m c ((win0_10.blk t).view.emb y) := by
  obtain ⟨r, e, rfl⟩ := eq_row_lane y
  refine (out10_apply (reads m c t) (grid0.coords t) (coord1 t) r e).trans ?_
  exact (congrArg (G0 m c) (emb10 t r e)).symm

theorem result0 (c : Dev nD) : (dats m 0 c).arrAt 10 cfg0.N = G0 m c := by
  refine (dats m 0 c).arrAt_eq_of_covers 10 _ (by decide +kernel) fun t hf y => ?_
  rw [after0_10]
  blk_simp
  exact block0 m c t y

/-- Result 1, as an array. -/
def G1 (c : Dev nD) : Vec Ideal S4x8320x512 .bf16 := arr (fun b r => twice ((args m c).key b r))

theorem block1 (c : Dev nD) (t : Fin cfg0.N) (y : S1x640x512.Idx) :
    out0_11 (grid0.coords t) (blk0 m c t) (blk1 m c t) (blk2 m c t) (blk3 m c t) (blk4 m c t) (blk5 m c t)
      (blk6 m c t) (blk7 m c t) (blk8 m c t) (blk9 m c t) y = G1 m c ((win0_11.blk t).view.emb y) := by
  obtain ⟨r, e, rfl⟩ := eq_row_lane y
  refine (out11_apply (reads m c t) (grid0.coords t) (coord1 t) r e).trans ?_
  exact (congrArg (G1 m c) (emb11 t r e)).symm

theorem result1 (c : Dev nD) : (dats m 0 c).arrAt 11 cfg0.N = G1 m c := by
  refine (dats m 0 c).arrAt_eq_of_covers 11 _ (by decide +kernel) fun t hf y => ?_
  rw [after0_11]
  blk_simp
  exact block1 m c t y

/-- Result 2, as an array. -/
def G2 (c : Dev nD) : Vec Ideal S4x8320x512 .bf16 := arr (fun b r => twice ((args m c).value b r))

theorem block2 (c : Dev nD) (t : Fin cfg0.N) (y : S1x640x512.Idx) :
    out0_12 (grid0.coords t) (blk0 m c t) (blk1 m c t) (blk2 m c t) (blk3 m c t) (blk4 m c t) (blk5 m c t)
      (blk6 m c t) (blk7 m c t) (blk8 m c t) (blk9 m c t) y = G2 m c ((win0_12.blk t).view.emb y) := by
  obtain ⟨r, e, rfl⟩ := eq_row_lane y
  refine (out12_apply (reads m c t) (grid0.coords t) (coord1 t) r e).trans ?_
  exact (congrArg (G2 m c) (emb12 t r e)).symm

theorem result2 (c : Dev nD) : (dats m 0 c).arrAt 12 cfg0.N = G2 m c := by
  refine (dats m 0 c).arrAt_eq_of_covers 12 _ (by decide +kernel) fun t hf y => ?_
  rw [after0_12]
  blk_simp
  exact block2 m c t y

/-- Result 3, as an array. -/
def G3 (c : Dev nD) : Vec Ideal S4x8320x512 .bf16 := arr ((args m c).rotated 768 (by omega))

theorem block3 (c : Dev nD) (t : Fin cfg0.N) (y : S1x640x512.Idx) :
    out0_13 (grid0.coords t) (blk0 m c t) (blk1 m c t) (blk2 m c t) (blk3 m c t) (blk4 m c t) (blk5 m c t)
      (blk6 m c t) (blk7 m c t) (blk8 m c t) (blk9 m c t) y = G3 m c ((win0_13.blk t).view.emb y) := by
  obtain ⟨r, e, rfl⟩ := eq_row_lane y
  refine (out13_apply (reads m c t) (grid0.coords t) (coord1 t) r e).trans ?_
  exact (congrArg (G3 m c) (emb13 t r e)).symm

theorem result3 (c : Dev nD) : (dats m 0 c).arrAt 13 cfg0.N = G3 m c := by
  refine (dats m 0 c).arrAt_eq_of_covers 13 _ (by decide +kernel) fun t hf y => ?_
  rw [after0_13]
  blk_simp
  exact block3 m c t y

/-- Result 4, as an array. -/
def G4 (c : Dev nD) : Vec Ideal S4x8320x512 .bf16 := arr (fun b r e => (args m c).rotated 1280 (by omega) b r e * kScale)

theorem block4 (c : Dev nD) (t : Fin cfg0.N) (y : S1x640x512.Idx) :
    out0_14 (grid0.coords t) (blk0 m c t) (blk1 m c t) (blk2 m c t) (blk3 m c t) (blk4 m c t) (blk5 m c t)
      (blk6 m c t) (blk7 m c t) (blk8 m c t) (blk9 m c t) y = G4 m c ((win0_14.blk t).view.emb y) := by
  obtain ⟨r, e, rfl⟩ := eq_row_lane y
  refine (out14_apply (reads m c t) (grid0.coords t) (coord1 t) r e).trans ?_
  exact (congrArg (G4 m c) (emb14 t r e)).symm

theorem result4 (c : Dev nD) : (dats m 0 c).arrAt 14 cfg0.N = G4 m c := by
  refine (dats m 0 c).arrAt_eq_of_covers 14 _ (by decide +kernel) fun t hf y => ?_
  rw [after0_14]
  blk_simp
  exact block4 m c t y

/-- Result 5, as an array. -/
def G5 (c : Dev nD) : Vec Ideal S4x8320x512 .bf16 := arr (fun b r e => (args m c).proj b r ⟨1792 + e.val, by omega⟩)

theorem block5 (c : Dev nD) (t : Fin cfg0.N) (y : S1x640x512.Idx) :
    out0_15 (grid0.coords t) (blk0 m c t) (blk1 m c t) (blk2 m c t) (blk3 m c t) (blk4 m c t) (blk5 m c t)
      (blk6 m c t) (blk7 m c t) (blk8 m c t) (blk9 m c t) y = G5 m c ((win0_15.blk t).view.emb y) := by
  obtain ⟨r, e, rfl⟩ := eq_row_lane y
  refine (out15_apply (reads m c t) (grid0.coords t) (coord1 t) r e).trans ?_
  exact (congrArg (G5 m c) (emb15 t r e)).symm

theorem result5 (c : Dev nD) : (dats m 0 c).arrAt 15 cfg0.N = G5 m c := by
  refine (dats m 0 c).arrAt_eq_of_covers 15 _ (by decide +kernel) fun t hf y => ?_
  rw [after0_15]
  blk_simp
  exact block5 m c t y

/-- Result 6, as an array. -/
def G6 (c : Dev nD) : Vec Ideal S4x8320x512 .bf16 := arr (fun b r e => (args m c).proj b r ⟨2304 + e.val, by omega⟩)

theorem block6 (c : Dev nD) (t : Fin cfg0.N) (y : S1x640x512.Idx) :
    out0_16 (grid0.coords t) (blk0 m c t) (blk1 m c t) (blk2 m c t) (blk3 m c t) (blk4 m c t) (blk5 m c t)
      (blk6 m c t) (blk7 m c t) (blk8 m c t) (blk9 m c t) y = G6 m c ((win0_16.blk t).view.emb y) := by
  obtain ⟨r, e, rfl⟩ := eq_row_lane y
  refine (out16_apply (reads m c t) (grid0.coords t) (coord1 t) r e).trans ?_
  exact (congrArg (G6 m c) (emb16 t r e)).symm

theorem result6 (c : Dev nD) : (dats m 0 c).arrAt 16 cfg0.N = G6 m c := by
  refine (dats m 0 c).arrAt_eq_of_covers 16 _ (by decide +kernel) fun t hf y => ?_
  rw [after0_16]
  blk_simp
  exact block6 m c t y

/-- Result 7, as an array. -/
def G7 (c : Dev nD) : Vec Ideal S4x8320x512 .bf16 := arr (fun b r e => (args m c).proj b r ⟨2816 + e.val, by omega⟩)

theorem block7 (c : Dev nD) (t : Fin cfg0.N) (y : S1x640x512.Idx) :
    out0_17 (grid0.coords t) (blk0 m c t) (blk1 m c t) (blk2 m c t) (blk3 m c t) (blk4 m c t) (blk5 m c t)
      (blk6 m c t) (blk7 m c t) (blk8 m c t) (blk9 m c t) y = G7 m c ((win0_17.blk t).view.emb y) := by
  obtain ⟨r, e, rfl⟩ := eq_row_lane y
  refine (out17_apply (reads m c t) (grid0.coords t) (coord1 t) r e).trans ?_
  exact (congrArg (G7 m c) (emb17 t r e)).symm

theorem result7 (c : Dev nD) : (dats m 0 c).arrAt 17 cfg0.N = G7 m c := by
  refine (dats m 0 c).arrAt_eq_of_covers 17 _ (by decide +kernel) fun t hf y => ?_
  rw [after0_17]
  blk_simp
  exact block7 m c t y

end Cert.KernelIdeal.KernelValue
-- ==== Proof.RefValue.lean ====
/- The reference's eight results, read at an index into the functions of `Spec`. -/
module

public import proofs.«01_k».proof.Proof.Gen.ReferenceIdeal.Read
public import proofs.«01_k».proof.Proof.Spec

@[expose] public section

set_option maxRecDepth 16384

noncomputable section

namespace Cert.ReferenceIdeal.RefValue

open Cert.ReferenceIdeal Cert.ReferenceIdeal.Gen Cert.ReferenceIdeal.Read Cert.InProj Idealize.ShloMosaic

variable (A : Args)

/-- Meta tokens in front of the tokens. -/
theorem row_apply (b : Fin 4) (n : Fin 8208) (d : Fin 1024) :
    val_main_v2 (F := Ideal) A.x A.mt (ix3 b n d) = A.row b n d := by
  unfold Args.row
  pointwise [val_main_v2, val_main_v1, val_main_v0]

/-- The normalized token. -/
theorem normed_apply (b : Fin 4) (n : Fin 8208) (d : Fin 1024) :
    val_main_v15 (F := Ideal) A.x A.mt A.g (ix3 b n d) = A.normed b n d := by
  pointwise [val_main_v15, val_main_v14, val_main_v13, val_main_v12, val_main_v11, val_main_v10, val_main_v9, val_main_v8,
    val_main_v7, val_main_v6, val_main_v5, val_main_v4, val_main_v3, val_main_cst, val_main_cst_0, val_main_cst_1]
  simp only [row_apply]
  rfl

/-- The padded projection. -/
theorem proj_apply (b : Fin 4) (r : Fin 8320) (e : Fin 3328) :
    val_main_v17 (F := Ideal) A.x A.mt A.g A.w (ix3 b r e) = A.proj b r e := by
  pointwise [val_main_v17, val_main_v16, val_main_c, val_main_call0_v0]
  simp only [normed_apply]
  unfold Args.proj
  by_cases h : 112 ≤ r.val
  · rw [dif_pos ⟨h, by omega⟩, dif_pos h]
  · rw [dif_neg (fun hh => h hh.1), dif_neg h]
    show (((0#32 : BitVec 32).toInt : ℝ) : EReal) = 0
    simp

/-- The queries' heads before their norm. -/
theorem v31_apply (b : Fin 4) (r : Fin 8320) (h : Fin 8) (k : Fin 64) :
    val_main_v31 (F := Ideal) A.x A.mt A.g A.w (ix4 b r h k) = A.proj b r ⟨h.val * 64 + k.val, by omega⟩ := by
  rw [← proj_apply]
  pointwise [val_main_v31, val_main_v23]

/-- Their squares. -/
theorem v32_apply (b : Fin 4) (r : Fin 8320) (h : Fin 8) (k : Fin 64) :
    val_main_v32 (F := Ideal) A.x A.mt A.g A.w (ix4 b r h k) = A.proj b r ⟨h.val * 64 + k.val, by omega⟩ * A.proj b r ⟨h.val * 64 + k.val, by omega⟩ := by
  rw [val_main_v32_apply, v31_apply]
  rfl

/-- The sum of the squares of a head. -/
theorem v33_apply (b : Fin 4) (r : Fin 8320) (h : Fin 8) :
    val_main_v33 (F := Ideal) A.x A.mt A.g A.w (ix3 b r h) = ∑ k : Fin 64, A.proj b r ⟨h.val * 64 + k.val, by omega⟩ * A.proj b r ⟨h.val * 64 + k.val, by omega⟩ := by
  have hs : ∀ k, idx_main_v33 (ix3 b r h) k = ix4 b r h k := fun k => (eq_ix4 _).trans rfl
  rw [val_main_v33_apply]
  simp only [hs, v32_apply, val_main_cst_3_apply]
  rw [show (FloatOps.ofBits FTy.f32 0#32 : Ideal .f32) = (0 : EReal) from Ideal.ofBits_zero_f32]
  exact zero_add _

/-- Their mean. -/
theorem v36_apply (b : Fin 4) (r : Fin 8320) (h : Fin 8) :
    val_main_v36 (F := Ideal) A.x A.mt A.g A.w (ix4 b r h 0) = Ideal.div (∑ k : Fin 64, A.proj b r ⟨h.val * 64 + k.val, by omega⟩ * A.proj b r ⟨h.val * 64 + k.val, by omega⟩) (Ideal.ofBits .f32 0x42800000#32) := by
  have hi : idx_main_v34 (ix4 b r h 0) = ix3 b r h := (eq_ix3 _).trans rfl
  rw [val_main_v36_apply, val_main_v34_apply, hi, v33_apply, val_main_v35_apply, val_main_cst_4_apply]
  rfl

/-- The reciprocal root of the mean. -/
theorem v39_apply (b : Fin 4) (r : Fin 8320) (h : Fin 8) :
    val_main_v39 (F := Ideal) A.x A.mt A.g A.w (ix4 b r h 0) = Ideal.rsqrt (Ideal.div (∑ k : Fin 64, A.proj b r ⟨h.val * 64 + k.val, by omega⟩ * A.proj b r ⟨h.val * 64 + k.val, by omega⟩) (Ideal.ofBits .f32 0x42800000#32) + eps) := by
  rw [val_main_v39_apply, val_main_v38_apply, v36_apply, val_main_v37_apply, val_main_cst_5_apply]
  rfl

/-- The queries' heads, normalized and multiplied by the gain. -/
theorem v44_apply (b : Fin 4) (r : Fin 8320) (h : Fin 8) (k : Fin 64) :
    val_main_v44 (F := Ideal) A.x A.mt A.g A.w A.gq (ix4 b r h k) =
      A.proj b r ⟨h.val * 64 + k.val, by omega⟩ * Ideal.rsqrt (Ideal.div (∑ k : Fin 64, A.proj b r ⟨h.val * 64 + k.val, by omega⟩ * A.proj b r ⟨h.val * 64 + k.val, by omega⟩) (Ideal.ofBits .f32 0x42800000#32) + eps) * A.gq (ix1 k) := by
  have hi : idx_main_v40 (ix4 b r h k) = ix4 b r h 0 := (eq_ix4 _).trans rfl
  have hg : idx_main_v42 (idx_main_v43 (ix4 b r h k)) = ix1 k := (eq_ix1 _).trans rfl
  rw [val_main_v44_apply, val_main_v41_apply, v31_apply, val_main_v40_apply, hi, v39_apply,
    val_main_v43_apply, val_main_v42_apply, hg]
  rfl

/-- The queries are the function `query`. -/
theorem query_apply (b : Fin 4) (r : Fin 8320) (e : Fin 512) :
    val_main_v148 (F := Ideal) A.x A.mt A.g A.w A.gq (ix3 b r e) = A.query b r e := by
  have hi : idx_main_v45 (ix3 b r e) = ix4 b r ⟨e.val / 64, by omega⟩ ⟨e.val % 64, by omega⟩ := by
    rw [eq_ix4 (idx_main_v45 (ix3 b r e))]
    exact congr (congr (congr (congrArg ix4 (Fin.ext (by show ((b.val * 8320 + r.val) * 512 + e.val) / 4259840 = b.val; omega)))
      (Fin.ext (by show ((b.val * 8320 + r.val) * 512 + e.val) / 512 % 8320 = r.val; omega)))
      (Fin.ext (by show ((b.val * 8320 + r.val) * 512 + e.val) / 64 % 8 = e.val / 64; omega)))
      (Fin.ext (by show ((b.val * 8320 + r.val) * 512 + e.val) % 64 = e.val % 64; omega))
  have he : (⟨e.val / 64 * 64 + e.val % 64, by omega⟩ : Fin 3328) = ⟨e.val, by omega⟩ := Fin.ext (by show e.val / 64 * 64 + e.val % 64 = e.val; omega)
  rw [val_main_v148_apply, val_main_v47_apply, val_main_v45_apply, hi, v44_apply, he, val_main_v46_apply, val_main_cst_6_apply]
  rfl

/-- The keys' heads before their norm. -/
theorem v48_apply (b : Fin 4) (r : Fin 8320) (h : Fin 2) (k : Fin 64) :
    val_main_v48 (F := Ideal) A.x A.mt A.g A.w (ix4 b r h k) = A.proj b r ⟨512 + (h.val * 64 + k.val), by omega⟩ := by
  rw [← proj_apply]
  pointwise [val_main_v48, val_main_v24]

/-- Their squares. -/
theorem v49_apply (b : Fin 4) (r : Fin 8320) (h : Fin 2) (k : Fin 64) :
    val_main_v49 (F := Ideal) A.x A.mt A.g A.w (ix4 b r h k) = A.proj b r ⟨512 + (h.val * 64 + k.val), by omega⟩ * A.proj b r ⟨512 + (h.val * 64 + k.val), by omega⟩ := by
  rw [val_main_v49_apply, v48_apply]
  rfl

/-- The sum of the squares of a head. -/
theorem v50_apply (b : Fin 4) (r : Fin 8320) (h : Fin 2) :
    val_main_v50 (F := Ideal) A.x A.mt A.g A.w (ix3 b r h) = ∑ k : Fin 64, A.proj b r ⟨512 + (h.val * 64 + k.val), by omega⟩ * A.proj b r ⟨512 + (h.val * 64 + k.val), by omega⟩ := by
  have hs : ∀ k, idx_main_v50 (ix3 b r h) k = ix4 b r h k := fun k => (eq_ix4 _).trans rfl
  rw [val_main_v50_apply]
  simp only [hs, v49_apply, val_main_cst_7_apply]
  rw [show (FloatOps.ofBits FTy.f32 0#32 : Ideal .f32) = (0 : EReal) from Ideal.ofBits_zero_f32]
  exact zero_add _

/-- Their mean. -/
theorem v53_apply (b : Fin 4) (r : Fin 8320) (h : Fin 2) :
    val_main_v53 (F := Ideal) A.x A.mt A.g A.w (ix4 b r h 0) = Ideal.div (∑ k : Fin 64, A.proj b r ⟨512 + (h.val * 64 + k.val), by omega⟩ * A.proj b r ⟨512 + (h.val * 64 + k.val), by omega⟩) (Ideal.ofBits .f32 0x42800000#32) := by
  have hi : idx_main_v51 (ix4 b r h 0) = ix3 b r h := (eq_ix3 _).trans rfl
  rw [val_main_v53_apply, val_main_v51_apply, hi, v50_apply, val_main_v52_apply, val_main_cst_8_apply]
  rfl

/-- The reciprocal root of the mean. -/
theorem v56_apply (b : Fin 4) (r : Fin 8320) (h : Fin 2) :
    val_main_v56 (F := Ideal) A.x A.mt A.g A.w (ix4 b r h 0) = Ideal.rsqrt (Ideal.div (∑ k : Fin 64, A.proj b r ⟨512 + (h.val * 64 + k.val), by omega⟩ * A.proj b r ⟨512 + (h.val * 64 + k.val), by omega⟩) (Ideal.ofBits .f32 0x42800000#32) + eps) := by
  rw [val_main_v56_apply, val_main_v55_apply, v53_apply, val_main_v54_apply, val_main_cst_9_apply]
  rfl

/-- The keys' heads, normalized and multiplied by the gain. -/
theorem v61_apply (b : Fin 4) (r : Fin 8320) (h : Fin 2) (k : Fin 64) :
    val_main_v61 (F := Ideal) A.x A.mt A.g A.w A.gk (ix4 b r h k) =
      A.proj b r ⟨512 + (h.val * 64 + k.val), by omega⟩ * Ideal.rsqrt (Ideal.div (∑ k : Fin 64, A.proj b r ⟨512 + (h.val * 64 + k.val), by omega⟩ * A.proj b r ⟨512 + (h.val * 64 + k.val), by omega⟩) (Ideal.ofBits .f32 0x42800000#32) + eps) * A.gk (ix1 k) := by
  have hi : idx_main_v57 (ix4 b r h k) = ix4 b r h 0 := (eq_ix4 _).trans rfl
  have hg : idx_main_v59 (idx_main_v60 (ix4 b r h k)) = ix1 k := (eq_ix1 _).trans rfl
  rw [val_main_v61_apply, val_main_v58_apply, v48_apply, val_main_v57_apply, hi, v56_apply,
    val_main_v60_apply, val_main_v59_apply, hg]
  rfl

/-- The keys in a row are the function `key`. -/
theorem v62_apply (b : Fin 4) (r : Fin 8320) (e : Fin 128) :
    val_main_v62 (F := Ideal) A.x A.mt A.g A.w A.gk (ix3 b r e) = A.key b r e := by
  have hi : idx_main_v62 (ix3 b r e) = ix4 b r ⟨e.val / 64, by omega⟩ ⟨e.val % 64, by omega⟩ := by
    rw [eq_ix4 (idx_main_v62 (ix3 b r e))]
    exact congr (congr (congr (congrArg ix4 (Fin.ext (by show ((b.val * 8320 + r.val) * 128 + e.val) / 1064960 = b.val; omega)))
      (Fin.ext (by show ((b.val * 8320 + r.val) * 128 + e.val) / 128 % 8320 = r.val; omega)))
      (Fin.ext (by show ((b.val * 8320 + r.val) * 128 + e.val) / 64 % 2 = e.val / 64; omega)))
      (Fin.ext (by show ((b.val * 8320 + r.val) * 128 + e.val) % 64 = e.val % 64; omega))
  have he : (⟨512 + (e.val / 64 * 64 + e.val % 64), by omega⟩ : Fin 3328) = ⟨512 + e.val, by omega⟩ :=
    Fin.ext (by show 512 + (e.val / 64 * 64 + e.val % 64) = 512 + e.val; omega)
  rw [val_main_v62_apply, hi, v61_apply, he]
  rfl

/-- The keys, each head of 64 lanes in the lower and in the upper half of a row of 128 lanes. -/
theorem key_apply (b : Fin 4) (r : Fin 8320) (e : Fin 512) :
    val_main_v149 (F := Ideal) A.x A.mt A.g A.w A.gk (ix3 b r e) = twice (A.key b r) e := by
  pointwise [val_main_v149, val_main_v141, val_main_v138, val_main_v139, val_main_v140, val_main_cst_19]
  simp only [v62_apply]
  rw [← twice_chain]

/-- The values in a row are the function `value`. -/
theorem v25_apply (b : Fin 4) (r : Fin 8320) (e : Fin 128) :
    val_main_v25 (F := Ideal) A.x A.mt A.g A.w (ix3 b r e) = A.value b r e := by
  unfold Args.value
  rw [← proj_apply]
  pointwise [val_main_v25]

/-- The values, each head of 64 lanes in the lower and in the upper half of a row of 128 lanes. -/
theorem value_apply (b : Fin 4) (r : Fin 8320) (e : Fin 512) :
    val_main_v150 (F := Ideal) A.x A.mt A.g A.w (ix3 b r e) = twice (A.value b r) e := by
  pointwise [val_main_v150, val_main_v145, val_main_v142, val_main_v143, val_main_v144, val_main_cst_20]
  simp only [v25_apply]
  rw [← twice_chain]

/-- The mask of the positions that hold a token. -/
theorem mask_apply (r : Fin 8320) :
    val_main_v22 (F := Ideal) (ix3 0 r 0) = (if 112 ≤ r.val then (1 : EReal) else 0 : EReal) := by
  have hi : idx_main_v22 (ix3 0 r 0) = ix1 r := (eq_ix1 _).trans rfl
  rw [val_main_v22_apply, hi, val_main_v21_apply, val_main_v20_apply, val_main_v18_apply, val_main_v19_apply, val_main_c_2_apply]
  show (((IntOp.cmpi .sge (BitVec.ofNat 32 r.val) 112#32).toNat : ℝ) : EReal) = _
  rw [WordCmp.cmpi_sge_ofNat (by omega) (by omega)]
  by_cases h : 112 ≤ r.val <;> simp [h]

/-- The angle, for the retention queries. -/
theorem v79_apply (r : Fin 8320) (k : Fin 64) : val_main_v79 (F := Ideal) (ix2 r k) = angle r.val k.val := by
  pointwise [val_main_v79, val_main_v78, val_main_v77, val_main_v76, val_main_v75, val_main_v74, val_main_v73,
    val_main_v72, val_main_v71, val_main_v70, val_main_v69, val_main_v68, val_main_v67, val_main_v66,
    val_main_v65, val_main_v64, val_main_cst_10, val_main_cst_11, val_main_cst_12, val_main_cst_13, val_main_v18]
  rfl

/-- Its cosine. -/
theorem v81_apply (r : Fin 8320) (k : Fin 64) : val_main_v81 (F := Ideal) (ix4 0 r 0 k) = Ideal.cos (angle r.val k.val) := by
  have hi : idx_main_v81 (ix4 0 r 0 k) = ix2 r k := (eq_ix2 _).trans rfl
  rw [val_main_v81_apply, hi, val_main_v80_apply, v79_apply]
  rfl

/-- Its sine. -/
theorem v83_apply (r : Fin 8320) (k : Fin 64) : val_main_v83 (F := Ideal) (ix4 0 r 0 k) = Ideal.sin (angle r.val k.val) := by
  have hi : idx_main_v83 (ix4 0 r 0 k) = ix2 r k := (eq_ix2 _).trans rfl
  rw [val_main_v83_apply, hi, val_main_v82_apply, v79_apply]
  rfl

/-- The retention queries' heads. -/
theorem v63_apply (b : Fin 4) (r : Fin 8320) (h : Fin 4) (k : Fin 128) :
    val_main_v63 (F := Ideal) A.x A.mt A.g A.w (ix4 b r h k) = A.proj b r ⟨768 + (h.val * 128 + k.val), by omega⟩ := by
  rw [← proj_apply]
  pointwise [val_main_v63, val_main_v26]

/-- Their lower lanes. -/
theorem v84_apply (b : Fin 4) (r : Fin 8320) (h : Fin 4) (k : Fin 64) :
    val_main_v84 (F := Ideal) A.x A.mt A.g A.w (ix4 b r h k) = A.proj b r ⟨768 + (h.val * 128 + k.val), by omega⟩ := by
  have hi : idx_main_v84 (ix4 b r h k) = ix4 b r h ⟨k.val, by omega⟩ := (eq_ix4 _).trans rfl
  rw [val_main_v84_apply, hi, v63_apply]

/-- Their upper lanes. -/
theorem v85_apply (b : Fin 4) (r : Fin 8320) (h : Fin 4) (k : Fin 64) :
    val_main_v85 (F := Ideal) A.x A.mt A.g A.w (ix4 b r h k) = A.proj b r ⟨768 + (h.val * 128 + (64 + k.val)), by omega⟩ := by
  have hi : idx_main_v85 (ix4 b r h k) = ix4 b r h ⟨64 + k.val, by omega⟩ := (eq_ix4 _).trans rfl
  rw [val_main_v85_apply, hi, v63_apply]

/-- The lower lanes, rotated. -/
theorem v90_apply (b : Fin 4) (r : Fin 8320) (h : Fin 4) (k : Fin 64) :
    val_main_v90 (F := Ideal) A.x A.mt A.g A.w (ix4 b r h k) =
      A.proj b r ⟨768 + (h.val * 128 + k.val), by omega⟩ * Ideal.cos (angle r.val k.val) - A.proj b r ⟨768 + (h.val * 128 + (64 + k.val)), by omega⟩ * Ideal.sin (angle r.val k.val) := by
  have hc : idx_main_v86 (ix4 b r h k) = ix4 0 r 0 k := (eq_ix4 _).trans rfl
  have hs : idx_main_v88 (ix4 b r h k) = ix4 0 r 0 k := (eq_ix4 _).trans rfl
  rw [val_main_v90_apply, val_main_v87_apply, val_main_v89_apply, v84_apply, v85_apply,
    val_main_v86_apply, val_main_v88_apply, hc, hs, v81_apply, v83_apply]
  rfl

/-- The upper lanes, rotated. -/
theorem v95_apply (b : Fin 4) (r : Fin 8320) (h : Fin 4) (k : Fin 64) :
    val_main_v95 (F := Ideal) A.x A.mt A.g A.w (ix4 b r h k) =
      A.proj b r ⟨768 + (h.val * 128 + k.val), by omega⟩ * Ideal.sin (angle r.val k.val) + A.proj b r ⟨768 + (h.val * 128 + (64 + k.val)), by omega⟩ * Ideal.cos (angle r.val k.val) := by
  have hc : idx_main_v91 (ix4 b r h k) = ix4 0 r 0 k := (eq_ix4 _).trans rfl
  have hs : idx_main_v93 (ix4 b r h k) = ix4 0 r 0 k := (eq_ix4 _).trans rfl
  rw [val_main_v95_apply, val_main_v92_apply, val_main_v94_apply, v84_apply, v85_apply,
    val_main_v91_apply, val_main_v93_apply, hc, hs, v81_apply, v83_apply]
  rfl

/-- The rotated heads in a row are the function `rotated`. -/
theorem v97_apply (b : Fin 4) (r : Fin 8320) (e : Fin 512) :
    val_main_v97 (F := Ideal) A.x A.mt A.g A.w (ix3 b r e) = A.rotated 768 (by omega) b r e := by
  have hi : idx_main_v97 (ix3 b r e) = ix4 b r ⟨e.val / 128, by omega⟩ ⟨e.val % 128, by omega⟩ := by
    rw [eq_ix4 (idx_main_v97 (ix3 b r e))]
    exact congr (congr (congr (congrArg ix4 (Fin.ext (by show ((b.val * 8320 + r.val) * 512 + e.val) / 4259840 = b.val; omega)))
      (Fin.ext (by show ((b.val * 8320 + r.val) * 512 + e.val) / 512 % 8320 = r.val; omega)))
      (Fin.ext (by show ((b.val * 8320 + r.val) * 512 + e.val) / 128 % 4 = e.val / 128; omega)))
      (Fin.ext (by show ((b.val * 8320 + r.val) * 512 + e.val) % 128 = e.val % 128; omega))
  have hcat : ∀ (h : Fin 4) (k : Fin 128), val_main_v96 (F := Ideal) A.x A.mt A.g A.w (ix4 b r h k) =
      if hk : k.val < 64 then val_main_v90 (F := Ideal) A.x A.mt A.g A.w (ix4 b r h ⟨k.val, hk⟩)
      else val_main_v95 (F := Ideal) A.x A.mt A.g A.w (ix4 b r h ⟨k.val - 64, by omega⟩) := fun h k => by
    pointwise [val_main_v96]
  rw [val_main_v97_apply, hi, hcat]
  simp only [v90_apply, v95_apply]
  unfold Args.rotated
  have e1 : ∀ h : e.val % 128 < 64, (⟨768 + (e.val / 128 * 128 + e.val % 128), by omega⟩ : Fin 3328) = ⟨768 + e.val, by omega⟩ :=
    fun h => Fin.ext (by show 768 + (e.val / 128 * 128 + e.val % 128) = 768 + e.val; omega)
  have e2 : ∀ h : e.val % 128 < 64, (⟨768 + (e.val / 128 * 128 + (64 + e.val % 128)), by omega⟩ : Fin 3328) = ⟨768 + (e.val + 64), by omega⟩ :=
    fun h => Fin.ext (by show 768 + (e.val / 128 * 128 + (64 + e.val % 128)) = 768 + (e.val + 64); omega)
  have e3 : ∀ h : ¬ e.val % 128 < 64, (⟨768 + (e.val / 128 * 128 + (e.val % 128 - 64)), by omega⟩ : Fin 3328) = ⟨768 + (e.val - 64), by omega⟩ :=
    fun h => Fin.ext (by show 768 + (e.val / 128 * 128 + (e.val % 128 - 64)) = 768 + (e.val - 64); omega)
  have e4 : ∀ h : ¬ e.val % 128 < 64, (⟨768 + (e.val / 128 * 128 + (64 + (e.val % 128 - 64))), by omega⟩ : Fin 3328) = ⟨768 + e.val, by omega⟩ :=
    fun h => Fin.ext (by show 768 + (e.val / 128 * 128 + (64 + (e.val % 128 - 64))) = 768 + e.val; omega)
  by_cases h : e.val % 128 < 64
  · rw [dif_pos h, dif_pos h, e1 h, e2 h]
  · rw [dif_neg h, dif_neg h, e3 h, e4 h]

/-- The retention queries. -/
theorem rq_apply (b : Fin 4) (r : Fin 8320) (e : Fin 512) :
    val_main_v151 (F := Ideal) A.x A.mt A.g A.w (ix3 b r e) = A.rotated 768 (by omega) b r e := by
  rw [val_main_v151_apply, v97_apply]
  rfl

/-- The angle, for the retention keys. -/
theorem v114_apply (r : Fin 8320) (k : Fin 64) : val_main_v114 (F := Ideal) (ix2 r k) = angle r.val k.val := by
  pointwise [val_main_v114, val_main_v113, val_main_v112, val_main_v111, val_main_v110, val_main_v109, val_main_v108,
    val_main_v107, val_main_v106, val_main_v105, val_main_v104, val_main_v103, val_main_v102, val_main_v101,
    val_main_v100, val_main_v99, val_main_cst_14, val_main_cst_15, val_main_cst_16, val_main_cst_17, val_main_v18]
  rfl

/-- Its cosine. -/
theorem v116_apply (r : Fin 8320) (k : Fin 64) : val_main_v116 (F := Ideal) (ix4 0 r 0 k) = Ideal.cos (angle r.val k.val) := by
  have hi : idx_main_v116 (ix4 0 r 0 k) = ix2 r k := (eq_ix2 _).trans rfl
  rw [val_main_v116_apply, hi, val_main_v115_apply, v114_apply]
  rfl

/-- Its sine. -/
theorem v118_apply (r : Fin 8320) (k : Fin 64) : val_main_v118 (F := Ideal) (ix4 0 r 0 k) = Ideal.sin (angle r.val k.val) := by
  have hi : idx_main_v118 (ix4 0 r 0 k) = ix2 r k := (eq_ix2 _).trans rfl
  rw [val_main_v118_apply, hi, val_main_v117_apply, v114_apply]
  rfl

/-- The retention keys' heads. -/
theorem v98_apply (b : Fin 4) (r : Fin 8320) (h : Fin 4) (k : Fin 128) :
    val_main_v98 (F := Ideal) A.x A.mt A.g A.w (ix4 b r h k) = A.proj b r ⟨1280 + (h.val * 128 + k.val), by omega⟩ := by
  rw [← proj_apply]
  pointwise [val_main_v98, val_main_v27]

/-- Their lower lanes. -/
theorem v119_apply (b : Fin 4) (r : Fin 8320) (h : Fin 4) (k : Fin 64) :
    val_main_v119 (F := Ideal) A.x A.mt A.g A.w (ix4 b r h k) = A.proj b r ⟨1280 + (h.val * 128 + k.val), by omega⟩ := by
  have hi : idx_main_v119 (ix4 b r h k) = ix4 b r h ⟨k.val, by omega⟩ := (eq_ix4 _).trans rfl
  rw [val_main_v119_apply, hi, v98_apply]

/-- Their upper lanes. -/
theorem v120_apply (b : Fin 4) (r : Fin 8320) (h : Fin 4) (k : Fin 64) :
    val_main_v120 (F := Ideal) A.x A.mt A.g A.w (ix4 b r h k) = A.proj b r ⟨1280 + (h.val * 128 + (64 + k.val)), by omega⟩ := by
  have hi : idx_main_v120 (ix4 b r h k) = ix4 b r h ⟨64 + k.val, by omega⟩ := (eq_ix4 _).trans rfl
  rw [val_main_v120_apply, hi, v98_apply]

/-- The lower lanes, rotated. -/
theorem v125_apply (b : Fin 4) (r : Fin 8320) (h : Fin 4) (k : Fin 64) :
    val_main_v125 (F := Ideal) A.x A.mt A.g A.w (ix4 b r h k) =
      A.proj b r ⟨1280 + (h.val * 128 + k.val), by omega⟩ * Ideal.cos (angle r.val k.val) - A.proj b r ⟨1280 + (h.val * 128 + (64 + k.val)), by omega⟩ * Ideal.sin (angle r.val k.val) := by
  have hc : idx_main_v121 (ix4 b r h k) = ix4 0 r 0 k := (eq_ix4 _).trans rfl
  have hs : idx_main_v123 (ix4 b r h k) = ix4 0 r 0 k := (eq_ix4 _).trans rfl
  rw [val_main_v125_apply, val_main_v122_apply, val_main_v124_apply, v119_apply, v120_apply,
    val_main_v121_apply, val_main_v123_apply, hc, hs, v116_apply, v118_apply]
  rfl

/-- The upper lanes, rotated. -/
theorem v130_apply (b : Fin 4) (r : Fin 8320) (h : Fin 4) (k : Fin 64) :
    val_main_v130 (F := Ideal) A.x A.mt A.g A.w (ix4 b r h k) =
      A.proj b r ⟨1280 + (h.val * 128 + k.val), by omega⟩ * Ideal.sin (angle r.val k.val) + A.proj b r ⟨1280 + (h.val * 128 + (64 + k.val)), by omega⟩ * Ideal.cos (angle r.val k.val) := by
  have hc : idx_main_v126 (ix4 b r h k) = ix4 0 r 0 k := (eq_ix4 _).trans rfl
  have hs : idx_main_v128 (ix4 b r h k) = ix4 0 r 0 k := (eq_ix4 _).trans rfl
  rw [val_main_v130_apply, val_main_v127_apply, val_main_v129_apply, v119_apply, v120_apply,
    val_main_v126_apply, val_main_v128_apply, hc, hs, v116_apply, v118_apply]
  rfl

/-- The rotated heads in a row are the function `rotated`. -/
theorem v132_apply (b : Fin 4) (r : Fin 8320) (e : Fin 512) :
    val_main_v132 (F := Ideal) A.x A.mt A.g A.w (ix3 b r e) = A.rotated 1280 (by omega) b r e := by
  have hi : idx_main_v132 (ix3 b r e) = ix4 b r ⟨e.val / 128, by omega⟩ ⟨e.val % 128, by omega⟩ := by
    rw [eq_ix4 (idx_main_v132 (ix3 b r e))]
    exact congr (congr (congr (congrArg ix4 (Fin.ext (by show ((b.val * 8320 + r.val) * 512 + e.val) / 4259840 = b.val; omega)))
      (Fin.ext (by show ((b.val * 8320 + r.val) * 512 + e.val) / 512 % 8320 = r.val; omega)))
      (Fin.ext (by show ((b.val * 8320 + r.val) * 512 + e.val) / 128 % 4 = e.val / 128; omega)))
      (Fin.ext (by show ((b.val * 8320 + r.val) * 512 + e.val) % 128 = e.val % 128; omega))
  have hcat : ∀ (h : Fin 4) (k : Fin 128), val_main_v131 (F := Ideal) A.x A.mt A.g A.w (ix4 b r h k) =
      if hk : k.val < 64 then val_main_v125 (F := Ideal) A.x A.mt A.g A.w (ix4 b r h ⟨k.val, hk⟩)
      else val_main_v130 (F := Ideal) A.x A.mt A.g A.w (ix4 b r h ⟨k.val - 64, by omega⟩) := fun h k => by
    pointwise [val_main_v131]
  rw [val_main_v132_apply, hi, hcat]
  simp only [v125_apply, v130_apply]
  unfold Args.rotated
  have e1 : ∀ h : e.val % 128 < 64, (⟨1280 + (e.val / 128 * 128 + e.val % 128), by omega⟩ : Fin 3328) = ⟨1280 + e.val, by omega⟩ :=
    fun h => Fin.ext (by show 1280 + (e.val / 128 * 128 + e.val % 128) = 1280 + e.val; omega)
  have e2 : ∀ h : e.val % 128 < 64, (⟨1280 + (e.val / 128 * 128 + (64 + e.val % 128)), by omega⟩ : Fin 3328) = ⟨1280 + (e.val + 64), by omega⟩ :=
    fun h => Fin.ext (by show 1280 + (e.val / 128 * 128 + (64 + e.val % 128)) = 1280 + (e.val + 64); omega)
  have e3 : ∀ h : ¬ e.val % 128 < 64, (⟨1280 + (e.val / 128 * 128 + (e.val % 128 - 64)), by omega⟩ : Fin 3328) = ⟨1280 + (e.val - 64), by omega⟩ :=
    fun h => Fin.ext (by show 1280 + (e.val / 128 * 128 + (e.val % 128 - 64)) = 1280 + (e.val - 64); omega)
  have e4 : ∀ h : ¬ e.val % 128 < 64, (⟨1280 + (e.val / 128 * 128 + (64 + (e.val % 128 - 64))), by omega⟩ : Fin 3328) = ⟨1280 + e.val, by omega⟩ :=
    fun h => Fin.ext (by show 1280 + (e.val / 128 * 128 + (64 + (e.val % 128 - 64))) = 1280 + e.val; omega)
  by_cases h : e.val % 128 < 64
  · rw [dif_pos h, dif_pos h, e1 h, e2 h]
  · rw [dif_neg h, dif_neg h, e3 h, e4 h]

/-- The root of 128, that the retention keys are divided by, is a nonzero real: a division is a product with its inverse. -/
theorem div_root (y : EReal) :
    FloatOps.hostDivf (F := Ideal) (φ := .f32) y (FloatOps.hostUnary .sqrt (FloatOps.ofBits (F := Ideal) .f32 0x43000000#32)) = y * kScale := by
  have h128 : Ideal.ofBits .f32 0x43000000#32 = ((128 : ℝ) : EReal) := by
    simp [Ideal.ofBits, Ideal.ieee, -EReal.coe_mul]; norm_num
  rw [Ideal.hostDivf_def, Ideal.hostUnary_sqrt_def, Ideal.ofBits_def, h128, Ideal.sqrt_coe, if_neg (by norm_num),
    Ideal.div_coe (Real.sqrt_pos.mpr (by norm_num)).ne', one_div]
  rfl

/-- The retention keys. The mask changes nothing: in front of the tokens the rotated heads are zero. -/
theorem rk_apply (b : Fin 4) (r : Fin 8320) (e : Fin 512) :
    val_main_v152 (F := Ideal) A.x A.mt A.g A.w (ix3 b r e) = A.rotated 1280 (by omega) b r e * kScale := by
  have hi : idx_main_v136 (ix3 b r e) = ix3 0 r 0 := (eq_ix3 _).trans rfl
  rw [val_main_v152_apply, val_main_v137_apply, val_main_v135_apply, v132_apply, val_main_v134_apply, val_main_v133_apply,
    val_main_cst_18_apply, val_main_v136_apply, hi, mask_apply, div_root]
  show A.rotated 1280 (by omega) b r e * kScale * (if 112 ≤ r.val then (1 : EReal) else 0) = _
  by_cases h : 112 ≤ r.val
  · rw [if_pos h, mul_one]
  · rw [if_neg h, mul_zero, A.rotated_of_lt 1280 (by omega) b r e (by omega), zero_mul]

/-- The retention values. -/
theorem rv_apply (b : Fin 4) (r : Fin 8320) (e : Fin 512) :
    val_main_v153 (F := Ideal) A.x A.mt A.g A.w (ix3 b r e) = A.proj b r ⟨1792 + e.val, by omega⟩ := by
  have hi : idx_main_v146 (ix3 b r e) = ix3 0 r 0 := (eq_ix3 _).trans rfl
  have h28 : val_main_v28 (F := Ideal) A.x A.mt A.g A.w (ix3 b r e) = A.proj b r ⟨1792 + e.val, by omega⟩ := by
    rw [← proj_apply]
    pointwise [val_main_v28]
  rw [val_main_v153_apply, val_main_v147_apply, h28, val_main_v146_apply, hi, mask_apply]
  show A.proj b r ⟨1792 + e.val, by omega⟩ * (if 112 ≤ r.val then (1 : EReal) else 0) = _
  by_cases h : 112 ≤ r.val
  · rw [if_pos h, mul_one]
  · rw [if_neg h, mul_zero]
    unfold Args.proj
    rw [dif_neg h]

/-- The first gate's arguments. -/
theorem gf_apply (b : Fin 4) (r : Fin 8320) (e : Fin 512) :
    val_main_v154 (F := Ideal) A.x A.mt A.g A.w (ix3 b r e) = A.proj b r ⟨2304 + e.val, by omega⟩ := by
  rw [← proj_apply]
  pointwise [val_main_v154, val_main_v29]

/-- The second gate's arguments. -/
theorem gb_apply (b : Fin 4) (r : Fin 8320) (e : Fin 512) :
    val_main_v155 (F := Ideal) A.x A.mt A.g A.w (ix3 b r e) = A.proj b r ⟨2816 + e.val, by omega⟩ := by
  rw [← proj_apply]
  pointwise [val_main_v155, val_main_v30]

end Cert.ReferenceIdeal.RefValue
-- ==== Proof.InProjClaim.lean ====
/- The claim on the input projection: both programs run and their eight results agree. -/
module

public import proofs.«01_k».proof.Defs
public import proofs.«01_k».proof.Proof.KernelValue
public import proofs.«01_k».proof.Proof.RefValue
public import proofs.«01_k».proof.Proof.Gen.KernelIdeal
public import proofs.«01_k».proof.Proof.Gen.ReferenceIdeal
public import proofs.«01_k».proof.Proof.Gen.ReferenceIdeal.Run

@[expose] public section

noncomputable section

namespace Cert.InProj

open Cert.KernelIdeal.HostValue Cert.KernelIdeal.KernelValue Idealize.ShloMosaic Idealize.ShloMosaic.TcCoe Idealize.SL.Sem

attribute [local instance] Cert.KernelIdeal.Gen.facts Cert.ReferenceIdeal.Gen.facts

variable (A : Args)

/-! ## The reference's results, as arrays -/

theorem ref0 : Cert.ReferenceIdeal.Read.val_main_v148 (F := Ideal) A.x A.mt A.g A.w A.gq = arr (A.query) :=
  funext fun y => (congrArg (Cert.ReferenceIdeal.Read.val_main_v148 (F := Ideal) A.x A.mt A.g A.w A.gq) (eq_ix3 y)).trans (Cert.ReferenceIdeal.RefValue.query_apply A (y 0) (y 1) (y 2))

theorem ref1 : Cert.ReferenceIdeal.Read.val_main_v149 (F := Ideal) A.x A.mt A.g A.w A.gk = arr (fun b r => twice (A.key b r)) :=
  funext fun y => (congrArg (Cert.ReferenceIdeal.Read.val_main_v149 (F := Ideal) A.x A.mt A.g A.w A.gk) (eq_ix3 y)).trans (Cert.ReferenceIdeal.RefValue.key_apply A (y 0) (y 1) (y 2))

theorem ref2 : Cert.ReferenceIdeal.Read.val_main_v150 (F := Ideal) A.x A.mt A.g A.w = arr (fun b r => twice (A.value b r)) :=
  funext fun y => (congrArg (Cert.ReferenceIdeal.Read.val_main_v150 (F := Ideal) A.x A.mt A.g A.w) (eq_ix3 y)).trans (Cert.ReferenceIdeal.RefValue.value_apply A (y 0) (y 1) (y 2))

theorem ref3 : Cert.ReferenceIdeal.Read.val_main_v151 (F := Ideal) A.x A.mt A.g A.w = arr (A.rotated 768 (by omega)) :=
  funext fun y => (congrArg (Cert.ReferenceIdeal.Read.val_main_v151 (F := Ideal) A.x A.mt A.g A.w) (eq_ix3 y)).trans (Cert.ReferenceIdeal.RefValue.rq_apply A (y 0) (y 1) (y 2))

theorem ref4 : Cert.ReferenceIdeal.Read.val_main_v152 (F := Ideal) A.x A.mt A.g A.w = arr (fun b r e => A.rotated 1280 (by omega) b r e * kScale) :=
  funext fun y => (congrArg (Cert.ReferenceIdeal.Read.val_main_v152 (F := Ideal) A.x A.mt A.g A.w) (eq_ix3 y)).trans (Cert.ReferenceIdeal.RefValue.rk_apply A (y 0) (y 1) (y 2))

theorem ref5 : Cert.ReferenceIdeal.Read.val_main_v153 (F := Ideal) A.x A.mt A.g A.w = arr (fun b r e => A.proj b r ⟨1792 + e.val, by omega⟩) :=
  funext fun y => (congrArg (Cert.ReferenceIdeal.Read.val_main_v153 (F := Ideal) A.x A.mt A.g A.w) (eq_ix3 y)).trans (Cert.ReferenceIdeal.RefValue.rv_apply A (y 0) (y 1) (y 2))

theorem ref6 : Cert.ReferenceIdeal.Read.val_main_v154 (F := Ideal) A.x A.mt A.g A.w = arr (fun b r e => A.proj b r ⟨2304 + e.val, by omega⟩) :=
  funext fun y => (congrArg (Cert.ReferenceIdeal.Read.val_main_v154 (F := Ideal) A.x A.mt A.g A.w) (eq_ix3 y)).trans (Cert.ReferenceIdeal.RefValue.gf_apply A (y 0) (y 1) (y 2))

theorem ref7 : Cert.ReferenceIdeal.Read.val_main_v155 (F := Ideal) A.x A.mt A.g A.w = arr (fun b r e => A.proj b r ⟨2816 + e.val, by omega⟩) :=
  funext fun y => (congrArg (Cert.ReferenceIdeal.Read.val_main_v155 (F := Ideal) A.x A.mt A.g A.w) (eq_ix3 y)).trans (Cert.ReferenceIdeal.RefValue.gb_apply A (y 0) (y 1) (y 2))

/-- The arguments that the reference finds, where they are the kernel's. -/
theorem ref_args (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    m' ((c.tc : Thread Cert.ReferenceIdeal.nD Cert.ReferenceIdeal.τ).loc Cert.ReferenceIdeal.main_arg0) = (args m c).x
      ∧ m' ((c.tc : Thread Cert.ReferenceIdeal.nD Cert.ReferenceIdeal.τ).loc Cert.ReferenceIdeal.main_arg1) = (args m c).mt
      ∧ m' ((c.tc : Thread Cert.ReferenceIdeal.nD Cert.ReferenceIdeal.τ).loc Cert.ReferenceIdeal.main_arg2) = (args m c).g
      ∧ m' ((c.tc : Thread Cert.ReferenceIdeal.nD Cert.ReferenceIdeal.τ).loc Cert.ReferenceIdeal.main_arg3) = (args m c).w
      ∧ m' ((c.tc : Thread Cert.ReferenceIdeal.nD Cert.ReferenceIdeal.τ).loc Cert.ReferenceIdeal.main_arg4) = (args m c).gq
      ∧ m' ((c.tc : Thread Cert.ReferenceIdeal.nD Cert.ReferenceIdeal.τ).loc Cert.ReferenceIdeal.main_arg5) = (args m c).gk := h

theorem algebraic : Cert.algebraic_KernelIdeal_ReferenceIdeal := by
  intro m g m' g' _ h
  refine ⟨fun c => G0 m c, fun c => G1 m c, fun c => G2 m c, fun c => G3 m c, fun c => G4 m c, fun c => G5 m c, fun c => G6 m c,
    fun c => G7 m c, ?_, ?_⟩
  · refine (θ_run Cert.KernelIdeal.defs _ _).mono (fun r hr c => ?_) (Cert.KernelIdeal.Value.run_blocks m g)
    obtain ⟨h0, h1, h2, h3, h4, h5, h6, h7, hargs⟩ := hr c
    exact ⟨h0.trans (result0 m c), h1.trans (result1 m c), h2.trans (result2 m c), h3.trans (result3 m c), h4.trans (result4 m c),
      h5.trans (result5 m c), h6.trans (result6 m c), h7.trans (result7 m c), hargs⟩
  · refine (θ_run Cert.ReferenceIdeal.defs _ _).mono (fun r hr c => ?_) (Cert.ReferenceIdeal.Value.run m' g')
    obtain ⟨h0, h1, h2, h3, h4, h5, h6, h7, hargs⟩ := hr c
    obtain ⟨a0, a1, a2, a3, a4, a5⟩ := ref_args m m' c (h c)
    refine ⟨h0.trans ?_, h1.trans ?_, h2.trans ?_, h3.trans ?_, h4.trans ?_, h5.trans ?_, h6.trans ?_, h7.trans ?_, hargs⟩
    · refine (Cert.ReferenceIdeal.Read.val_main_v148_eq m' c).trans ?_
      rw [a0, a1, a2, a3, a4]
      exact ref0 (args m c)
    · refine (Cert.ReferenceIdeal.Read.val_main_v149_eq m' c).trans ?_
      rw [a0, a1, a2, a3, a5]
      exact ref1 (args m c)
    · refine (Cert.ReferenceIdeal.Read.val_main_v150_eq m' c).trans ?_
      rw [a0, a1, a2, a3]
      exact ref2 (args m c)
    · refine (Cert.ReferenceIdeal.Read.val_main_v151_eq m' c).trans ?_
      rw [a0, a1, a2, a3]
      exact ref3 (args m c)
    · refine (Cert.ReferenceIdeal.Read.val_main_v152_eq m' c).trans ?_
      rw [a0, a1, a2, a3]
      exact ref4 (args m c)
    · refine (Cert.ReferenceIdeal.Read.val_main_v153_eq _ _ _ _).trans ?_
      rw [a0, a1, a2, a3]
      exact ref5 (args m c)
    · refine (Cert.ReferenceIdeal.Read.val_main_v154_eq _ _ _ _).trans ?_
      rw [a0, a1, a2, a3]
      exact ref6 (args m c)
    · refine (Cert.ReferenceIdeal.Read.val_main_v155_eq _ _ _ _).trans ?_
      rw [a0, a1, a2, a3]
      exact ref7 (args m c)

end Cert.InProj
-- ==== Proof.Ffn.Body.lean ====
/- One grid point of the feed-forward kernel: what the body leaves in its two scratch arrays and, at the last point of a run of
   eleven, in its output's block. -/
module

public import proofs.«01_k».proof.Proof.Gen.Kernel2Ideal.Frame
public import proofs.«01_k».proof.Proof.Gen.Kernel2Ideal.Skeleton
public import Idealize.ShloMosaic.Lib.Pointwise
public import Idealize.ShloMosaic.Lib.VecWindow

@[expose] public section

set_option maxRecDepth 16384

noncomputable section

namespace Cert.Kernel2Ideal.Ffn

open Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The hidden columns a point computes for the first half of its rows. -/
def hid0 (x0 : Vec F S2x1x1040x1024 .bf16) (x1 x2 : Vec F S1x1x1024x256 .f32) : Vec F S1040x256 .bf16 :=
  k0_pay6 x1 x2 (VecWindow.window x0 ![0, 0, 0, 0] S1x1x1040x1024.size inb_S2x1x1040x1024_S1x1x1040x1024_0_0_0_0)

/-- The hidden columns a point computes for the second half of its rows. -/
def hid1 (x0 : Vec F S2x1x1040x1024 .bf16) (x1 x2 : Vec F S1x1x1024x256 .f32) : Vec F S1040x256 .bf16 :=
  k0_pay7 x1 x2 (VecWindow.window x0 ![1, 0, 0, 0] S1x1x1040x1024.size inb_S2x1x1040x1024_S1x1x1040x1024_1_0_0_0)

/-- The hidden scratch after point `f` of a run: its 256 columns replaced. -/
def step8 (f : ℕ) (x0 : Vec F S2x1x1040x1024 .bf16) (x1 x2 : Vec F S1x1x1024x256 .f32) (s8 : Vec F S2080x2816 .bf16) : Vec F S2080x2816 .bf16 :=
  VecWindow.put (s := S2080x2816) (VecWindow.put (s := S2080x2816) s8 ![0, 256 * f] S1040x256.size (hid0 x0 x1 x2))
    ![1040, 256 * f] S1040x256.size (hid1 x0 x1 x2)

/-- The down-projection scratch after point `f` of a run: its 256 rows replaced. -/
def step9 (f : ℕ) (x3 : Vec F S1x1x256x1024 .f32) (s9 : Vec F S2816x1024 .bf16) : Vec F S2816x1024 .bf16 :=
  VecWindow.put (s := S2816x1024) s9 ![256 * f, 0] S256x1024.size (k0_pay1 x3)

/-- The output's block from the two scratch arrays: each half of the hidden rows times the down-projection. -/
def outv (h : Vec F S2080x2816 .bf16) (w : Vec F S2816x1024 .bf16) : Vec F S2x1x1040x1024 .bf16 := fun y =>
  if (y 0).val = 0 then
    k0_pay2 (VecWindow.window h ![0, 0] S1040x2816.size inb_S2080x2816_S1040x2816_0_0) w (ValueIdx.ix4 0 0 (y 2) (y 3))
  else k0_pay3 (VecWindow.window h ![1040, 0] S1040x2816.size inb_S2080x2816_S1040x2816_1040_0) w (ValueIdx.ix4 0 0 (y 2) (y 3))

/-- The two stores of hidden columns, read back. -/
theorem read8 (i : grid0.Coords) (arg3 : Memref sig .tc .vmem S2x1x1040x1024 .bf16) (harg3 : arg3.IsWhole)
    (arg4 : Memref sig .tc .vmem S1x1x1024x256 .f32) (harg4 : arg4.IsWhole) (arg5 : Memref sig .tc .vmem S1x1x1024x256 .f32) (harg5 : arg5.IsWhole)
    (arg8 : Memref sig .tc .vmem S2080x2816 .bf16) (harg8 : arg8.IsWhole)
    (x0 : Vec F S2x1x1040x1024 .bf16) (x1 : Vec F S1x1x1024x256 .f32) (x2 : Vec F S1x1x1024x256 .f32) (s8 : Vec F S2080x2816 .bf16) :
    arg8.view.read (Elt F) (arg8.view.writes (Elt F) (harg8.unread s8)
        [⟨Rect.unit (k0_off2 i) S1040x256.size (k0_off2_inb i),
            k0_pay7 (arg4.view.readAt (Elt F) (Rect.unit ![0, 0, 0, 0] S1x1x1024x256.size inb_S1x1x1024x256_S1x1x1024x256_0_0_0_0).toLoadRect (harg4.unread x1))
              (arg5.view.readAt (Elt F) (Rect.unit ![0, 0, 0, 0] S1x1x1024x256.size inb_S1x1x1024x256_S1x1x1024x256_0_0_0_0).toLoadRect (harg5.unread x2))
              (arg3.view.readAt (Elt F) (Rect.unit (s := S2x1x1040x1024) ![1, 0, 0, 0] S1x1x1040x1024.size inb_S2x1x1040x1024_S1x1x1040x1024_1_0_0_0).toLoadRect (harg3.unread x0))⟩,
          ⟨Rect.unit (k0_off1 i) S1040x256.size (k0_off1_inb i),
            k0_pay6 (arg4.view.readAt (Elt F) (Rect.unit ![0, 0, 0, 0] S1x1x1024x256.size inb_S1x1x1024x256_S1x1x1024x256_0_0_0_0).toLoadRect (harg4.unread x1))
              (arg5.view.readAt (Elt F) (Rect.unit ![0, 0, 0, 0] S1x1x1024x256.size inb_S1x1x1024x256_S1x1x1024x256_0_0_0_0).toLoadRect (harg5.unread x2))
              (arg3.view.readAt (Elt F) (Rect.unit (s := S2x1x1040x1024) ![0, 0, 0, 0] S1x1x1040x1024.size inb_S2x1x1040x1024_S1x1x1040x1024_0_0_0_0).toLoadRect (harg3.unread x0))⟩])
      = step8 (i 2).val x0 x1 x2 s8 := by
  rw [View.read_writes_cons_put _ _ _ _ _ (k0_off2_eq i), View.read_writes_cons_put _ _ _ _ _ (k0_off1_eq i), View.writes_nil,
    harg8.read_unread, View.readAt_full, View.readAt_full, harg4.read_unread, harg5.read_unread,
    View.readAt_unit _ _ _ rfl inb_S2x1x1040x1024_S1x1x1040x1024_0_0_0_0, View.readAt_unit _ _ _ rfl inb_S2x1x1040x1024_S1x1x1040x1024_1_0_0_0, harg3.read_unread]
  rfl

/-- The store of down-projection rows, read back. -/
theorem read9 (i : grid0.Coords) (arg6 : Memref sig .tc .vmem S1x1x256x1024 .f32) (harg6 : arg6.IsWhole)
    (arg9 : Memref sig .tc .vmem S2816x1024 .bf16) (harg9 : arg9.IsWhole)
    (x3 : Vec F S1x1x256x1024 .f32) (s9 : Vec F S2816x1024 .bf16) :
    arg9.view.read (Elt F) (arg9.view.writes (Elt F) (harg9.unread s9)
        [⟨Rect.unit (k0_off3 i) S256x1024.size (k0_off3_inb i),
            k0_pay1 (arg6.view.readAt (Elt F) (Rect.unit ![0, 0, 0, 0] S1x1x256x1024.size inb_S1x1x256x1024_S1x1x256x1024_0_0_0_0).toLoadRect (harg6.unread x3))⟩])
      = step9 (i 2).val x3 s9 := by
  rw [View.read_writes_cons_put _ _ _ _ _ (k0_off3_eq i), View.writes_nil,
    harg9.read_unread, View.readAt_full, harg6.read_unread]
  rfl

/-- The two stores of the output's block, read back: they fill it, so what was in it before is gone. -/
theorem read7 (arg7 : Memref sig .tc .vmem S2x1x1040x1024 .bf16) (f : arg7.view.ty.Contents (Elt F))
    (h : Vec F S2080x2816 .bf16) (w : Vec F S2816x1024 .bf16) (a0 a1 : Vec F S1040x2816 .bf16) (b : Vec F S2816x1024 .bf16)
    (e0 : a0 = VecWindow.window h ![0, 0] S1040x2816.size inb_S2080x2816_S1040x2816_0_0)
    (e1 : a1 = VecWindow.window h ![1040, 0] S1040x2816.size inb_S2080x2816_S1040x2816_1040_0) (eb : b = w) {inb0 inb1} :
    arg7.view.read (Elt F) (arg7.view.writes (Elt F) f
        [⟨Rect.unit ![1, 0, 0, 0] S1x1x1040x1024.size inb1, k0_pay3 a1 b⟩,
          ⟨Rect.unit ![0, 0, 0, 0] S1x1x1040x1024.size inb0, k0_pay2 a0 b⟩])
      = outv h w := by
  subst e0 e1 eb
  funext y
  have h0 : (y 0).val < 2 := (y 0).isLt
  have h1 : (y 1).val < 1 := (y 1).isLt
  unfold outv
  by_cases e : (y 0).val = 0
  · rw [if_pos e, View.read_writes_cons_unit_of_not_mem _ _ _ _ _ _ rfl 0 (Or.inl (by show (y 0).val < 1; omega))]
    exact View.read_writes_cons_unit_of_mem (off' := ![0, 0, 0, 0]) arg7.view f inb0 _ _ y (ValueIdx.ix4 0 0 (y 2) (y 3)) rfl fun a => by
      match a with
      | ⟨0, _⟩ => show (y 0).val = 0 + 0; omega
      | ⟨1, _⟩ => show (y 1).val = 0 + 0; omega
      | ⟨2, _⟩ => exact (Nat.zero_add _).symm
      | ⟨3, _⟩ => exact (Nat.zero_add _).symm
  · rw [if_neg e]
    exact View.read_writes_cons_unit_of_mem (off' := ![1, 0, 0, 0]) arg7.view f inb1 _ _ y (ValueIdx.ix4 0 0 (y 2) (y 3)) rfl fun a => by
      match a with
      | ⟨0, _⟩ => show (y 0).val = 1 + 0; omega
      | ⟨1, _⟩ => show (y 1).val = 0 + 0; omega
      | ⟨2, _⟩ => exact (Nat.zero_add _).symm
      | ⟨3, _⟩ => exact (Nat.zero_add _).symm

set_option maxHeartbeats 1000000 in
/-- A point that is not the last of its run: the scratch arrays move on, the output's block is as it was. -/
theorem run_first (c : Dev nD) (i : grid0.Coords) (arg3 : Memref sig .tc .vmem S2x1x1040x1024 .bf16) (harg3 : arg3.IsWhole)
    (arg4 : Memref sig .tc .vmem S1x1x1024x256 .f32) (harg4 : arg4.IsWhole) (arg5 : Memref sig .tc .vmem S1x1x1024x256 .f32) (harg5 : arg5.IsWhole)
    (arg6 : Memref sig .tc .vmem S1x1x256x1024 .f32) (harg6 : arg6.IsWhole) (arg7 : Memref sig .tc .vmem S2x1x1040x1024 .bf16) (harg7 : arg7.IsWhole)
    (arg8 : Memref sig .tc .vmem S2080x2816 .bf16) (harg8 : arg8.IsWhole) (arg9 : Memref sig .tc .vmem S2816x1024 .bf16) (harg9 : arg9.IsWhole)
    (hc : ¬ k0_cond1 i = 1#1)
    (x0 : Vec F S2x1x1040x1024 .bf16) (x1 : Vec F S1x1x1024x256 .f32) (x2 : Vec F S1x1x1024x256 .f32) (x3 : Vec F S1x1x256x1024 .f32)
    (x4 : Vec F S2x1x1040x1024 .bf16) (s8 : Vec F S2080x2816 .bf16) (s9 : Vec F S2816x1024 .bf16) :
    ∀ (E : Set ℕ) (K : PUnit → sProp 𝕄),
      iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare x4 ∗ owns (c : Thread nD τ) arg8 fullShare s8
          ∗ owns (c : Thread nD τ) arg9 fullShare s9
          ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4
              ∗ owns (c : Thread nD τ) arg8 fullShare (step8 (i 2).val x0 x1 x2 s8)
              ∗ owns (c : Thread nD τ) arg9 fullShare (step9 (i 2).val x3 s9)) -∗ K ⟨⟩))
        ⊢ wp frame (wpE (defs₀ (F := F)) Variants.none c none) E
            (cc0_ffn i arg3 harg3 arg4 harg4 arg5 harg5 arg6 harg6 arg7 harg7 arg8 harg8 arg9 harg9) K := by
  intro E K
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hfs0; obtain rfl := harg9.eq_unread hfs1
  sl_exec (disch := first | sl_exact hc)
  sl_step
  iapply Hk
  isplitl [H0]
  · iexists _; isplitr; ipureintro; exact harg3.read_unread x0
    iexact H0
  isplitl [H1]
  · iexists _; isplitr; ipureintro; exact harg4.read_unread x1
    iexact H1
  isplitl [H2]
  · iexists _; isplitr; ipureintro; exact harg5.read_unread x2
    iexact H2
  isplitl [H3]
  · iexists _; isplitr; ipureintro; exact harg6.read_unread x3
    iexact H3
  isplitl [H4]
  · iexists _; isplitr; ipureintro; exact harg7.read_unread x4
    iexact H4
  isplitl [HS0]
  · iexists _; isplitr; ipureintro; exact read8 i arg3 harg3 arg4 harg4 arg5 harg5 arg8 harg8 x0 x1 x2 s8
    iexact HS0
  · iexists _; isplitr; ipureintro; exact read9 i arg6 harg6 arg9 harg9 x3 s9
    iexact HS1

set_option maxHeartbeats 1000000 in
/-- The last point of a run: the scratch arrays move on, and the output's block is computed from them. -/
theorem run_last (c : Dev nD) (i : grid0.Coords) (arg3 : Memref sig .tc .vmem S2x1x1040x1024 .bf16) (harg3 : arg3.IsWhole)
    (arg4 : Memref sig .tc .vmem S1x1x1024x256 .f32) (harg4 : arg4.IsWhole) (arg5 : Memref sig .tc .vmem S1x1x1024x256 .f32) (harg5 : arg5.IsWhole)
    (arg6 : Memref sig .tc .vmem S1x1x256x1024 .f32) (harg6 : arg6.IsWhole) (arg7 : Memref sig .tc .vmem S2x1x1040x1024 .bf16) (harg7 : arg7.IsWhole)
    (arg8 : Memref sig .tc .vmem S2080x2816 .bf16) (harg8 : arg8.IsWhole) (arg9 : Memref sig .tc .vmem S2816x1024 .bf16) (harg9 : arg9.IsWhole)
    (hc : k0_cond1 i = 1#1)
    (x0 : Vec F S2x1x1040x1024 .bf16) (x1 : Vec F S1x1x1024x256 .f32) (x2 : Vec F S1x1x1024x256 .f32) (x3 : Vec F S1x1x256x1024 .f32)
    (x4 : Vec F S2x1x1040x1024 .bf16) (s8 : Vec F S2080x2816 .bf16) (s9 : Vec F S2816x1024 .bf16) :
    ∀ (E : Set ℕ) (K : PUnit → sProp 𝕄),
      iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare x4 ∗ owns (c : Thread nD τ) arg8 fullShare s8
          ∗ owns (c : Thread nD τ) arg9 fullShare s9
          ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare (outv (step8 (i 2).val x0 x1 x2 s8) (step9 (i 2).val x3 s9))
              ∗ owns (c : Thread nD τ) arg8 fullShare (step8 (i 2).val x0 x1 x2 s8)
              ∗ owns (c : Thread nD τ) arg9 fullShare (step9 (i 2).val x3 s9)) -∗ K ⟨⟩))
        ⊢ wp frame (wpE (defs₀ (F := F)) Variants.none c none) E
            (cc0_ffn i arg3 harg3 arg4 harg4 arg5 harg5 arg6 harg6 arg7 harg7 arg8 harg8 arg9 harg9) K := by
  intro E K
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hfs0; obtain rfl := harg9.eq_unread hfs1
  sl_exec (disch := first | sl_exact hc)
  sl_step
  iapply Hk
  isplitl [H0]
  · iexists _; isplitr; ipureintro; exact harg3.read_unread x0
    iexact H0
  isplitl [H1]
  · iexists _; isplitr; ipureintro; exact harg4.read_unread x1
    iexact H1
  isplitl [H2]
  · iexists _; isplitr; ipureintro; exact harg5.read_unread x2
    iexact H2
  isplitl [H3]
  · iexists _; isplitr; ipureintro; exact harg6.read_unread x3
    iexact H3
  isplitl [H4]
  · iexists _; isplitr; rotate_left; iexact H4
    ipureintro; refine read7 arg7 _ _ _ _ _ _ ?_ ?_ ?_
    · unfold run_last.sl.v42 run_last.sl.HS0_2
      rw [View.readAt_unit _ _ _ rfl inb_S2080x2816_S1040x2816_0_0]
      exact congrArg (fun h => VecWindow.window (s := S2080x2816) h _ _ _) (read8 i arg3 harg3 arg4 harg4 arg5 harg5 arg8 harg8 x0 x1 x2 s8)
    · unfold run_last.sl.v49 run_last.sl.HS0_2
      rw [View.readAt_unit _ _ _ rfl inb_S2080x2816_S1040x2816_1040_0]
      exact congrArg (fun h => VecWindow.window (s := S2080x2816) h _ _ _) (read8 i arg3 harg3 arg4 harg4 arg5 harg5 arg8 harg8 x0 x1 x2 s8)
    · unfold run_last.sl.v43
      rw [View.readAt_full]
      exact read9 i arg6 harg6 arg9 harg9 x3 s9
  isplitl [HS0]
  · iexists _; isplitr; ipureintro; exact read8 i arg3 harg3 arg4 harg4 arg5 harg5 arg8 harg8 x0 x1 x2 s8
    iexact HS0
  · iexists _; isplitr; ipureintro; exact read9 i arg6 harg6 arg9 harg9 x3 s9
    iexact HS1

end Cert.Kernel2Ideal.Ffn
-- ==== Proof.Ffn.Track.lean ====
/- What the two scratch arrays hold between grid points. Point `t` is point `t % 11` of run `t / 11`; within a run the points fill
   the hidden scratch 256 columns at a time and the down-projection scratch 256 rows at a time. -/
module

public import proofs.«01_k».proof.Proof.Ffn.Body

@[expose] public section

set_option maxRecDepth 16384

noncomputable section

namespace Cert.Kernel2Ideal.Ffn

open Cert.Kernel2Ideal.Gen Idealize.ShloMosaic Idealize.ShloMosaic.TcCoe

variable {F : FTy → Type} [FloatOps F]
variable (m : (ℓ : Loc nD τ sig) → Buf (Elt F) ℓ)

section Put

variable {s : Shape} {α : Type} (x : s.Idx → α) (off size : Fin s.rank → ℕ) (w : ((a : Fin s.rank) → Fin (size a)) → α)

/-- Inside the window the payload is read. -/
theorem put_of_mem (y : s.Idx) (z : (a : Fin s.rank) → Fin (size a)) (h : ∀ a, (y a).val = off a + (z a).val) :
    VecWindow.put x off size w y = w z := by
  have hm : ∀ a, off a ≤ (y a).val ∧ (y a).val < off a + size a := fun a => by
    have := h a; have := (z a).isLt; omega
  unfold VecWindow.put
  rw [dif_pos hm]
  exact congrArg w (funext fun a => Fin.ext (by
    have := h a
    rw [Rect.unitLocal_val]
    omega))

/-- Outside it, what was there before. -/
theorem put_of_not_mem (y : s.Idx) (a : Fin s.rank) (h : (y a).val < off a ∨ off a + size a ≤ (y a).val) :
    VecWindow.put x off size w y = x y := by
  unfold VecWindow.put
  exact dif_neg fun hall => by have := hall a; omega

end Put

/-- Point `f` of run `g`. -/
def pt (g f : ℕ) : Fin cfg0.N := ⟨(11 * g + f) % 352, Nat.lt_of_lt_of_eq (Nat.mod_lt _ (by decide)) N_0.symm⟩

theorem pt_div_mod (t : Fin cfg0.N) (f : ℕ) (h : f = t.val % 11) : pt (t.val / 11) f = t := by
  have ht : t.val < 352 := Nat.lt_of_lt_of_eq t.isLt N_0
  apply Fin.ext
  show (11 * (t.val / 11) + f) % 352 = t.val
  omega

/-- The hidden rows of one point: both halves, one over the other. -/
def hid (x0 : Vec F S2x1x1040x1024 .bf16) (x1 x2 : Vec F S1x1x1024x256 .f32) (r : ℕ) (k : Fin 256) : Elt F .bf16 :=
  if h : r < 1040 then hid0 x0 x1 x2 (ValueIdx.ix2 ⟨r, h⟩ k)
  else if h' : r - 1040 < 1040 then hid1 x0 x1 x2 (ValueIdx.ix2 ⟨r - 1040, h'⟩ k)
  else hid0 x0 x1 x2 (ValueIdx.ix2 0 k)

/-- The hidden scratch of run `g` when full. -/
def HM (c : Dev nD) (g : ℕ) : Vec F S2080x2816 .bf16 := fun y =>
  hid (iblk m c 0 (pt g ((y 1).val / 256))) (iblk m c 1 (pt g ((y 1).val / 256))) (iblk m c 2 (pt g ((y 1).val / 256)))
    (y 0).val ⟨(y 1).val % 256, Nat.mod_lt _ (by decide)⟩

/-- The down-projection scratch of run `g` when full. -/
def WD (c : Dev nD) (g : ℕ) : Vec F S2816x1024 .bf16 := fun y =>
  k0_pay1 (iblk m c 3 (pt g ((y 0).val / 256))) (ValueIdx.ix2 ⟨(y 0).val % 256, Nat.mod_lt _ (by decide)⟩ (y 1))

/-- The hidden scratch agrees with run `g`'s on the first `f` chunks of columns. -/
def Inv8 (c : Dev nD) (g f : ℕ) (s8 : Vec F S2080x2816 .bf16) : Prop := ∀ y, (y 1).val < 256 * f → s8 y = HM m c g y

/-- The down-projection scratch agrees with run `g`'s on the first `f` chunks of rows. -/
def Inv9 (c : Dev nD) (g f : ℕ) (s9 : Vec F S2816x1024 .bf16) : Prop := ∀ y, (y 0).val < 256 * f → s9 y = WD m c g y

/-- One point moves the hidden scratch on by a chunk. -/
theorem Inv8.step {c : Dev nD} {s8 : Vec F S2080x2816 .bf16} (t : Fin cfg0.N) (f : ℕ) (hf : f = t.val % 11)
    (h : Inv8 m c (t.val / 11) f s8) :
    Inv8 m c (t.val / 11) (f + 1) (step8 f (iblk m c 0 t) (iblk m c 1 t) (iblk m c 2 t) s8) := by
  intro y hy
  have h0 : (y 0).val < 2080 := (y 0).isLt
  by_cases hk : (y 1).val < 256 * f
  · refine Eq.trans ?_ (h y hk)
    unfold step8
    exact (put_of_not_mem _ _ _ _ y 1 (Or.inl hk)).trans (put_of_not_mem _ _ _ _ y 1 (Or.inl hk))
  · have hq : (y 1).val / 256 = f := by omega
    have hr : (y 1).val = 256 * f + (y 1).val % 256 := by omega
    show _ = hid (iblk m c 0 (pt (t.val / 11) ((y 1).val / 256))) (iblk m c 1 (pt (t.val / 11) ((y 1).val / 256)))
      (iblk m c 2 (pt (t.val / 11) ((y 1).val / 256))) (y 0).val ⟨(y 1).val % 256, Nat.mod_lt _ (by decide)⟩
    rw [hq, pt_div_mod t f hf]
    unfold step8 hid
    by_cases hh : (y 0).val < 1040
    · rw [dif_pos hh]
      refine (put_of_not_mem _ _ _ _ y 0 (Or.inl hh)).trans (put_of_mem _ _ _ _ y _ fun a => ?_)
      match a with
      | ⟨0, _⟩ => exact (Nat.zero_add _).symm
      | ⟨1, _⟩ => exact hr
    · have hh' : (y 0).val - 1040 < 1040 := by omega
      rw [dif_neg hh, dif_pos hh']
      refine put_of_mem _ _ _ _ y _ fun a => ?_
      match a with
      | ⟨0, _⟩ => show (y 0).val = 1040 + ((y 0).val - 1040); omega
      | ⟨1, _⟩ => exact hr

/-- One point moves the down-projection scratch on by a chunk. -/
theorem Inv9.step {c : Dev nD} {s9 : Vec F S2816x1024 .bf16} (t : Fin cfg0.N) (f : ℕ) (hf : f = t.val % 11)
    (h : Inv9 m c (t.val / 11) f s9) :
    Inv9 m c (t.val / 11) (f + 1) (step9 f (iblk m c 3 t) s9) := by
  intro y hy
  by_cases hk : (y 0).val < 256 * f
  · refine Eq.trans ?_ (h y hk)
    unfold step9
    exact put_of_not_mem _ _ _ _ y 0 (Or.inl hk)
  · have hq : (y 0).val / 256 = f := by omega
    have hr : (y 0).val = 256 * f + (y 0).val % 256 := by omega
    show _ = k0_pay1 (iblk m c 3 (pt (t.val / 11) ((y 0).val / 256))) (ValueIdx.ix2 ⟨(y 0).val % 256, Nat.mod_lt _ (by decide)⟩ (y 1))
    rw [hq, pt_div_mod t f hf]
    unfold step9
    refine put_of_mem _ _ _ _ y _ fun a => ?_
    match a with
    | ⟨0, _⟩ => exact hr
    | ⟨1, _⟩ => exact (Nat.zero_add _).symm

/-- After the eleventh point the scratch arrays are the run's. -/
theorem Inv8.full {c : Dev nD} {g : ℕ} {s8 : Vec F S2080x2816 .bf16} (h : Inv8 m c g 11 s8) : s8 = HM m c g :=
  funext fun y => h y (Nat.lt_of_lt_of_eq (y 1).isLt rfl)

theorem Inv9.full {c : Dev nD} {g : ℕ} {s9 : Vec F S2816x1024 .bf16} (h : Inv9 m c g 11 s9) : s9 = WD m c g :=
  funext fun y => h y (Nat.lt_of_lt_of_eq (y 0).isLt rfl)

/-- Before a run's first point nothing is asked of the scratch. -/
theorem Inv8.zero {c : Dev nD} {g : ℕ} (s8 : Vec F S2080x2816 .bf16) : Inv8 m c g 0 s8 := fun _ hy => absurd hy (Nat.not_lt_zero _)
theorem Inv9.zero {c : Dev nD} {g : ℕ} (s9 : Vec F S2816x1024 .bf16) : Inv9 m c g 0 s9 := fun _ hy => absurd hy (Nat.not_lt_zero _)

/-- What is known of the scratch after point `t` is what is asked before point `t + 1`. -/
theorem Inv8.succ {c : Dev nD} {t : ℕ} {s8 : Vec F S2080x2816 .bf16} (h : Inv8 m c (t / 11) (t % 11 + 1) s8) :
    Inv8 m c ((t + 1) / 11) ((t + 1) % 11) s8 := by
  by_cases e : t % 11 = 10
  · rw [show (t + 1) % 11 = 0 by omega]; exact Inv8.zero m s8
  · rw [show (t + 1) % 11 = t % 11 + 1 by omega, show (t + 1) / 11 = t / 11 by omega]; exact h

theorem Inv9.succ {c : Dev nD} {t : ℕ} {s9 : Vec F S2816x1024 .bf16} (h : Inv9 m c (t / 11) (t % 11 + 1) s9) :
    Inv9 m c ((t + 1) / 11) ((t + 1) % 11) s9 := by
  by_cases e : t % 11 = 10
  · rw [show (t + 1) % 11 = 0 by omega]; exact Inv9.zero m s9
  · rw [show (t + 1) % 11 = t % 11 + 1 by omega, show (t + 1) / 11 = t / 11 by omega]; exact h

end Cert.Kernel2Ideal.Ffn
-- ==== Proof.Ffn.Spec.lean ====
/- What the first layer's feed-forward call computes, as functions of coordinates over the extended reals. Both programs are read
   into these functions (`Ffn.RefValue`, `Ffn.KernelValue`). -/
module

public import Idealize.ShloMosaic.Lib.Pointwise

@[expose] public section

noncomputable section

namespace Cert.Ffn

open Idealize.ShloMosaic

/-- The arguments of the call: the tokens of every expert, in four batches, and the three weights of every expert of every layer. -/
structure Args where
  x : (⟨4, ![4, 16, 1040, 1024]⟩ : Shape).Idx → EReal
  wg : (⟨4, ![4, 16, 1024, 2816]⟩ : Shape).Idx → EReal
  wu : (⟨4, ![4, 16, 1024, 2816]⟩ : Shape).Idx → EReal
  wd : (⟨4, ![4, 16, 2816, 1024]⟩ : Shape).Idx → EReal

variable (A : Args)

/-- The gate's projection: column `k` of row `r` of batch `n`, at expert `e` of the first layer. -/
def Args.gate (n : Fin 4) (e : Fin 16) (r : Fin 1040) (k : Fin 2816) : EReal :=
  ∑ j : Fin 1024, A.x (ix4 n e r j) * A.wg (ix4 0 e j k)

/-- The other projection. -/
def Args.up (n : Fin 4) (e : Fin 16) (r : Fin 1040) (k : Fin 2816) : EReal :=
  ∑ j : Fin 1024, A.x (ix4 n e r j) * A.wu (ix4 0 e j k)

/-- The hidden row: the gate, times its logistic, times the other projection. -/
def Args.hidden (n : Fin 4) (e : Fin 16) (r : Fin 1040) (k : Fin 2816) : EReal :=
  A.gate n e r k * Ideal.logistic (A.gate n e r k) * A.up n e r k

/-- The result. -/
def Args.out (n : Fin 4) (e : Fin 16) (r : Fin 1040) (d : Fin 1024) : EReal :=
  ∑ k : Fin 2816, A.hidden n e r k * A.wd (ix4 0 e k d)

/-- The result as an array. -/
def Args.result : (⟨4, ![4, 16, 1040, 1024]⟩ : Shape).Idx → EReal := fun y => A.out (y 0) (y 1) (y 2) (y 3)

end Cert.Ffn

end
-- ==== Proof.Ffn.Blocks.lean ====
/- The arrays that the feed-forward launch finds, as typed functions, and the block of each window at a grid point: point `t` is
   chunk `t % 11` of the hidden columns, of the pair of batches `t / 11 % 2` of expert `t / 22`. -/
module

public import proofs.«01_k».proof.Proof.Ffn.Track
public import proofs.«01_k».proof.Proof.Ffn.Spec
public import Idealize.ShloMosaic.Lib.Pipeline.ValueKit

@[expose] public section

set_option maxRecDepth 16384

noncomputable section

namespace Cert.Kernel2Ideal.Ffn

open Cert.Kernel2Ideal.Gen Cert.Ffn Idealize.ShloMosaic Idealize.ShloMosaic.TcCoe

variable (m : (ℓ : Loc nD τ sig) → Buf (Elt Ideal) ℓ)

/-! ## The arrays at the launch -/

/-- The tokens. -/
def xA (c : Dev nD) : Vec Ideal S4x16x1040x1024 .bf16 := V m c main_arg0
/-- The gate's weights. -/
def wgA (c : Dev nD) : Vec Ideal S4x16x1024x2816 .f32 := V m c main_arg1
/-- The other projection's weights. -/
def wuA (c : Dev nD) : Vec Ideal S4x16x1024x2816 .f32 := V m c main_arg2
/-- The down projection's weights. -/
def wdA (c : Dev nD) : Vec Ideal S4x16x2816x1024 .f32 := V m c main_arg3

/-- They are the program's arguments. -/
def args (c : Dev nD) : Args where
  x := xA m c
  wg := wgA m c
  wu := wuA m c
  wd := wdA m c

/-! ## The blocks at a grid point -/

def blk0 (c : Dev nD) (t : Fin cfg0.N) : Vec Ideal S2x1x1040x1024 .bf16 := iblk m c 0 t
def blk1 (c : Dev nD) (t : Fin cfg0.N) : Vec Ideal S1x1x1024x256 .f32 := iblk m c 1 t
def blk2 (c : Dev nD) (t : Fin cfg0.N) : Vec Ideal S1x1x1024x256 .f32 := iblk m c 2 t
def blk3 (c : Dev nD) (t : Fin cfg0.N) : Vec Ideal S1x1x256x1024 .f32 := iblk m c 3 t

/-- The grid has 352 points. -/
theorem lt352 (t : Fin cfg0.N) : t.val < 352 := Nat.lt_of_lt_of_eq t.isLt N_0

/-- The batch of half `h` of a grid point's rows. -/
def batchOf (t : Fin cfg0.N) (h : Fin 2) : Fin 4 := ⟨2 * (t.val / 11 % 2) + h.val, by omega⟩
/-- The expert of a grid point. -/
def expertOf (t : Fin cfg0.N) : Fin 16 := ⟨t.val / 22, by have := lt352 t; omega⟩
/-- Hidden column `k` of a grid point's chunk. -/
def colOf (t : Fin cfg0.N) (k : Fin 256) : Fin 2816 := ⟨256 * (t.val % 11) + k.val, by omega⟩

theorem idx0 : ∀ t : Fin cfg0.N, win0_0.index t 0 = t.val / 11 % 2 ∧ win0_0.index t 1 = t.val / 22 ∧ win0_0.index t 2 = 0 ∧ win0_0.index t 3 = 0 :=
  (by decide +kernel : ∀ t : Fin grid0.N, win0_0.index t 0 = t.val / 11 % 2 ∧ win0_0.index t 1 = t.val / 22 ∧ win0_0.index t 2 = 0 ∧ win0_0.index t 3 = 0)

theorem blk0_apply (c : Dev nD) (t : Fin cfg0.N) (h : Fin 2) (r : Fin 1040) (j : Fin 1024) :
    blk0 m c t (ix4 h 0 r j) = xA m c (ix4 (batchOf t h) (expertOf t) r j) := by
  unfold blk0 xA batchOf expertOf
  have hi := idx0 t
  blk_ext [iblk, hi.1, hi.2.1, hi.2.2.1, hi.2.2.2]

theorem idx1 : ∀ t : Fin cfg0.N, win0_1.index t 0 = 0 ∧ win0_1.index t 1 = t.val / 22 ∧ win0_1.index t 2 = 0 ∧ win0_1.index t 3 = t.val % 11 :=
  (by decide +kernel : ∀ t : Fin grid0.N, win0_1.index t 0 = 0 ∧ win0_1.index t 1 = t.val / 22 ∧ win0_1.index t 2 = 0 ∧ win0_1.index t 3 = t.val % 11)

theorem blk1_apply (c : Dev nD) (t : Fin cfg0.N) (j : Fin 1024) (k : Fin 256) :
    blk1 m c t (ix4 0 0 j k) = wgA m c (ix4 0 (expertOf t) j (colOf t k)) := by
  unfold blk1 wgA expertOf colOf
  have hi := idx1 t
  blk_ext [iblk, hi.1, hi.2.1, hi.2.2.1, hi.2.2.2]

theorem idx2 : ∀ t : Fin cfg0.N, win0_2.index t 0 = 0 ∧ win0_2.index t 1 = t.val / 22 ∧ win0_2.index t 2 = 0 ∧ win0_2.index t 3 = t.val % 11 :=
  (by decide +kernel : ∀ t : Fin grid0.N, win0_2.index t 0 = 0 ∧ win0_2.index t 1 = t.val / 22 ∧ win0_2.index t 2 = 0 ∧ win0_2.index t 3 = t.val % 11)

theorem blk2_apply (c : Dev nD) (t : Fin cfg0.N) (j : Fin 1024) (k : Fin 256) :
    blk2 m c t (ix4 0 0 j k) = wuA m c (ix4 0 (expertOf t) j (colOf t k)) := by
  unfold blk2 wuA expertOf colOf
  have hi := idx2 t
  blk_ext [iblk, hi.1, hi.2.1, hi.2.2.1, hi.2.2.2]

theorem idx3 : ∀ t : Fin cfg0.N, win0_3.index t 0 = 0 ∧ win0_3.index t 1 = t.val / 22 ∧ win0_3.index t 2 = t.val % 11 ∧ win0_3.index t 3 = 0 :=
  (by decide +kernel : ∀ t : Fin grid0.N, win0_3.index t 0 = 0 ∧ win0_3.index t 1 = t.val / 22 ∧ win0_3.index t 2 = t.val % 11 ∧ win0_3.index t 3 = 0)

theorem blk3_apply (c : Dev nD) (t : Fin cfg0.N) (k : Fin 256) (d : Fin 1024) :
    blk3 m c t (ix4 0 0 k d) = wdA m c (ix4 0 (expertOf t) (colOf t k) d) := by
  unfold blk3 wdA expertOf colOf
  have hi := idx3 t
  blk_ext [iblk, hi.1, hi.2.1, hi.2.2.1, hi.2.2.2]

theorem idx4 : ∀ t : Fin cfg0.N, win0_4.index t 0 = t.val / 11 % 2 ∧ win0_4.index t 1 = t.val / 22 ∧ win0_4.index t 2 = 0 ∧ win0_4.index t 3 = 0 :=
  (by decide +kernel : ∀ t : Fin grid0.N, win0_4.index t 0 = t.val / 11 % 2 ∧ win0_4.index t 1 = t.val / 22 ∧ win0_4.index t 2 = 0 ∧ win0_4.index t 3 = 0)

/-- Where the output's block lies. -/
theorem emb4 (t : Fin cfg0.N) (h : Fin 2) (r : Fin 1040) (d : Fin 1024) :
    ((win0_4.blk t).view.emb (ix4 h 0 r d) : S4x16x1040x1024.Idx) = ix4 (batchOf t h) (expertOf t) r d := by
  unfold batchOf expertOf
  have hi := idx4 t
  blk_ext [hi.1, hi.2.1, hi.2.2.1, hi.2.2.2]

end Cert.Kernel2Ideal.Ffn

end
-- ==== Proof.Ffn.Run.lean ====
/- The launch of the feed-forward kernel: the proof data of its pipeline, the body at any grid point, and the run of the program with
   what every array holds at the end. -/
module

public import proofs.«01_k».proof.Proof.Ffn.Track
public import Idealize.ShloMosaic.Lib.Claim

@[expose] public section

set_option maxRecDepth 16384

noncomputable section

namespace Cert.Kernel2Ideal.Ffn

open Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The innermost coordinate of a point. -/
theorem coord2 (t : Fin cfg0.N) : (grid0.coords t 2).val = t.val % 11 := by
  have e2 : (grid0.coords t 2).val = t.val / 1 % 11 := Pipeline.Grid.coords_val t 2 (by decide) rfl
  rw [e2, Nat.div_one]

/-- The body writes its output at the points ≡ 10 (mod 11). -/
theorem cond_iff : ∀ t : Fin cfg0.N, k0_cond1 (grid0.coords t) = 1#1 ↔ t.val % 11 = 10 :=
  (fun t => by
    have ht : t.val < 352 := Nat.lt_of_lt_of_eq t.isLt N_0
    have e0 : (grid0.coords t 0).val = t.val / 22 % 16 := Pipeline.Grid.coords_val t 0 (by decide) rfl
    have e1 : (grid0.coords t 1).val = t.val / 11 % 2 := Pipeline.Grid.coords_val t 1 (by decide) rfl
    have e2 : (grid0.coords t 2).val = t.val / 1 % 11 := Pipeline.Grid.coords_val t 2 (by decide) rfl
    simp only [k0_cond1, e0, e1, e2]
    word_cmp
   : ∀ t : Fin grid0.N, k0_cond1 (grid0.coords t) = 1#1 ↔ t.val % 11 = 10)

/-- Each window's staging memref at a point, and the two scratch arrays. -/
abbrev ms0 (t : Fin cfg0.N) : Memref sig .tc .vmem S2x1x1040x1024 .bf16 := win0_0.stage (cfg0.slots t 0)
abbrev ms1 (t : Fin cfg0.N) : Memref sig .tc .vmem S1x1x1024x256 .f32 := win0_1.stage (cfg0.slots t 1)
abbrev ms2 (t : Fin cfg0.N) : Memref sig .tc .vmem S1x1x1024x256 .f32 := win0_2.stage (cfg0.slots t 2)
abbrev ms3 (t : Fin cfg0.N) : Memref sig .tc .vmem S1x1x256x1024 .f32 := win0_3.stage (cfg0.slots t 3)
abbrev ms4 (t : Fin cfg0.N) : Memref sig .tc .vmem S2x1x1040x1024 .bf16 := win0_4.stage (cfg0.slots t 4)
abbrev sc0 : Memref sig .tc .vmem S2080x2816 .bf16 := Memref.whole cc0_scratch0
abbrev sc1 : Memref sig .tc .vmem S2816x1024 .bf16 := Memref.whole cc0_scratch1

/-- The launch's own invariant with the scratch arrays as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- Before point `t` the scratch arrays hold what the points of its run so far have put there. -/
def Inv (c : Dev nD) (t : ℕ) : sProp 𝕄 :=
  iprop((∃ s8, ∃ s9, ⌜Inv8 m c (t / 11) (t % 11) s8 ∧ Inv9 m c (t / 11) (t % 11) s9⌝
      ∗ owns (c : Thread nD τ) sc0 fullShare s8 ∗ owns (c : Thread nD τ) sc1 fullShare s9) ∗ (∃ r, prngReg c r))

/-- The proof data: the arrays as found, each input's buffer at its block after the body, the output's at the run's product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outv (HM m c (t.val / 11)) (WD m c (t.val / 11))
  Φ t := Inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outv (HM m c (t.val / 11)) (WD m c (t.val / 11)) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

section Leaves
variable (c : Dev nD)
theorem live0 (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
      unfold Dat.leavesExact; rfl, after0]
theorem live1 (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
      unfold Dat.leavesExact; rfl, after1]
theorem live2 (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
      unfold Dat.leavesExact; rfl, after2]
theorem live3 (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from by
      unfold Dat.leavesExact; rfl, after3]

/-- The output's buffer at a run's last point ends at the run's product; -/
theorem live4_last (t : Fin cfg0.N) (h : t.val % 11 = 10) :
    (dats m 0 c).leavesExact 4 t = owns (c : Thread nD τ) (ms4 t) fullShare (outv (HM m c (t.val / 11)) (WD m c (t.val / 11))) := by
  have hi : cfg0.idle 4 (grid0.coords t) = false := by
    show (!(k0_cond1 (grid0.coords t) == 1#1)) = false
    rw [(cond_iff t).mpr h]; rfl
  rw [show (dats m 0 c).leavesExact 4 t = owns (c : Thread nD τ) (ms4 t) fullShare ((dats m 0 c).after 4 t) from by
    unfold Dat.leavesExact; rw [hi], after4]

/-- at any other point it is as it was. -/
theorem live4_first (t : Fin cfg0.N) (h : ¬ t.val % 11 = 10) :
    (dats m 0 c).leavesExact 4 t = iprop(∃ d, owns (c : Thread nD τ) (ms4 t) fullShare ((dats m 0 c).before 4 t d)) := by
  have hi : cfg0.idle 4 (grid0.coords t) = true := by
    show (!(k0_cond1 (grid0.coords t) == 1#1)) = true
    rw [beq_eq_false_iff_ne.mpr fun e => h ((cond_iff t).mp e)]; rfl
  have hf : (cfg0.win 4).flush t = false := by
    cases e : (cfg0.win 4).flush t with
    | false => rfl
    | true => exact absurd ((flush0_4 t).mp e) h
  exact Dat.leavesExact_idle (dats m 0 c) 4 t hi hf

end Leaves

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 800000 in
/-- The body at any point: the case the point is in, and the scratch moved on by a chunk. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = Inv m c (t.val + 1) from rfl,
    show (dats m 0 c).owesAt () t.succ = (dats m 0 c).owesAt () t.castSucc from rfl,
    show (dats m 0 c).Φ t.castSucc = Inv m c t.val from rfl]
  rw [live0, live1, live2, live3]
  unfold Inv
  by_cases h0 : t.val % 11 = 10
  · rw [live4_last m c t h0]
    iintro ⟨⟨⟨%s8, %s9, %hs, HS0, HS1⟩, Hg⟩, Ho, ⟨%d0, H0⟩, ⟨%d1, H1⟩, ⟨%d2, H2⟩, ⟨%d3, H3⟩, ⟨%d4, H4⟩⟩
    have n8 : Inv8 m c (t.val / 11) (t.val % 11 + 1) (step8 (grid0.coords t 2).val (iblk m c 0 t) (iblk m c 1 t) (iblk m c 2 t) s8) := by
      rw [coord2]; exact hs.1.step m t _ rfl
    have n9 : Inv9 m c (t.val / 11) (t.val % 11 + 1) (step9 (grid0.coords t 2).val (iblk m c 3 t) s9) := by
      rw [coord2]; exact hs.2.step m t _ rfl
    iapply (run_last c (grid0.coords t) _ _ _ _ _ _ _ _ _ _ _ _ _ _ ((cond_iff t).mpr h0) (iblk m c 0 t) (iblk m c 1 t)
      (iblk m c 2 t) (iblk m c 3 t) ((dats m 0 c).before 4 t d4) s8 s9 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hg]
    · isplitl [HS0 HS1]
      · iexists _, _
        isplitr
        · ipureintro
          exact ⟨n8.succ m, n9.succ m⟩
        isplitl [HS0]
        · iexact HS0
        iexact HS1
      iexact Hg
    isplitl [Ho]; · iexact Ho
    isplitl [H0]; · iexact H0
    isplitl [H1]; · iexact H1
    isplitl [H2]; · iexact H2
    isplitl [H3]; · iexact H3
    have e10 : t.val % 11 + 1 = 11 := by omega
    rw [e10] at n8 n9
    rw [n8.full m, n9.full m]
    iexact H4
  · rw [live4_first m c t h0]
    iintro ⟨⟨⟨%s8, %s9, %hs, HS0, HS1⟩, Hg⟩, Ho, ⟨%d0, H0⟩, ⟨%d1, H1⟩, ⟨%d2, H2⟩, ⟨%d3, H3⟩, ⟨%d4, H4⟩⟩
    have n8 : Inv8 m c (t.val / 11) (t.val % 11 + 1) (step8 (grid0.coords t 2).val (iblk m c 0 t) (iblk m c 1 t) (iblk m c 2 t) s8) := by
      rw [coord2]; exact hs.1.step m t _ rfl
    have n9 : Inv9 m c (t.val / 11) (t.val % 11 + 1) (step9 (grid0.coords t 2).val (iblk m c 3 t) s9) := by
      rw [coord2]; exact hs.2.step m t _ rfl
    iapply (run_first c (grid0.coords t) _ _ _ _ _ _ _ _ _ _ _ _ _ _ (fun h => h0 ((cond_iff t).mp h)) (iblk m c 0 t) (iblk m c 1 t)
      (iblk m c 2 t) (iblk m c 3 t) ((dats m 0 c).before 4 t d4) s8 s9 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hg]
    · isplitl [HS0 HS1]
      · iexists _, _
        isplitr
        · ipureintro
          exact ⟨n8.succ m, n9.succ m⟩
        isplitl [HS0]
        · iexact HS0
        iexact HS1
      iexact Hg
    isplitl [Ho]; · iexact Ho
    isplitl [H0]; · iexact H0
    isplitl [H1]; · iexact H1
    isplitl [H2]; · iexact H2
    isplitl [H3]; · iexact H3
    iexists d4
    iexact H4

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is asked of the scratch; -/
theorem inv_in (c : Dev nD) : (Pipeline.ΦA spec0 c : sProp 𝕄) ⊢ Inv m c 0 := by
  rw [PhiA_eq]; unfold Inv
  iintro ⟨⟨⟨%d0, H0⟩, ⟨%d1, H1⟩⟩, Hg⟩
  isplitl [H0 H1]
  · iexists d0, d1
    isplitr
    · ipureintro; exact ⟨Inv8.zero m d0, Inv9.zero m d1⟩
    isplitl [H0]
    · iexact H0
    iexact H1
  iexact Hg

/-- after any point it may be forgotten. -/
theorem inv_out (c : Dev nD) (t : ℕ) : Inv m c t ⊢ (Pipeline.ΦA spec0 c : sProp 𝕄) := by
  rw [PhiA_eq]; unfold Inv
  iintro ⟨⟨%s8, %s9, %hs, H0, H1⟩, Hg⟩
  isplitl [H0 H1]
  · isplitl [H0]
    · iexists s8; iexact H0
    iexists s9; iexact H1
  iexact Hg

set_option backward.isDefEq.respectTransparency.types false in
/-- The program's run: every array at what the proof data makes of it, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := inv_in m) (hout := fun c => inv_out m c _)

/-- The frame: the argument arrays end as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel2Ideal.Ffn
-- ==== Proof.Ffn.KernelValue.lean ====
/- What the feed-forward kernel leaves in its output, read at an index into the functions of `Ffn.Spec`. -/
module

public import proofs.«01_k».proof.Proof.Ffn.Blocks
public import proofs.«01_k».proof.Proof.Ffn.Run

@[expose] public section

set_option maxRecDepth 16384

noncomputable section

namespace Cert.Kernel2Ideal.Ffn

open Cert.Kernel2Ideal.Gen Cert.Ffn Idealize.ShloMosaic Idealize.ShloMosaic.TcCoe

variable (m : (ℓ : Loc nD τ sig) → Buf (Elt Ideal) ℓ)

/-! ## The payloads at an index -/

theorem eq_index2 {n0 n1 : ℕ} (a : Fin n0) (b : Fin n1) : ValueIdx.ix2 a b = ix2 a b :=
  funext fun i => match i with | ⟨0, _⟩ => rfl | ⟨1, _⟩ => rfl

theorem eq_index4 {n0 n1 n2 n3 : ℕ} (a : Fin n0) (b : Fin n1) (c : Fin n2) (d : Fin n3) : ValueIdx.ix4 a b c d = ix4 a b c d :=
  funext fun i => match i with | ⟨0, _⟩ => rfl | ⟨1, _⟩ => rfl | ⟨2, _⟩ => rfl | ⟨3, _⟩ => rfl

/-- A gated product of two sums. -/
def gated (g u : EReal) : EReal := g * Ideal.logistic g * u

theorem pay6_apply (x1 x2 : Vec Ideal S1x1x1024x256 .f32) (v : Vec Ideal S1x1x1040x1024 .bf16) (r : Fin 1040) (k : Fin 256) :
    k0_pay6 x1 x2 v (ix2 r k)
      = gated (∑ j : Fin 1024, (v (ix4 0 0 r j) : EReal) * x1 (ix4 0 0 j k)) (∑ j : Fin 1024, (v (ix4 0 0 r j) : EReal) * x2 (ix4 0 0 j k)) := by
  unfold gated
  pointwise [k0_pay6, k0_pay5, k0_pay4]

theorem pay7_apply (x1 x2 : Vec Ideal S1x1x1024x256 .f32) (v : Vec Ideal S1x1x1040x1024 .bf16) (r : Fin 1040) (k : Fin 256) :
    k0_pay7 x1 x2 v (ix2 r k)
      = gated (∑ j : Fin 1024, (v (ix4 0 0 r j) : EReal) * x1 (ix4 0 0 j k)) (∑ j : Fin 1024, (v (ix4 0 0 r j) : EReal) * x2 (ix4 0 0 j k)) := by
  unfold gated
  pointwise [k0_pay7, k0_pay5, k0_pay4]

theorem pay1_apply (x3 : Vec Ideal S1x1x256x1024 .f32) (k : Fin 256) (d : Fin 1024) : k0_pay1 x3 (ix2 k d) = x3 (ix4 0 0 k d) := by
  pointwise [k0_pay1]

theorem pay2_apply (h : Vec Ideal S1040x2816 .bf16) (w : Vec Ideal S2816x1024 .bf16) (r : Fin 1040) (d : Fin 1024) :
    k0_pay2 h w (ix4 0 0 r d) = ∑ k : Fin 2816, (h (ix2 r k) : EReal) * w (ix2 k d) := by
  pointwise [k0_pay2]

theorem pay3_apply (h : Vec Ideal S1040x2816 .bf16) (w : Vec Ideal S2816x1024 .bf16) (r : Fin 1040) (d : Fin 1024) :
    k0_pay3 h w (ix4 0 0 r d) = ∑ k : Fin 2816, (h (ix2 r k) : EReal) * w (ix2 k d) := by
  pointwise [k0_pay3]

/-- A window at an index: the array at the place `off` further on. -/
theorem window_apply {s : Shape} {e : EltTy} (x : Vec Ideal s e) (off size : Fin s.rank → ℕ) (inb : ∀ a, off a + size a ≤ s.size a)
    (z : (Rect.unit off size inb).shape.Idx) (y : s.Idx) (h : ∀ a, (y a).val = off a + (z a).val) :
    VecWindow.window x off size inb z = x y :=
  (congrFun (VecWindow.window_eq_ld x off size inb) z).trans (View.ld_unit_apply_of x _ _ _ _ _ h)

/-- The first half of a block of tokens, and the second. -/
theorem half0_apply (x0 : Vec Ideal S2x1x1040x1024 .bf16) (r : Fin 1040) (j : Fin 1024) :
    VecWindow.window x0 ![0, 0, 0, 0] S1x1x1040x1024.size inb_S2x1x1040x1024_S1x1x1040x1024_0_0_0_0 (ix4 0 0 r j) = x0 (ix4 0 0 r j) :=
  window_apply x0 _ _ _ _ _ fun a => match a with
    | ⟨0, _⟩ => rfl
    | ⟨1, _⟩ => rfl
    | ⟨2, _⟩ => (Nat.zero_add _).symm
    | ⟨3, _⟩ => (Nat.zero_add _).symm

theorem half1_apply (x0 : Vec Ideal S2x1x1040x1024 .bf16) (r : Fin 1040) (j : Fin 1024) :
    VecWindow.window x0 ![1, 0, 0, 0] S1x1x1040x1024.size inb_S2x1x1040x1024_S1x1x1040x1024_1_0_0_0 (ix4 0 0 r j) = x0 (ix4 1 0 r j) :=
  window_apply x0 _ _ _ _ _ fun a => match a with
    | ⟨0, _⟩ => rfl
    | ⟨1, _⟩ => rfl
    | ⟨2, _⟩ => (Nat.zero_add _).symm
    | ⟨3, _⟩ => (Nat.zero_add _).symm

/-- The upper rows of the hidden scratch, and the lower. -/
theorem rows0_apply (H : Vec Ideal S2080x2816 .bf16) (r : Fin 1040) (k : Fin 2816) :
    VecWindow.window H ![0, 0] S1040x2816.size inb_S2080x2816_S1040x2816_0_0 (ix2 r k) = H (ix2 ⟨r.val, by omega⟩ k) :=
  window_apply H _ _ _ _ _ fun a => match a with
    | ⟨0, _⟩ => (Nat.zero_add _).symm
    | ⟨1, _⟩ => (Nat.zero_add _).symm

theorem rows1_apply (H : Vec Ideal S2080x2816 .bf16) (r : Fin 1040) (k : Fin 2816) :
    VecWindow.window H ![1040, 0] S1040x2816.size inb_S2080x2816_S1040x2816_1040_0 (ix2 r k) = H (ix2 ⟨1040 + r.val, by omega⟩ k) :=
  window_apply H _ _ _ _ _ fun a => match a with
    | ⟨0, _⟩ => rfl
    | ⟨1, _⟩ => (Nat.zero_add _).symm

/-! ## The scratch arrays at the end of a run -/

/-- The hidden columns of a grid point, for each half of its rows. -/
theorem hid0_apply (c : Dev nD) (t : Fin cfg0.N) (r : Fin 1040) (k : Fin 256) :
    hid0 (blk0 m c t) (blk1 m c t) (blk2 m c t) (ix2 r k) = (args m c).hidden (batchOf t 0) (expertOf t) r (colOf t k) := by
  unfold hid0
  rw [pay6_apply]
  have hx := fun j => (half0_apply (blk0 m c t) r j).trans (blk0_apply m c t 0 r j)
  generalize VecWindow.window (blk0 m c t) _ _ _ = v at hx
  simp only [blk1_apply, blk2_apply, hx]
  rfl

theorem hid1_apply (c : Dev nD) (t : Fin cfg0.N) (r : Fin 1040) (k : Fin 256) :
    hid1 (blk0 m c t) (blk1 m c t) (blk2 m c t) (ix2 r k) = (args m c).hidden (batchOf t 1) (expertOf t) r (colOf t k) := by
  unfold hid1
  rw [pay7_apply]
  have hx := fun j => (half1_apply (blk0 m c t) r j).trans (blk0_apply m c t 1 r j)
  generalize VecWindow.window (blk0 m c t) _ _ _ = v at hx
  simp only [blk1_apply, blk2_apply, hx]
  rfl

/-- Point `k / 256` of the run that `t` ends has the same rows as `t`, and its column `k % 256` is column `k`. -/
theorem point_of_col (t : Fin cfg0.N) (k : Fin 2816) :
    (∀ h, batchOf (pt (t.val / 11) (k.val / 256)) h = batchOf t h) ∧ expertOf (pt (t.val / 11) (k.val / 256)) = expertOf t
      ∧ colOf (pt (t.val / 11) (k.val / 256)) ⟨k.val % 256, Nat.mod_lt _ (by decide)⟩ = k := by
  have ht := lt352 t
  have hk := k.isLt
  have e : (pt (t.val / 11) (k.val / 256)).val = 11 * (t.val / 11) + k.val / 256 := by
    show (11 * (t.val / 11) + k.val / 256) % 352 = _
    omega
  refine ⟨fun h => Fin.ext ?_, Fin.ext ?_, Fin.ext ?_⟩
  · show 2 * ((pt (t.val / 11) (k.val / 256)).val / 11 % 2) + h.val = 2 * (t.val / 11 % 2) + h.val
    rw [e]; omega
  · show (pt (t.val / 11) (k.val / 256)).val / 22 = t.val / 22
    rw [e]; omega
  · show 256 * ((pt (t.val / 11) (k.val / 256)).val % 11) + k.val % 256 = k.val
    rw [e]; omega

/-- The upper half of the hidden scratch. -/
theorem HM_apply0 (c : Dev nD) (t : Fin cfg0.N) (r : Fin 1040) (k : Fin 2816) :
    HM m c (t.val / 11) (ix2 ⟨r.val, by omega⟩ k) = (args m c).hidden (batchOf t 0) (expertOf t) r k := by
  obtain ⟨eb, ee, ek⟩ := point_of_col t k
  unfold HM hid
  refine (dif_pos r.isLt).trans ?_
  refine (congrArg (hid0 (blk0 m c (pt (t.val / 11) (k.val / 256))) (blk1 m c (pt (t.val / 11) (k.val / 256)))
      (blk2 m c (pt (t.val / 11) (k.val / 256)))) (eq_index2 r ⟨k.val % 256, Nat.mod_lt _ (by decide)⟩)).trans ?_
  refine (hid0_apply m c (pt (t.val / 11) (k.val / 256)) r ⟨k.val % 256, Nat.mod_lt _ (by decide)⟩).trans ?_
  rw [eb, ee, ek]

/-- The lower half. -/
theorem HM_apply1 (c : Dev nD) (t : Fin cfg0.N) (r : Fin 1040) (k : Fin 2816) :
    HM m c (t.val / 11) (ix2 ⟨1040 + r.val, by omega⟩ k) = (args m c).hidden (batchOf t 1) (expertOf t) r k := by
  obtain ⟨eb, ee, ek⟩ := point_of_col t k
  have hr := r.isLt
  unfold HM hid
  refine (dif_neg (show ¬ 1040 + r.val < 1040 by omega)).trans ((dif_pos (show 1040 + r.val - 1040 < 1040 by omega)).trans ?_)
  have e : (⟨1040 + r.val - 1040, by omega⟩ : Fin 1040) = r := Fin.ext (by dsimp only; omega)
  refine (congrArg (hid1 (blk0 m c (pt (t.val / 11) (k.val / 256))) (blk1 m c (pt (t.val / 11) (k.val / 256)))
      (blk2 m c (pt (t.val / 11) (k.val / 256)))) ((congrArg (fun q => ValueIdx.ix2 q _) e).trans
        (eq_index2 r ⟨k.val % 256, Nat.mod_lt _ (by decide)⟩))).trans ?_
  refine (hid1_apply m c (pt (t.val / 11) (k.val / 256)) r ⟨k.val % 256, Nat.mod_lt _ (by decide)⟩).trans ?_
  rw [eb, ee, ek]

/-- The scratch of the down projection. -/
theorem WD_apply (c : Dev nD) (t : Fin cfg0.N) (k : Fin 2816) (d : Fin 1024) :
    WD m c (t.val / 11) (ix2 k d) = (args m c).wd (ix4 0 (expertOf t) k d) := by
  obtain ⟨_, ee, ek⟩ := point_of_col t k
  unfold WD
  refine (congrArg (k0_pay1 (blk3 m c (pt (t.val / 11) (k.val / 256)))) (eq_index2 ⟨k.val % 256, Nat.mod_lt _ (by decide)⟩ d)).trans ?_
  rw [pay1_apply]
  refine (blk3_apply m c (pt (t.val / 11) (k.val / 256)) ⟨k.val % 256, Nat.mod_lt _ (by decide)⟩ d).trans ?_
  rw [ee, ek]
  rfl

/-! ## The output -/

theorem out_apply (c : Dev nD) (t : Fin cfg0.N) (h : Fin 2) (r : Fin 1040) (d : Fin 1024) :
    outv (HM m c (t.val / 11)) (WD m c (t.val / 11)) (ix4 h 0 r d) = (args m c).out (batchOf t h) (expertOf t) r d := by
  have hH0 := HM_apply0 m c t
  have hH1 := HM_apply1 m c t
  have hW := WD_apply m c t
  generalize HM m c (t.val / 11) = H at hH0 hH1
  generalize WD m c (t.val / 11) = W at hW
  unfold outv Args.out
  by_cases e : h.val = 0
  · obtain rfl : h = 0 := Fin.ext e
    refine (if_pos rfl).trans ((congrArg (k0_pay2 (VecWindow.window H ![0, 0] S1040x2816.size inb_S2080x2816_S1040x2816_0_0) W)
      (eq_index4 0 0 r d)).trans ?_)
    refine (pay2_apply _ _ r d).trans (Finset.sum_congr rfl fun k _ => ?_)
    rw [hW]
    exact congrArg (fun q : EReal => q * _) ((rows0_apply H r k).trans (hH0 r k))
  · obtain rfl : h = 1 := Fin.ext (by show h.val = 1; omega)
    refine (if_neg Nat.one_ne_zero).trans ((congrArg (k0_pay3 (VecWindow.window H ![1040, 0] S1040x2816.size inb_S2080x2816_S1040x2816_1040_0) W)
      (eq_index4 0 0 r d)).trans ?_)
    refine (pay3_apply _ _ r d).trans (Finset.sum_congr rfl fun k _ => ?_)
    rw [hW]
    exact congrArg (fun q : EReal => q * _) ((rows1_apply H r k).trans (hH1 r k))

/-- The result as an array. -/
def G (c : Dev nD) : Vec Ideal S4x16x1040x1024 .bf16 := (args m c).result

theorem block4 (c : Dev nD) (t : Fin cfg0.N) (y : S2x1x1040x1024.Idx) :
    outv (HM m c (t.val / 11)) (WD m c (t.val / 11)) y = G m c ((win0_4.blk t).view.emb y) := by
  have h1 : (y 1).val < 1 := (y 1).isLt
  obtain ⟨h, r, d, rfl⟩ : ∃ (h : Fin 2) (r : Fin 1040) (d : Fin 1024), y = ix4 h 0 r d :=
    ⟨y 0, y 2, y 3, funext fun a => match a with
      | ⟨0, _⟩ => rfl
      | ⟨1, _⟩ => Fin.ext (by show (y 1).val = 0; omega)
      | ⟨2, _⟩ => rfl
      | ⟨3, _⟩ => rfl⟩
  exact (out_apply m c t h r d).trans (congrArg (G m c) (emb4 t h r d)).symm

/-- The output array at the end of the run. -/
theorem result4 (c : Dev nD) : (dats m 0 c).arrAt 4 cfg0.N = G m c := by
  refine (dats m 0 c).arrAt_eq_of_covers 4 _ (by decide +kernel) fun t hf y => ?_
  rw [after4]
  blk_simp
  exact block4 m c t y

end Cert.Kernel2Ideal.Ffn

end
-- ==== Proof.Ffn.RefValue.lean ====
/- The reference's result of the feed-forward call, read at an index into the functions of `Ffn.Spec`. -/
module

public import proofs.«01_k».proof.Proof.Gen.Reference2Ideal.Read
public import proofs.«01_k».proof.Proof.Ffn.Spec

@[expose] public section

set_option maxRecDepth 16384

noncomputable section

namespace Cert.Reference2Ideal.RefValue

open Cert.Reference2Ideal Cert.Reference2Ideal.Gen Cert.Reference2Ideal.Read Cert.Ffn Idealize.ShloMosaic

variable (A : Args)

/-- The gate's projection; the reference has the weight on the left. -/
theorem gate_apply (n : Fin 4) (e : Fin 16) (r : Fin 1040) (k : Fin 2816) :
    val_main_v4 (F := Ideal) A.x A.wg (ix4 n e r k) = A.gate n e r k := by
  unfold Args.gate
  pointwise [val_main_v4, val_main_v3, val_main_v2, val_main_v1, val_main_v0]
  exact Finset.sum_congr rfl fun j _ => mul_comm _ _

/-- The other projection. -/
theorem up_apply (n : Fin 4) (e : Fin 16) (r : Fin 1040) (k : Fin 2816) :
    val_main_v8 (F := Ideal) A.x A.wu (ix4 n e r k) = A.up n e r k := by
  unfold Args.up
  pointwise [val_main_v8, val_main_v7, val_main_v6, val_main_v5, val_main_v0]
  exact Finset.sum_congr rfl fun j _ => mul_comm _ _

/-- The hidden row. -/
theorem hidden_apply (n : Fin 4) (e : Fin 16) (r : Fin 1040) (k : Fin 2816) :
    val_main_v10 (F := Ideal) A.x A.wg A.wu (ix4 n e r k) = A.hidden n e r k := by
  have hg := gate_apply A n e r k
  have hu := up_apply A n e r k
  unfold val_main_v10 val_main_v9 val_main_call0_v5 val_main_call0_v3 val_main_call0_v1 val_main_call0_v0
  generalize val_main_v4 (F := Ideal) A.x A.wg = P at hg
  generalize val_main_v8 (F := Ideal) A.x A.wu = Q at hu
  pointwise [val_main_call0_v4, val_main_call0_v2, val_main_call0_cst, val_main_call0_cst_0]
  rw [hg, hu]
  unfold Args.hidden Ideal.logistic
  simp

/-- The result. -/
theorem out_apply (n : Fin 4) (e : Fin 16) (r : Fin 1040) (d : Fin 1024) :
    val_main_v15 (F := Ideal) A.x A.wg A.wu A.wd (ix4 n e r d) = A.out n e r d := by
  have hh := hidden_apply A n e
  unfold Args.out val_main_v15 val_main_v14 val_main_v13
  generalize val_main_v10 (F := Ideal) A.x A.wg A.wu = H at hh
  pointwise [val_main_v12, val_main_v11]
  refine Finset.sum_congr rfl fun k _ => ?_
  rw [hh, mul_comm]

/-- The result as an array. -/
theorem result : val_main_v15 (F := Ideal) A.x A.wg A.wu A.wd = A.result :=
  funext fun y => (congrArg (val_main_v15 (F := Ideal) A.x A.wg A.wu A.wd) (ValueIdx.eq_ix4 y)).trans (out_apply A (y 0) (y 1) (y 2) (y 3))

end Cert.Reference2Ideal.RefValue

end
-- ==== Proof.FfnClaim.lean ====
/- The claim on the feed-forward call: both programs run and their results agree. -/
module

public import proofs.«01_k».proof.Defs
public import proofs.«01_k».proof.Proof.Ffn.KernelValue
public import proofs.«01_k».proof.Proof.Ffn.RefValue
public import proofs.«01_k».proof.Proof.Gen.Kernel2Ideal
public import proofs.«01_k».proof.Proof.Gen.Reference2Ideal
public import proofs.«01_k».proof.Proof.Gen.Reference2Ideal.Run

@[expose] public section

noncomputable section

namespace Cert.Ffn

open Cert.Kernel2Ideal.Ffn Idealize.ShloMosaic Idealize.ShloMosaic.TcCoe Idealize.SL.Sem

attribute [local instance] Cert.Kernel2Ideal.Gen.facts Cert.Reference2Ideal.Gen.facts

/-- The arguments that the reference finds, where they are the kernel's. -/
theorem ref_args (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) :
    m' ((c.tc : Thread Cert.Reference2Ideal.nD Cert.Reference2Ideal.τ).loc Cert.Reference2Ideal.main_arg0) = (args m c).x
      ∧ m' ((c.tc : Thread Cert.Reference2Ideal.nD Cert.Reference2Ideal.τ).loc Cert.Reference2Ideal.main_arg1) = (args m c).wg
      ∧ m' ((c.tc : Thread Cert.Reference2Ideal.nD Cert.Reference2Ideal.τ).loc Cert.Reference2Ideal.main_arg2) = (args m c).wu
      ∧ m' ((c.tc : Thread Cert.Reference2Ideal.nD Cert.Reference2Ideal.τ).loc Cert.Reference2Ideal.main_arg3) = (args m c).wd := h

theorem algebraic : Cert.algebraic_Kernel2Ideal_Reference2Ideal := by
  intro m g m' g' _ h
  refine ⟨fun c => G m c, ?_, ?_⟩
  · refine (θ_run Cert.Kernel2Ideal.defs _ _).mono (fun r hr c => ⟨?_, hr.2.1 c⟩) (θ_run_and (run_main m g) (frame m g))
    exact ((hr.1.1 c).1 4).trans (result4 m c)
  · refine (θ_run Cert.Reference2Ideal.defs _ _).mono (fun r hr c => ?_) (Cert.Reference2Ideal.Value.run m' g')
    obtain ⟨h0, hargs⟩ := hr c
    obtain ⟨a0, a1, a2, a3⟩ := ref_args m m' c (h c)
    refine ⟨h0.trans ((Cert.Reference2Ideal.Read.val_main_v15_eq _ _ _ _).trans ?_), hargs⟩
    rw [a0, a1, a2, a3]
    exact Cert.Reference2Ideal.RefValue.result (args m c)

end Cert.Ffn

end
-- ==== Proof.Ret.Chain.lean ====
/- One grid point of the kernel that carries the retention's states over the chunks: the five states it goes through for one
   direction, sequence and head, and the stores of its body as lists. -/
module

public import proofs.«01_k».proof.Proof.Gen.Kernel3Ideal.Frame
public import Idealize.ShloMosaic.Lib.Pointwise

@[expose] public section

set_option maxRecDepth 16384

noncomputable section

namespace Cert.Kernel3Ideal.Ret

open Cert.Kernel3Ideal.Gen Idealize.ShloMosaic Idealize.ShloMosaic.TcCoe Idealize.ShloMosaic.Tactic

variable {F : FTy → Type} [FloatOps F]

/-! ## The states of one direction, sequence and head -/

/-- The state after a chunk: the one before, faded, and the chunk's weighted keys times its values. -/
def next (z : FVec F S128x1 .f32) (w : FVec F S1x128 .f32) (st : FVec F S128x128 .f32) (k v : Vec F S1x128x128 .bf16) :
    FVec F S128x128 .f32 :=
  addf (mulf st (broadcastTo S128x128 w broadcasts_S1x128_S128x128))
    (matmul dot_S128x128_S128x128_S128x128_0_0_1_1_n_n none
      (truncf .bf16 (mulf (extf .f32 (shapeCast S128x128 k shapeCasts_S1x128x128_S128x128) bitsLt_bf16_f32)
        (broadcastTo S128x128 z broadcasts_S128x1_S128x128)) bitsLt_bf16_f32)
      (shapeCast S128x128 v shapeCasts_S1x128x128_S128x128) (constant S128x128 .f32 0x00000000#32))

/-- The state after `n` of a tile's five chunks. -/
def chain (z : FVec F S128x1 .f32) (w : FVec F S1x128 .f32) (st : FVec F S128x128 .f32) (k v : Fin 5 → Vec F S1x128x128 .bf16) :
    ℕ → FVec F S128x128 .f32
  | 0 => st
  | n + 1 => next z w (chain z w st k v n) (k ⟨n % 5, Nat.mod_lt _ (by decide)⟩) (v ⟨n % 5, Nat.mod_lt _ (by decide)⟩)

/-- The forward direction's: chunks in the order of the rows. -/
def fwd (l : Elt F .f32) (st : Vec F S1x1x1x128x128 .f32) (k v : Fin 5 → Vec F S1x128x128 .bf16) (n : ℕ) : FVec F S128x128 .f32 :=
  chain (k0_pay5 l) (k0_pay6 l) (k0_pay7 st) k v n

/-- The backward direction's: chunks from the last to the first. -/
def bwd (l : Elt F .f32) (st : Vec F S1x1x1x128x128 .f32) (k v : Fin 5 → Vec F S1x128x128 .bf16) (n : ℕ) : FVec F S128x128 .f32 :=
  chain (k0_pay391 k0_pay3 l) (k0_pay6 l) (k0_pay7 st) (fun j => k j.rev) (fun j => v j.rev) n

/-! ## What the body loads -/

theorem inbL (d : Fin 2) (h : Fin 4) : ∀ a, (![d.val, h.val] : Fin S2x4.rank → ℕ) a + S1x1.size a ≤ S2x4.size a := fun a =>
  match a with
  | ⟨0, _⟩ => by show d.val + 1 ≤ 2; omega
  | ⟨1, _⟩ => by show h.val + 1 ≤ 4; omega

theorem inbK (b h : Fin 4) (j : Fin 5) :
    ∀ a, (![b.val, 128 * j.val, 128 * h.val] : Fin S4x640x512.rank → ℕ) a + S1x128x128.size a ≤ S4x640x512.size a := fun a =>
  match a with
  | ⟨0, _⟩ => by show b.val + 1 ≤ 4; omega
  | ⟨1, _⟩ => by show 128 * j.val + 128 ≤ 640; omega
  | ⟨2, _⟩ => by show 128 * h.val + 128 ≤ 512; omega

theorem inbS (b : Fin 4) (d : Fin 2) (h : Fin 4) :
    ∀ a, (![b.val, d.val, h.val, 0, 0] : Fin S4x2x4x128x128.rank → ℕ) a + S1x1x1x128x128.size a ≤ S4x2x4x128x128.size a := fun a =>
  match a with
  | ⟨0, _⟩ => by show b.val + 1 ≤ 4; omega
  | ⟨1, _⟩ => by show d.val + 1 ≤ 2; omega
  | ⟨2, _⟩ => by show h.val + 1 ≤ 4; omega
  | ⟨3, _⟩ => by show 0 + 128 ≤ 128; omega
  | ⟨4, _⟩ => by show 0 + 128 ≤ 128; omega

theorem inbO (b : Fin 4) (j : Fin 5) (h : Fin 4) :
    ∀ a, (![b.val, j.val, h.val, 0, 0] : Fin S4x5x4x128x128.rank → ℕ) a + S1x1x1x128x128.size a ≤ S4x5x4x128x128.size a := fun a =>
  match a with
  | ⟨0, _⟩ => by show b.val + 1 ≤ 4; omega
  | ⟨1, _⟩ => by show j.val + 1 ≤ 5; omega
  | ⟨2, _⟩ => by show h.val + 1 ≤ 4; omega
  | ⟨3, _⟩ => by show 0 + 128 ≤ 128; omega
  | ⟨4, _⟩ => by show 0 + 128 ≤ 128; omega

/-- The logarithm of the fading rate of direction `d` and head `h`. -/
def rdL (arg1 : Memref sig .tc .smem S2x4 .f32) (harg1 : arg1.IsWhole) (x0 : Vec F S2x4 .f32) (d : Fin 2) (h : Fin 4) : Elt F .f32 :=
  View.readAt (Elt F) arg1.view (Rect.unit (s := S2x4) ![d.val, h.val] S1x1.size (inbL d h)).toLoadRect (harg1.unread x0)
    (Shape.Idx.first (show 0 < S1x1.numel by decide))

/-- Chunk `j` of sequence `b` and head `h` in a block of keys or of values. -/
def rdK (arg : Memref sig .tc .vmem S4x640x512 .bf16) (harg : arg.IsWhole) (x : Vec F S4x640x512 .bf16) (b h : Fin 4) (j : Fin 5) :
    Vec F S1x128x128 .bf16 :=
  View.readAt (Elt F) arg.view (Rect.unit (s := S4x640x512) ![b.val, 128 * j.val, 128 * h.val] S1x128x128.size (inbK b h j)).toLoadRect (harg.unread x)

/-- The state that the scratch array holds for sequence `b`, direction `d` and head `h`. -/
def rdS (arg8 : Memref sig .tc .vmem S4x2x4x128x128 .f32) (f : arg8.view.ty.Contents (Elt F)) (b : Fin 4) (d : Fin 2) (h : Fin 4) :
    Vec F S1x1x1x128x128 .f32 :=
  View.readAt (Elt F) arg8.view (Rect.unit (s := S4x2x4x128x128) ![b.val, d.val, h.val, 0, 0] S1x1x1x128x128.size (inbS b d h)).toLoadRect f

/-! ## What the body stores -/

/-- Heads and sequences, the last first. -/
def headsBatches : List (Fin 4 × Fin 4) :=
  [(3, 3), (3, 2), (3, 1), (3, 0), (2, 3), (2, 2), (2, 1), (2, 0), (1, 3), (1, 2), (1, 1), (1, 0), (0, 3), (0, 2), (0, 1), (0, 0)]

/-- The stores into an output's block, `js` the order of the chunks: the state before each, rounded. -/
def outPieces (js : List (Fin 5)) (S : Fin 4 → Fin 4 → Fin 5 → FVec F S128x128 .f32) : List (View.Piece (Elt F) S4x5x4x128x128 .bf16) :=
  headsBatches.flatMap fun q => js.map fun j =>
    ⟨Rect.unit (s := S4x5x4x128x128) ![q.2.val, j.val, q.1.val, 0, 0] S1x1x1x128x128.size (inbO q.2 j q.1),
      shapeCast S1x1x1x128x128 (truncf .bf16 (S q.2 q.1 j) bitsLt_bf16_f32) shapeCasts_S128x128_S1x1x1x128x128⟩

/-- The stores of direction `d`'s states into the scratch array. -/
def scrPieces (d : Fin 2) (S : Fin 4 → Fin 4 → FVec F S128x128 .f32) : List (View.Piece (Elt F) S4x2x4x128x128 .f32) :=
  headsBatches.map fun q =>
    ⟨Rect.unit (s := S4x2x4x128x128) ![q.2.val, d.val, q.1.val, 0, 0] S1x1x1x128x128.size (inbS q.2 d q.1),
      shapeCast S1x1x1x128x128 (S q.2 q.1) shapeCasts_S128x128_S1x1x1x128x128⟩

end Cert.Kernel3Ideal.Ret

end
-- ==== Proof.Ret.Body.lean ====
/- The stores of one grid point's body, in each of its two cases: they are the lists of `Ret.Chain`. -/
module

public import proofs.«01_k».proof.Proof.Ret.Chain

@[expose] public section

set_option maxRecDepth 16384

noncomputable section

namespace Cert.Kernel3Ideal.Ret

open Cert.Kernel3Ideal.Gen Idealize.ShloMosaic Idealize.ShloMosaic.TcCoe Idealize.ShloMosaic.Tactic

variable {F : FTy → Type} [FloatOps F]

/-! ## Any point but the first -/

/-- The stores of forward states. -/
theorem listB_5 (c : Dev nD) (i : grid0.Coords) (arg1 : Memref sig .tc .smem S2x4 .f32) (harg1 : arg1.IsWhole) (arg2 : Memref sig .tc .vmem S4x640x512 .bf16) (harg2 : arg2.IsWhole) (arg3 : Memref sig .tc .vmem S4x640x512 .bf16) (harg3 : arg3.IsWhole) (arg4 : Memref sig .tc .vmem S4x640x512 .bf16) (harg4 : arg4.IsWhole) (arg5 : Memref sig .tc .vmem S4x640x512 .bf16) (harg5 : arg5.IsWhole) (arg6 : Memref sig .tc .vmem S4x5x4x128x128 .bf16) (harg6 : arg6.IsWhole) (arg7 : Memref sig .tc .vmem S4x5x4x128x128 .bf16) (harg7 : arg7.IsWhole) (arg8 : Memref sig .tc .vmem S4x2x4x128x128 .f32) (harg8 : arg8.IsWhole) (hc0 : ¬cond0_0 i)
    (x0 : Vec F S2x4 .f32) (x1 x2 x3 x4 : Vec F S4x640x512 .bf16) (xs0 : Vec F S4x2x4x128x128 .f32) :
    (kernelRun0_B c i arg1 harg1 arg2 harg2 arg3 harg3 arg4 harg4 arg5 harg5 arg6 harg6 arg7 harg7 arg8 harg8 hc0 x0 x1 x2 x3 x4 xs0).1 = outPieces [4, 3, 2, 1, 0] fun b h n => fwd (rdL arg1 harg1 x0 0 h) (rdS arg8 (harg8.unread xs0) b 0 h) (rdK arg2 harg2 x1 b h) (rdK arg3 harg3 x2 b h) n.val := by
  sl_kernel_rfl

/-- The stores of backward states. -/
theorem listB_6 (c : Dev nD) (i : grid0.Coords) (arg1 : Memref sig .tc .smem S2x4 .f32) (harg1 : arg1.IsWhole) (arg2 : Memref sig .tc .vmem S4x640x512 .bf16) (harg2 : arg2.IsWhole) (arg3 : Memref sig .tc .vmem S4x640x512 .bf16) (harg3 : arg3.IsWhole) (arg4 : Memref sig .tc .vmem S4x640x512 .bf16) (harg4 : arg4.IsWhole) (arg5 : Memref sig .tc .vmem S4x640x512 .bf16) (harg5 : arg5.IsWhole) (arg6 : Memref sig .tc .vmem S4x5x4x128x128 .bf16) (harg6 : arg6.IsWhole) (arg7 : Memref sig .tc .vmem S4x5x4x128x128 .bf16) (harg7 : arg7.IsWhole) (arg8 : Memref sig .tc .vmem S4x2x4x128x128 .f32) (harg8 : arg8.IsWhole) (hc0 : ¬cond0_0 i)
    (x0 : Vec F S2x4 .f32) (x1 x2 x3 x4 : Vec F S4x640x512 .bf16) (xs0 : Vec F S4x2x4x128x128 .f32) :
    (kernelRun0_B c i arg1 harg1 arg2 harg2 arg3 harg3 arg4 harg4 arg5 harg5 arg6 harg6 arg7 harg7 arg8 harg8 hc0 x0 x1 x2 x3 x4 xs0).2.1 = outPieces [0, 1, 2, 3, 4] fun b h n => bwd (rdL arg1 harg1 x0 1 h) (rdS arg8 (harg8.unread xs0) b 1 h) (rdK arg4 harg4 x3 b h) (rdK arg5 harg5 x4 b h) n.rev.val := by
  sl_kernel_rfl

/-- The stores into the scratch array. -/
theorem listB_S (c : Dev nD) (i : grid0.Coords) (arg1 : Memref sig .tc .smem S2x4 .f32) (harg1 : arg1.IsWhole) (arg2 : Memref sig .tc .vmem S4x640x512 .bf16) (harg2 : arg2.IsWhole) (arg3 : Memref sig .tc .vmem S4x640x512 .bf16) (harg3 : arg3.IsWhole) (arg4 : Memref sig .tc .vmem S4x640x512 .bf16) (harg4 : arg4.IsWhole) (arg5 : Memref sig .tc .vmem S4x640x512 .bf16) (harg5 : arg5.IsWhole) (arg6 : Memref sig .tc .vmem S4x5x4x128x128 .bf16) (harg6 : arg6.IsWhole) (arg7 : Memref sig .tc .vmem S4x5x4x128x128 .bf16) (harg7 : arg7.IsWhole) (arg8 : Memref sig .tc .vmem S4x2x4x128x128 .f32) (harg8 : arg8.IsWhole) (hc0 : ¬cond0_0 i)
    (x0 : Vec F S2x4 .f32) (x1 x2 x3 x4 : Vec F S4x640x512 .bf16) (xs0 : Vec F S4x2x4x128x128 .f32) :
    (kernelRun0_B c i arg1 harg1 arg2 harg2 arg3 harg3 arg4 harg4 arg5 harg5 arg6 harg6 arg7 harg7 arg8 harg8 hc0 x0 x1 x2 x3 x4 xs0).2.2.1 = scrPieces 1 (fun b h => bwd (rdL arg1 harg1 x0 1 h) (rdS arg8 (harg8.unread xs0) b 1 h) (rdK arg4 harg4 x3 b h) (rdK arg5 harg5 x4 b h) 5)
      ++ scrPieces 0 (fun b h => fwd (rdL arg1 harg1 x0 0 h) (rdS arg8 (harg8.unread xs0) b 0 h) (rdK arg2 harg2 x1 b h) (rdK arg3 harg3 x2 b h) 5) := by
  sl_kernel_rfl

/-! ## The first point -/

/-- The scratch array's stores before load number `n` of a state: the clearing of the array, then `n` states. -/
def before (c : Dev nD) (arg1 : Memref sig .tc .smem S2x4 .f32) (harg1 : arg1.IsWhole) (arg2 : Memref sig .tc .vmem S4x640x512 .bf16) (harg2 : arg2.IsWhole) (arg3 : Memref sig .tc .vmem S4x640x512 .bf16) (harg3 : arg3.IsWhole) (arg4 : Memref sig .tc .vmem S4x640x512 .bf16) (harg4 : arg4.IsWhole) (arg5 : Memref sig .tc .vmem S4x640x512 .bf16) (harg5 : arg5.IsWhole) (arg8 : Memref sig .tc .vmem S4x2x4x128x128 .f32)
    (x0 : Vec F S2x4 .f32) (x1 x2 x3 x4 : Vec F S4x640x512 .bf16) : ℕ → List (View.Piece (Elt F) S4x2x4x128x128 .f32)
  | 0 => kernelRun0_A.sl.HS0_1
  | 1 => kernelRun0_A.sl.HS0_2 c arg1 harg1 arg2 harg2 arg3 harg3 arg8 x0 x1 x2
  | 2 => kernelRun0_A.sl.HS0_3 c arg1 harg1 arg2 harg2 arg3 harg3 arg8 x0 x1 x2
  | 3 => kernelRun0_A.sl.HS0_4 c arg1 harg1 arg2 harg2 arg3 harg3 arg8 x0 x1 x2
  | 4 => kernelRun0_A.sl.HS0_5 c arg1 harg1 arg2 harg2 arg3 harg3 arg8 x0 x1 x2
  | 5 => kernelRun0_A.sl.HS0_6 c arg1 harg1 arg2 harg2 arg3 harg3 arg8 x0 x1 x2
  | 6 => kernelRun0_A.sl.HS0_7 c arg1 harg1 arg2 harg2 arg3 harg3 arg8 x0 x1 x2
  | 7 => kernelRun0_A.sl.HS0_8 c arg1 harg1 arg2 harg2 arg3 harg3 arg8 x0 x1 x2
  | 8 => kernelRun0_A.sl.HS0_9 c arg1 harg1 arg2 harg2 arg3 harg3 arg8 x0 x1 x2
  | 9 => kernelRun0_A.sl.HS0_10 c arg1 harg1 arg2 harg2 arg3 harg3 arg8 x0 x1 x2
  | 10 => kernelRun0_A.sl.HS0_11 c arg1 harg1 arg2 harg2 arg3 harg3 arg8 x0 x1 x2
  | 11 => kernelRun0_A.sl.HS0_12 c arg1 harg1 arg2 harg2 arg3 harg3 arg8 x0 x1 x2
  | 12 => kernelRun0_A.sl.HS0_13 c arg1 harg1 arg2 harg2 arg3 harg3 arg8 x0 x1 x2
  | 13 => kernelRun0_A.sl.HS0_14 c arg1 harg1 arg2 harg2 arg3 harg3 arg8 x0 x1 x2
  | 14 => kernelRun0_A.sl.HS0_15 c arg1 harg1 arg2 harg2 arg3 harg3 arg8 x0 x1 x2
  | 15 => kernelRun0_A.sl.HS0_16 c arg1 harg1 arg2 harg2 arg3 harg3 arg8 x0 x1 x2
  | 16 => kernelRun0_A.sl.HS0_17 c arg1 harg1 arg2 harg2 arg3 harg3 arg8 x0 x1 x2
  | 17 => kernelRun0_A.sl.HS0_18 c arg1 harg1 arg2 harg2 arg3 harg3 arg4 harg4 arg5 harg5 arg8 x0 x1 x2 x3 x4
  | 18 => kernelRun0_A.sl.HS0_19 c arg1 harg1 arg2 harg2 arg3 harg3 arg4 harg4 arg5 harg5 arg8 x0 x1 x2 x3 x4
  | 19 => kernelRun0_A.sl.HS0_20 c arg1 harg1 arg2 harg2 arg3 harg3 arg4 harg4 arg5 harg5 arg8 x0 x1 x2 x3 x4
  | 20 => kernelRun0_A.sl.HS0_21 c arg1 harg1 arg2 harg2 arg3 harg3 arg4 harg4 arg5 harg5 arg8 x0 x1 x2 x3 x4
  | 21 => kernelRun0_A.sl.HS0_22 c arg1 harg1 arg2 harg2 arg3 harg3 arg4 harg4 arg5 harg5 arg8 x0 x1 x2 x3 x4
  | 22 => kernelRun0_A.sl.HS0_23 c arg1 harg1 arg2 harg2 arg3 harg3 arg4 harg4 arg5 harg5 arg8 x0 x1 x2 x3 x4
  | 23 => kernelRun0_A.sl.HS0_24 c arg1 harg1 arg2 harg2 arg3 harg3 arg4 harg4 arg5 harg5 arg8 x0 x1 x2 x3 x4
  | 24 => kernelRun0_A.sl.HS0_25 c arg1 harg1 arg2 harg2 arg3 harg3 arg4 harg4 arg5 harg5 arg8 x0 x1 x2 x3 x4
  | 25 => kernelRun0_A.sl.HS0_26 c arg1 harg1 arg2 harg2 arg3 harg3 arg4 harg4 arg5 harg5 arg8 x0 x1 x2 x3 x4
  | 26 => kernelRun0_A.sl.HS0_27 c arg1 harg1 arg2 harg2 arg3 harg3 arg4 harg4 arg5 harg5 arg8 x0 x1 x2 x3 x4
  | 27 => kernelRun0_A.sl.HS0_28 c arg1 harg1 arg2 harg2 arg3 harg3 arg4 harg4 arg5 harg5 arg8 x0 x1 x2 x3 x4
  | 28 => kernelRun0_A.sl.HS0_29 c arg1 harg1 arg2 harg2 arg3 harg3 arg4 harg4 arg5 harg5 arg8 x0 x1 x2 x3 x4
  | 29 => kernelRun0_A.sl.HS0_30 c arg1 harg1 arg2 harg2 arg3 harg3 arg4 harg4 arg5 harg5 arg8 x0 x1 x2 x3 x4
  | 30 => kernelRun0_A.sl.HS0_31 c arg1 harg1 arg2 harg2 arg3 harg3 arg4 harg4 arg5 harg5 arg8 x0 x1 x2 x3 x4
  | 31 => kernelRun0_A.sl.HS0_32 c arg1 harg1 arg2 harg2 arg3 harg3 arg4 harg4 arg5 harg5 arg8 x0 x1 x2 x3 x4
  | _ => []

/-- The state that the first point loads for sequence `b`, direction `d` and head `h`. -/
def rdA (c : Dev nD) (arg1 : Memref sig .tc .smem S2x4 .f32) (harg1 : arg1.IsWhole) (arg2 : Memref sig .tc .vmem S4x640x512 .bf16) (harg2 : arg2.IsWhole) (arg3 : Memref sig .tc .vmem S4x640x512 .bf16) (harg3 : arg3.IsWhole) (arg4 : Memref sig .tc .vmem S4x640x512 .bf16) (harg4 : arg4.IsWhole) (arg5 : Memref sig .tc .vmem S4x640x512 .bf16) (harg5 : arg5.IsWhole) (arg8 : Memref sig .tc .vmem S4x2x4x128x128 .f32)
    (x0 : Vec F S2x4 .f32) (x1 x2 x3 x4 : Vec F S4x640x512 .bf16) (b : Fin 4) (d : Fin 2) (h : Fin 4) : Vec F S1x1x1x128x128 .f32 :=
  arg8.view.readCov (before c arg1 harg1 arg2 harg2 arg3 harg3 arg4 harg4 arg5 harg5 arg8 x0 x1 x2 x3 x4 (16 * d.val + 4 * h.val + b.val))
    (Rect.unit (s := S4x2x4x128x128) ![b.val, d.val, h.val, 0, 0] S1x1x1x128x128.size (inbS b d h)).toLoadRect

/-- The stores of forward states. -/
theorem listA_5 (c : Dev nD) (i : grid0.Coords) (arg1 : Memref sig .tc .smem S2x4 .f32) (harg1 : arg1.IsWhole) (arg2 : Memref sig .tc .vmem S4x640x512 .bf16) (harg2 : arg2.IsWhole) (arg3 : Memref sig .tc .vmem S4x640x512 .bf16) (harg3 : arg3.IsWhole) (arg4 : Memref sig .tc .vmem S4x640x512 .bf16) (harg4 : arg4.IsWhole) (arg5 : Memref sig .tc .vmem S4x640x512 .bf16) (harg5 : arg5.IsWhole) (arg6 : Memref sig .tc .vmem S4x5x4x128x128 .bf16) (harg6 : arg6.IsWhole) (arg7 : Memref sig .tc .vmem S4x5x4x128x128 .bf16) (harg7 : arg7.IsWhole) (arg8 : Memref sig .tc .vmem S4x2x4x128x128 .f32) (harg8 : arg8.IsWhole) (hc0 : cond0_0 i)
    (x0 : Vec F S2x4 .f32) (x1 x2 x3 x4 : Vec F S4x640x512 .bf16) :
    (kernelRun0_A c i arg1 harg1 arg2 harg2 arg3 harg3 arg4 harg4 arg5 harg5 arg6 harg6 arg7 harg7 arg8 harg8 hc0 x0 x1 x2 x3 x4).1 = outPieces [4, 3, 2, 1, 0] fun b h n => fwd (rdL arg1 harg1 x0 0 h) (rdA c arg1 harg1 arg2 harg2 arg3 harg3 arg4 harg4 arg5 harg5 arg8 x0 x1 x2 x3 x4 b 0 h) (rdK arg2 harg2 x1 b h) (rdK arg3 harg3 x2 b h) n.val := by
  sl_kernel_rfl

/-- The stores of backward states. -/
theorem listA_6 (c : Dev nD) (i : grid0.Coords) (arg1 : Memref sig .tc .smem S2x4 .f32) (harg1 : arg1.IsWhole) (arg2 : Memref sig .tc .vmem S4x640x512 .bf16) (harg2 : arg2.IsWhole) (arg3 : Memref sig .tc .vmem S4x640x512 .bf16) (harg3 : arg3.IsWhole) (arg4 : Memref sig .tc .vmem S4x640x512 .bf16) (harg4 : arg4.IsWhole) (arg5 : Memref sig .tc .vmem S4x640x512 .bf16) (harg5 : arg5.IsWhole) (arg6 : Memref sig .tc .vmem S4x5x4x128x128 .bf16) (harg6 : arg6.IsWhole) (arg7 : Memref sig .tc .vmem S4x5x4x128x128 .bf16) (harg7 : arg7.IsWhole) (arg8 : Memref sig .tc .vmem S4x2x4x128x128 .f32) (harg8 : arg8.IsWhole) (hc0 : cond0_0 i)
    (x0 : Vec F S2x4 .f32) (x1 x2 x3 x4 : Vec F S4x640x512 .bf16) :
    (kernelRun0_A c i arg1 harg1 arg2 harg2 arg3 harg3 arg4 harg4 arg5 harg5 arg6 harg6 arg7 harg7 arg8 harg8 hc0 x0 x1 x2 x3 x4).2.1 = outPieces [0, 1, 2, 3, 4] fun b h n => bwd (rdL arg1 harg1 x0 1 h) (rdA c arg1 harg1 arg2 harg2 arg3 harg3 arg4 harg4 arg5 harg5 arg8 x0 x1 x2 x3 x4 b 1 h) (rdK arg4 harg4 x3 b h) (rdK arg5 harg5 x4 b h) n.rev.val := by
  sl_kernel_rfl

/-- The stores into the scratch array. -/
theorem listA_S (c : Dev nD) (i : grid0.Coords) (arg1 : Memref sig .tc .smem S2x4 .f32) (harg1 : arg1.IsWhole) (arg2 : Memref sig .tc .vmem S4x640x512 .bf16) (harg2 : arg2.IsWhole) (arg3 : Memref sig .tc .vmem S4x640x512 .bf16) (harg3 : arg3.IsWhole) (arg4 : Memref sig .tc .vmem S4x640x512 .bf16) (harg4 : arg4.IsWhole) (arg5 : Memref sig .tc .vmem S4x640x512 .bf16) (harg5 : arg5.IsWhole) (arg6 : Memref sig .tc .vmem S4x5x4x128x128 .bf16) (harg6 : arg6.IsWhole) (arg7 : Memref sig .tc .vmem S4x5x4x128x128 .bf16) (harg7 : arg7.IsWhole) (arg8 : Memref sig .tc .vmem S4x2x4x128x128 .f32) (harg8 : arg8.IsWhole) (hc0 : cond0_0 i)
    (x0 : Vec F S2x4 .f32) (x1 x2 x3 x4 : Vec F S4x640x512 .bf16) :
    (kernelRun0_A c i arg1 harg1 arg2 harg2 arg3 harg3 arg4 harg4 arg5 harg5 arg6 harg6 arg7 harg7 arg8 harg8 hc0 x0 x1 x2 x3 x4).2.2.1 = (scrPieces 1 (fun b h => bwd (rdL arg1 harg1 x0 1 h) (rdA c arg1 harg1 arg2 harg2 arg3 harg3 arg4 harg4 arg5 harg5 arg8 x0 x1 x2 x3 x4 b 1 h) (rdK arg4 harg4 x3 b h) (rdK arg5 harg5 x4 b h) 5)
      ++ scrPieces 0 (fun b h => fwd (rdL arg1 harg1 x0 0 h) (rdA c arg1 harg1 arg2 harg2 arg3 harg3 arg4 harg4 arg5 harg5 arg8 x0 x1 x2 x3 x4 b 0 h) (rdK arg2 harg2 x1 b h) (rdK arg3 harg3 x2 b h) 5))
      ++ [⟨Rect.unit (s := S4x2x4x128x128) ![0, 0, 0, 0, 0] S4x2x4x128x128.size inb_S4x2x4x128x128_S4x2x4x128x128_0_0_0_0_0, k0_pay2⟩] := by
  sl_kernel_rfl

end Cert.Kernel3Ideal.Ret

end
-- ==== Proof.Ret.Spec.lean ====
/- What the call that carries the retention's states computes, as functions of coordinates over the extended reals. Both programs
   are read into these functions (`Ret.RefValue`, `Ret.KernelValue`). -/
module

public import Idealize.ShloMosaic.Lib.Pointwise

@[expose] public section

noncomputable section

namespace Cert.Ret

open Idealize.ShloMosaic

/-- The arguments of the call: the decay parameters of both directions and four heads, the keys and the values. -/
structure Args where
  decay : (⟨2, ![2, 4]⟩ : Shape).Idx → EReal
  k : (⟨3, ![4, 8320, 512]⟩ : Shape).Idx → EReal
  v : (⟨3, ![4, 8320, 512]⟩ : Shape).Idx → EReal

/-- The weight of row `i` of a chunk: it fades over the rows that follow. -/
def weight (l : EReal) (i : ℕ) : EReal := Ideal.exp (l * (((127 : ℝ) : EReal) - ((i : ℝ) : EReal)))

/-- How much a state fades over a chunk. -/
def fade (l : EReal) : EReal := Ideal.exp (l * ((128 : ℝ) : EReal))

/-- Column `p` of head `h`. -/
def col (h : Fin 4) (p : Fin 128) : Fin 512 := ⟨128 * h.val + p.val, by omega⟩

/-- Row `i` of chunk `n` in a direction: the backward one counts from the end. -/
def row (d : Fin 2) (n : ℕ) (i : Fin 128) : Fin 8320 :=
  if d.val = 0 then ⟨(128 * n + i.val) % 8320, Nat.mod_lt _ (by decide)⟩ else ⟨8319 - (128 * n + i.val), by omega⟩

/-! The programs' own constants and row numbers. -/

theorem c127 : Ideal.ofBits .f32 0x42FE0000#32 = ((127 : ℝ) : EReal) := by
  simp [Ideal.ofBits, Ideal.ieee, -EReal.coe_mul]; norm_num

theorem c128 : Ideal.ofBits .f32 0x43000000#32 = ((128 : ℝ) : EReal) := by
  simp [Ideal.ofBits, Ideal.ieee, -EReal.coe_mul]; norm_num

/-- The number of a row, as the programs make it. -/
theorem count (r : Fin 128) : FloatOps.sitofp (F := Ideal) .f32 (BitVec.ofNat 32 r.val) = ((r.val : ℝ) : EReal) := by
  show (((BitVec.ofNat 32 r.val).toInt : ℝ) : EReal) = _
  have : (BitVec.ofNat 32 r.val).toInt = (r.val : ℤ) := by
    rw [BitVec.toInt_eq_toNat_of_lt (by rw [BitVec.toNat_ofNat]; omega), BitVec.toNat_ofNat]; omega
  rw [this, Int.cast_natCast]

variable (A : Args)

/-- The logarithm of the fading rate. -/
def Args.rate (d : Fin 2) (h : Fin 4) : EReal := -Ideal.exp (A.decay (ix2 d h))

/-- The product of chunk `n`'s weighted keys and its values. -/
def Args.kv (d : Fin 2) (b h : Fin 4) (n : ℕ) (p q : Fin 128) : EReal :=
  ∑ i : Fin 128, (A.k (ix3 b (row d n i) (col h p)) * weight (A.rate d h) i.val) * A.v (ix3 b (row d n i) (col h q))

/-- The state before chunk `n`. -/
def Args.state (d : Fin 2) (b h : Fin 4) : ℕ → Fin 128 → Fin 128 → EReal
  | 0 => fun _ _ => 0
  | n + 1 => fun p q => Args.state d b h n p q * fade (A.rate d h) + A.kv d b h n p q

/-- The forward states, chunk by chunk. -/
def Args.forward : (⟨5, ![4, 65, 4, 128, 128]⟩ : Shape).Idx → EReal := fun y => A.state 0 (y 0) (y 2) (y 1).val (y 3) (y 4)

/-- The backward states, in the order of the rows. -/
def Args.backward : (⟨5, ![4, 65, 4, 128, 128]⟩ : Shape).Idx → EReal := fun y => A.state 1 (y 0) (y 2) (64 - (y 1).val) (y 3) (y 4)

end Cert.Ret

end
-- ==== Proof.Ret.Reads.lean ====
/- The values behind one grid point's loads and stores, at an index over the extended reals: what is loaded, what the stored lists
   leave in the blocks and in the scratch array, and one step of the states. -/
module

public import proofs.«01_k».proof.Proof.Ret.Body
public import proofs.«01_k».proof.Proof.Ret.Spec
public import Idealize.ShloMosaic.Lib.VecWindow

@[expose] public section

set_option maxRecDepth 16384

noncomputable section

namespace Cert.Kernel3Ideal.Ret

open Cert.Kernel3Ideal.Gen Cert.Ret Idealize.ShloMosaic Idealize.ShloMosaic.TcCoe Idealize.ShloMosaic.Tactic

/-! ## Weights -/

theorem pay5_apply (l : Elt Ideal .f32) (r : Fin 128) : k0_pay5 (F := Ideal) l (ix2 r 0) = weight l r.val := by
  pointwise [k0_pay5, k0_pay3]
  exact congrArg (fun x => Ideal.exp (l * x)) (congrArg₂ (· - ·) c127 (count r))

/-- The backward direction counts a chunk's rows from the end. -/
theorem pay391_apply (l : Elt Ideal .f32) (r : Fin 128) : k0_pay391 (F := Ideal) k0_pay3 l (ix2 r 0) = weight l r.rev.val := by
  pointwise [k0_pay391, k0_pay3]
  refine congrArg (fun x => Ideal.exp (l * x)) ((count r).trans ?_)
  have h : r.rev.val + r.val = 127 := by rw [Fin.val_rev]; omega
  have h' : ((r.rev.val : ℝ)) + (r.val : ℝ) = 127 := by exact_mod_cast h
  rw [← EReal.coe_sub]
  exact congrArg _ (by linarith)

theorem pay6_apply (l : Elt Ideal .f32) (q : Fin 128) : k0_pay6 (F := Ideal) l (ix2 0 q) = fade l := by
  pointwise [k0_pay6, k0_pay4]
  exact congrArg (fun x => Ideal.exp (l * x)) c128

theorem pay7_apply (x : Vec Ideal S1x1x1x128x128 .f32) (p q : Fin 128) : k0_pay7 (F := Ideal) x (ix2 p q) = x (ix5 0 0 0 p q) := by
  pointwise [k0_pay7]

theorem pay2_apply (y : S4x2x4x128x128.Idx) : k0_pay2 (F := Ideal) y = (0 : EReal) := by
  pointwise [k0_pay2]

theorem next_apply (z : FVec Ideal S128x1 .f32) (w : FVec Ideal S1x128 .f32) (st : FVec Ideal S128x128 .f32) (k v : Vec Ideal S1x128x128 .bf16)
    (p q : Fin 128) :
    next z w st k v (ix2 p q) = st (ix2 p q) * w (ix2 0 q) + ∑ r : Fin 128, (k (ix3 0 r p) * z (ix2 r 0)) * v (ix3 0 r q) := by
  pointwise [next]

/-- One chunk of the forward direction. -/
theorem fwd_succ (l : Elt Ideal .f32) (st : Vec Ideal S1x1x1x128x128 .f32) (k v : Fin 5 → Vec Ideal S1x128x128 .bf16) (n : ℕ) (hn : n < 5)
    (p q : Fin 128) :
    fwd l st k v (n + 1) (ix2 p q) = fwd l st k v n (ix2 p q) * fade l
      + ∑ r : Fin 128, (k ⟨n, hn⟩ (ix3 0 r p) * weight l r.val) * v ⟨n, hn⟩ (ix3 0 r q) := by
  have e : (⟨n % 5, Nat.mod_lt _ (by decide)⟩ : Fin 5) = ⟨n, hn⟩ := Fin.ext (Nat.mod_eq_of_lt hn)
  show next _ _ (fwd l st k v n) (k ⟨n % 5, _⟩) (v ⟨n % 5, _⟩) (ix2 p q) = _
  rw [e, next_apply, pay6_apply]
  simp only [pay5_apply]

/-- One chunk of the backward direction; the rows of the sum are counted from the end. -/
theorem bwd_succ (l : Elt Ideal .f32) (st : Vec Ideal S1x1x1x128x128 .f32) (k v : Fin 5 → Vec Ideal S1x128x128 .bf16) (n : ℕ) (hn : n < 5)
    (p q : Fin 128) :
    bwd l st k v (n + 1) (ix2 p q) = bwd l st k v n (ix2 p q) * fade l
      + ∑ r : Fin 128, (k (Fin.rev ⟨n, hn⟩) (ix3 0 r.rev p) * weight l r.val) * v (Fin.rev ⟨n, hn⟩) (ix3 0 r.rev q) := by
  have e : (⟨n % 5, Nat.mod_lt _ (by decide)⟩ : Fin 5) = ⟨n, hn⟩ := Fin.ext (Nat.mod_eq_of_lt hn)
  show next _ _ (bwd l st k v n) (k (Fin.rev ⟨n % 5, _⟩)) (v (Fin.rev ⟨n % 5, _⟩)) (ix2 p q) = _
  rw [e, next_apply, pay6_apply]
  simp only [pay391_apply]
  refine congrArg _ ?_
  rw [← Equiv.sum_comp Fin.revPerm]
  simp only [Fin.revPerm_apply, Fin.rev_rev]

/-! ## Loads -/

theorem rdL_apply (arg1 : Memref sig .tc .smem S2x4 .f32) (harg1 : arg1.IsWhole) (x0 : Vec Ideal S2x4 .f32) (d : Fin 2) (h : Fin 4) :
    rdL arg1 harg1 x0 d h = x0 (ix2 d h) := by
  unfold rdL
  rw [View.readAt_apply, harg1.read_unread]
  refine congrArg x0 (funext fun a => Fin.ext ?_)
  match a with
  | ⟨0, _⟩ => rfl
  | ⟨1, _⟩ => rfl

theorem rdK_apply (arg : Memref sig .tc .vmem S4x640x512 .bf16) (harg : arg.IsWhole) (x : Vec Ideal S4x640x512 .bf16) (b h : Fin 4) (j : Fin 5)
    (r q : Fin 128) : rdK arg harg x b h j (ix3 0 r q) = x (ix3 b ⟨128 * j.val + r.val, by omega⟩ (col h q)) := by
  unfold rdK
  rw [View.readAt_apply, harg.read_unread]
  refine congrArg x (funext fun a => Fin.ext ?_)
  match a with
  | ⟨0, _⟩ => rfl
  | ⟨1, _⟩ => exact congrArg (128 * j.val + ·) (Nat.one_mul _)
  | ⟨2, _⟩ => exact congrArg (128 * h.val + ·) (Nat.one_mul _)

theorem rdS_apply (arg8 : Memref sig .tc .vmem S4x2x4x128x128 .f32) (f : arg8.view.ty.Contents (Elt Ideal)) (b : Fin 4) (d : Fin 2) (h : Fin 4)
    (p q : Fin 128) : rdS arg8 f b d h (ix5 0 0 0 p q) = arg8.view.read (Elt Ideal) f (ix5 b d h p q) := by
  unfold rdS
  rw [View.readAt_apply]
  refine congrArg (arg8.view.read (Elt Ideal) f) (funext fun a => Fin.ext ?_)
  match a with
  | ⟨0, _⟩ => rfl
  | ⟨1, _⟩ => rfl
  | ⟨2, _⟩ => rfl
  | ⟨3, _⟩ => exact (Nat.zero_add _).trans (Nat.one_mul _)
  | ⟨4, _⟩ => exact (Nat.zero_add _).trans (Nat.one_mul _)

/-! ## Stores -/

theorem mem_headsBatches (b h : Fin 4) : (h, b) ∈ headsBatches := by
  revert b h; decide

/-- A one-state block's index has only its last two coordinates. -/
theorem exists_ix5 (x : S1x1x1x128x128.Idx) : ∃ p q : Fin 128, x = ix5 0 0 0 p q := ⟨x 3, x 4, funext fun i =>
  match i with
  | ⟨0, _⟩ => Subsingleton.elim (α := Fin 1) _ _
  | ⟨1, _⟩ => Subsingleton.elim (α := Fin 1) _ _
  | ⟨2, _⟩ => Subsingleton.elim (α := Fin 1) _ _
  | ⟨3, _⟩ => rfl
  | ⟨4, _⟩ => rfl⟩

theorem rounded_apply (x : FVec Ideal S128x128 .f32) (p q : Fin 128) :
    shapeCast S1x1x1x128x128 (truncf .bf16 x bitsLt_bf16_f32) shapeCasts_S128x128_S1x1x1x128x128 (ix5 0 0 0 p q) = x (ix2 p q) := by
  pointwise

theorem kept_apply (x : FVec Ideal S128x128 .f32) (p q : Fin 128) :
    shapeCast S1x1x1x128x128 x shapeCasts_S128x128_S1x1x1x128x128 (ix5 0 0 0 p q) = x (ix2 p q) := by
  pointwise

theorem embO (b : Fin 4) (j : Fin 5) (h : Fin 4) (p q : Fin 128) :
    (Rect.unit (s := S4x5x4x128x128) ![b.val, j.val, h.val, 0, 0] S1x1x1x128x128.size (inbO b j h)).emb (ix5 0 0 0 p q) = ix5 b j h p q :=
  funext fun a => Fin.ext (match a with
    | ⟨0, _⟩ => rfl
    | ⟨1, _⟩ => rfl
    | ⟨2, _⟩ => rfl
    | ⟨3, _⟩ => (Nat.zero_add _).trans (Nat.one_mul _)
    | ⟨4, _⟩ => (Nat.zero_add _).trans (Nat.one_mul _))

theorem embS (b : Fin 4) (d : Fin 2) (h : Fin 4) (p q : Fin 128) :
    (Rect.unit (s := S4x2x4x128x128) ![b.val, d.val, h.val, 0, 0] S1x1x1x128x128.size (inbS b d h)).emb (ix5 0 0 0 p q) = ix5 b d h p q :=
  funext fun a => Fin.ext (match a with
    | ⟨0, _⟩ => rfl
    | ⟨1, _⟩ => rfl
    | ⟨2, _⟩ => rfl
    | ⟨3, _⟩ => (Nat.zero_add _).trans (Nat.one_mul _)
    | ⟨4, _⟩ => (Nat.zero_add _).trans (Nat.one_mul _))

theorem pieceO (S : Fin 4 → Fin 4 → Fin 5 → FVec Ideal S128x128 .f32) (b : Fin 4) (j : Fin 5) (h : Fin 4) (x : S1x1x1x128x128.Idx) :
    shapeCast S1x1x1x128x128 (truncf .bf16 (S b h j) bitsLt_bf16_f32) shapeCasts_S128x128_S1x1x1x128x128 x
      = (fun y : S4x5x4x128x128.Idx => S (y 0) (y 2) (y 1) (ix2 (y 3) (y 4)))
        ((Rect.unit (s := S4x5x4x128x128) ![b.val, j.val, h.val, 0, 0] S1x1x1x128x128.size (inbO b j h)).emb x) := by
  obtain ⟨p, q, rfl⟩ := exists_ix5 x
  rw [embO]
  exact rounded_apply _ p q

theorem pieceS (S1 S0 : Fin 4 → Fin 4 → FVec Ideal S128x128 .f32) (b : Fin 4) (d : Fin 2) (h : Fin 4) (x : S1x1x1x128x128.Idx) :
    shapeCast S1x1x1x128x128 (if d.val = 0 then S0 b h else S1 b h) shapeCasts_S128x128_S1x1x1x128x128 x
      = (fun y : S4x2x4x128x128.Idx => if (y 1).val = 0 then S0 (y 0) (y 2) (ix2 (y 3) (y 4)) else S1 (y 0) (y 2) (ix2 (y 3) (y 4)))
        ((Rect.unit (s := S4x2x4x128x128) ![b.val, d.val, h.val, 0, 0] S1x1x1x128x128.size (inbS b d h)).emb x) := by
  obtain ⟨p, q, rfl⟩ := exists_ix5 x
  rw [embS]
  refine (kept_apply _ p q).trans ?_
  show (if d.val = 0 then S0 b h else S1 b h) (ix2 p q) = if d.val = 0 then S0 b h (ix2 p q) else S1 b h (ix2 p q)
  split <;> rfl

theorem memO (b : Fin 4) (j : Fin 5) (h : Fin 4) (p q : Fin 128) :
    ix5 b j h p q ∈ (Rect.unit (s := S4x5x4x128x128) ![b.val, j.val, h.val, 0, 0] S1x1x1x128x128.size (inbO b j h)).set :=
  Rect.mem_set_unit.mpr fun a => match a with
    | ⟨0, _⟩ => ⟨le_refl _, Nat.lt_succ_self _⟩
    | ⟨1, _⟩ => ⟨le_refl _, Nat.lt_succ_self _⟩
    | ⟨2, _⟩ => ⟨le_refl _, Nat.lt_succ_self _⟩
    | ⟨3, _⟩ => ⟨Nat.zero_le _, by show p.val < 0 + 128; omega⟩
    | ⟨4, _⟩ => ⟨Nat.zero_le _, by show q.val < 0 + 128; omega⟩

theorem memS (b : Fin 4) (d : Fin 2) (h : Fin 4) (p q : Fin 128) :
    ix5 b d h p q ∈ (Rect.unit (s := S4x2x4x128x128) ![b.val, d.val, h.val, 0, 0] S1x1x1x128x128.size (inbS b d h)).set :=
  Rect.mem_set_unit.mpr fun a => match a with
    | ⟨0, _⟩ => ⟨le_refl _, Nat.lt_succ_self _⟩
    | ⟨1, _⟩ => ⟨le_refl _, Nat.lt_succ_self _⟩
    | ⟨2, _⟩ => ⟨le_refl _, Nat.lt_succ_self _⟩
    | ⟨3, _⟩ => ⟨Nat.zero_le _, by show p.val < 0 + 128; omega⟩
    | ⟨4, _⟩ => ⟨Nat.zero_le _, by show q.val < 0 + 128; omega⟩

/-- What the stores leave in an output's block. -/
theorem read_outPieces {sp : Space} (v : View sig .tc sp S4x5x4x128x128 .bf16) (f : v.ty.Contents (Elt Ideal)) (js : List (Fin 5)) (hjs : ∀ j, j ∈ js)
    (S : Fin 4 → Fin 4 → Fin 5 → FVec Ideal S128x128 .f32) (b : Fin 4) (j : Fin 5) (h : Fin 4) (p q : Fin 128) :
    v.read (Elt Ideal) (v.writes (Elt Ideal) f (outPieces js S)) (ix5 b j h p q) = S b h j (ix2 p q) := by
  refine View.read_writes_apply_of_pieces v f (fun y : S4x5x4x128x128.Idx => S (y 0) (y 2) (y 1) (ix2 (y 3) (y 4))) (outPieces js S) ?_ (ix5 b j h p q) ?_
  · intro pc hpc x
    obtain ⟨hb, _, hpc⟩ := List.mem_flatMap.mp hpc
    obtain ⟨j', _, rfl⟩ := List.mem_map.mp hpc
    exact pieceO S hb.2 j' hb.1 x
  · refine ⟨_, List.mem_flatMap.mpr ⟨(h, b), mem_headsBatches b h, List.mem_map.mpr ⟨j, hjs j, rfl⟩⟩, ?_⟩
    exact memO b j h p q

/-- What the stores leave in the scratch array. -/
theorem read_scrPieces {sp : Space} (v : View sig .tc sp S4x2x4x128x128 .f32) (f : v.ty.Contents (Elt Ideal))
    (S1 S0 : Fin 4 → Fin 4 → FVec Ideal S128x128 .f32) (b : Fin 4) (d : Fin 2) (h : Fin 4) (p q : Fin 128) :
    v.read (Elt Ideal) (v.writes (Elt Ideal) f (scrPieces 1 S1 ++ scrPieces 0 S0)) (ix5 b d h p q)
      = if d.val = 0 then S0 b h (ix2 p q) else S1 b h (ix2 p q) := by
  refine View.read_writes_apply_of_pieces v f
    (fun y : S4x2x4x128x128.Idx => if (y 1).val = 0 then S0 (y 0) (y 2) (ix2 (y 3) (y 4)) else S1 (y 0) (y 2) (ix2 (y 3) (y 4)))
    (scrPieces 1 S1 ++ scrPieces 0 S0) ?_ (ix5 b d h p q) ?_
  · intro pc hpc x
    rcases List.mem_append.mp hpc with hpc | hpc
    · obtain ⟨hb, _, rfl⟩ := List.mem_map.mp hpc
      exact pieceS S1 S0 hb.2 1 hb.1 x
    · obtain ⟨hb, _, rfl⟩ := List.mem_map.mp hpc
      exact pieceS S1 S0 hb.2 0 hb.1 x
  · have hm : ∀ d' : Fin 2, d' = 0 ∨ d' = 1 := by decide
    rcases hm d with rfl | rfl
    · refine ⟨_, List.mem_append.mpr (Or.inr (List.mem_map.mpr ⟨(h, b), mem_headsBatches b h, rfl⟩)), ?_⟩
      exact memS b 0 h p q
    · refine ⟨_, List.mem_append.mpr (Or.inl (List.mem_map.mpr ⟨(h, b), mem_headsBatches b h, rfl⟩)), ?_⟩
      exact memS b 1 h p q

/-! ## The first point's loads of the scratch array -/

/-- The places that come after the first `k` states in the order of the stores still hold zero. -/
def Clear (v : View sig .tc .vmem S4x2x4x128x128 .f32) (k : ℕ) (L : List (View.Piece (Elt Ideal) S4x2x4x128x128 .f32)) : Prop :=
  ∀ (b : Fin 4) (d : Fin 2) (h : Fin 4) (p q : Fin 128), k ≤ 16 * d.val + 4 * h.val + b.val →
    v.read (Elt Ideal) (v.writes (Elt Ideal) v.junk L) (ix5 b d h p q) = (0 : EReal)

/-- Storing state `k` keeps the later ones. -/
theorem Clear.cons {v : View sig .tc .vmem S4x2x4x128x128 .f32} {k : ℕ} {L : List (View.Piece (Elt Ideal) S4x2x4x128x128 .f32)} (hL : Clear v k L)
    (inb : ∀ a, (![k % 4, k / 16, k / 4 % 4, 0, 0] : Fin S4x2x4x128x128.rank → ℕ) a + S1x1x1x128x128.size a ≤ S4x2x4x128x128.size a)
    (w : (Rect.unit (s := S4x2x4x128x128) ![k % 4, k / 16, k / 4 % 4, 0, 0] S1x1x1x128x128.size inb).shape.Idx → Elt Ideal .f32) :
    Clear v (k + 1) (⟨Rect.unit (s := S4x2x4x128x128) ![k % 4, k / 16, k / 4 % 4, 0, 0] S1x1x1x128x128.size inb, w⟩ :: L) := by
  intro b d h p q hk
  rw [View.read_writes_cons_miss]
  · exact hL b d h p q (by omega)
  · intro hm
    have hm := (Rect.mem_set_unit (inb := inb)).mp hm
    have h0 : k % 4 ≤ b.val ∧ b.val < k % 4 + 1 := hm 0
    have h1 : k / 16 ≤ d.val ∧ d.val < k / 16 + 1 := hm 1
    have h2 : k / 4 % 4 ≤ h.val ∧ h.val < k / 4 % 4 + 1 := hm 2
    omega

theorem inbAt (k : ℕ) (hk : k < 32) :
    ∀ a, (![k % 4, k / 16, k / 4 % 4, 0, 0] : Fin S4x2x4x128x128.rank → ℕ) a + S1x1x1x128x128.size a ≤ S4x2x4x128x128.size a := fun a =>
  match a with
  | ⟨0, _⟩ => by show k % 4 + 1 ≤ 4; omega
  | ⟨1, _⟩ => by show k / 16 + 1 ≤ 2; omega
  | ⟨2, _⟩ => by show k / 4 % 4 + 1 ≤ 4; omega
  | ⟨3, _⟩ => by show 0 + 128 ≤ 128; omega
  | ⟨4, _⟩ => by show 0 + 128 ≤ 128; omega

section First

variable (c : Dev nD) (arg1 : Memref sig .tc .smem S2x4 .f32) (harg1 : arg1.IsWhole) (arg2 : Memref sig .tc .vmem S4x640x512 .bf16) (harg2 : arg2.IsWhole) (arg3 : Memref sig .tc .vmem S4x640x512 .bf16) (harg3 : arg3.IsWhole) (arg4 : Memref sig .tc .vmem S4x640x512 .bf16) (harg4 : arg4.IsWhole) (arg5 : Memref sig .tc .vmem S4x640x512 .bf16) (harg5 : arg5.IsWhole) (arg8 : Memref sig .tc .vmem S4x2x4x128x128 .f32)
    (x0 : Vec Ideal S2x4 .f32) (x1 x2 x3 x4 : Vec Ideal S4x640x512 .bf16)

/-- Between two loads one state is stored. -/
theorem before_succ : ∀ (n : ℕ) (hn : n < 31), ∃ w : (Rect.unit (s := S4x2x4x128x128) ![n % 4, n / 16, n / 4 % 4, 0, 0] S1x1x1x128x128.size (inbAt n (by omega))).shape.Idx → Elt Ideal .f32,
    before c arg1 harg1 arg2 harg2 arg3 harg3 arg4 harg4 arg5 harg5 arg8 x0 x1 x2 x3 x4 (n + 1)
    = ⟨Rect.unit (s := S4x2x4x128x128) ![n % 4, n / 16, n / 4 % 4, 0, 0] S1x1x1x128x128.size (inbAt n (by omega)), w⟩
      :: before c arg1 harg1 arg2 harg2 arg3 harg3 arg4 harg4 arg5 harg5 arg8 x0 x1 x2 x3 x4 n
  | 0, _ => ⟨_, rfl⟩
  | 1, _ => ⟨_, rfl⟩
  | 2, _ => ⟨_, rfl⟩
  | 3, _ => ⟨_, rfl⟩
  | 4, _ => ⟨_, rfl⟩
  | 5, _ => ⟨_, rfl⟩
  | 6, _ => ⟨_, rfl⟩
  | 7, _ => ⟨_, rfl⟩
  | 8, _ => ⟨_, rfl⟩
  | 9, _ => ⟨_, rfl⟩
  | 10, _ => ⟨_, rfl⟩
  | 11, _ => ⟨_, rfl⟩
  | 12, _ => ⟨_, rfl⟩
  | 13, _ => ⟨_, rfl⟩
  | 14, _ => ⟨_, rfl⟩
  | 15, _ => ⟨_, rfl⟩
  | 16, _ => ⟨_, rfl⟩
  | 17, _ => ⟨_, rfl⟩
  | 18, _ => ⟨_, rfl⟩
  | 19, _ => ⟨_, rfl⟩
  | 20, _ => ⟨_, rfl⟩
  | 21, _ => ⟨_, rfl⟩
  | 22, _ => ⟨_, rfl⟩
  | 23, _ => ⟨_, rfl⟩
  | 24, _ => ⟨_, rfl⟩
  | 25, _ => ⟨_, rfl⟩
  | 26, _ => ⟨_, rfl⟩
  | 27, _ => ⟨_, rfl⟩
  | 28, _ => ⟨_, rfl⟩
  | 29, _ => ⟨_, rfl⟩
  | 30, _ => ⟨_, rfl⟩
  | n + 31, hn => absurd hn (by omega)

theorem before_clear : ∀ n : ℕ, n < 32 → Clear arg8.view n (before c arg1 harg1 arg2 harg2 arg3 harg3 arg4 harg4 arg5 harg5 arg8 x0 x1 x2 x3 x4 n)
  | 0, _ => by
    intro b d h p q _
    show arg8.view.read (Elt Ideal) (arg8.view.writes (Elt Ideal) arg8.view.junk
      [⟨Rect.unit (s := S4x2x4x128x128) ![0, 0, 0, 0, 0] S4x2x4x128x128.size inb_S4x2x4x128x128_S4x2x4x128x128_0_0_0_0_0, fun x => k0_pay2 (F := Ideal) x⟩]) _ = _
    rw [View.read_writes_cons_hit arg8.view arg8.view.junk _ _ [] (ix5 b d h p q) (ix5 b d h p q)]
    · exact pay2_apply _
    · funext a
      refine Fin.ext ?_
      match a with
      | ⟨0, _⟩ => exact (Nat.zero_add _).trans (Nat.one_mul _)
      | ⟨1, _⟩ => exact (Nat.zero_add _).trans (Nat.one_mul _)
      | ⟨2, _⟩ => exact (Nat.zero_add _).trans (Nat.one_mul _)
      | ⟨3, _⟩ => exact (Nat.zero_add _).trans (Nat.one_mul _)
      | ⟨4, _⟩ => exact (Nat.zero_add _).trans (Nat.one_mul _)
  | n + 1, hn => by
    obtain ⟨w, hw⟩ := before_succ c arg1 harg1 arg2 harg2 arg3 harg3 arg4 harg4 arg5 harg5 arg8 x0 x1 x2 x3 x4 n (by omega)
    rw [show before c arg1 harg1 arg2 harg2 arg3 harg3 arg4 harg4 arg5 harg5 arg8 x0 x1 x2 x3 x4 (n + 1) = _ from hw]
    exact (before_clear n (by omega)).cons _ w

/-- The first point starts from zero. -/
theorem rdA_apply (b : Fin 4) (d : Fin 2) (h : Fin 4) (p q : Fin 128) :
    rdA c arg1 harg1 arg2 harg2 arg3 harg3 arg4 harg4 arg5 harg5 arg8 x0 x1 x2 x3 x4 b d h (ix5 0 0 0 p q) = (0 : EReal) := by
  have e := rdS_apply arg8 (arg8.view.writes (Elt Ideal) arg8.view.junk
    (before c arg1 harg1 arg2 harg2 arg3 harg3 arg4 harg4 arg5 harg5 arg8 x0 x1 x2 x3 x4 (16 * d.val + 4 * h.val + b.val))) b d h p q
  exact e.trans (before_clear c arg1 harg1 arg2 harg2 arg3 harg3 arg4 harg4 arg5 harg5 arg8 x0 x1 x2 x3 x4 _ (by omega) b d h p q (le_refl _))

end First

end Cert.Kernel3Ideal.Ret

end
-- ==== Proof.Ret.KernelValue.lean ====
/- The kernel that carries the retention's states, read into the functions of `Ret.Spec`: the arrays at the launch, the blocks of a
   grid point, the states that each point reaches and stores, and both results. Point `t` has tile `t` forward and tile `12 - t`
   backward; a tile is five chunks of 128 rows. -/
module

public import proofs.«01_k».proof.Proof.Ret.Reads
public import proofs.«01_k».proof.Proof.Gen.Kernel3Ideal.Value
public import Idealize.ShloMosaic.Lib.StableHlo.ReadAt
public import Idealize.ShloMosaic.Lib.Pipeline.ValueKit

@[expose] public section

set_option maxRecDepth 16384

noncomputable section

namespace Cert.Kernel3Ideal.Ret

open Cert.Kernel3Ideal.Gen Cert.Ret Idealize.ShloMosaic Idealize.ShloMosaic.TcCoe Idealize.SL.Sem

variable (m : (ℓ : Loc nD τ sig) → Buf (Elt Ideal) ℓ)

/-! ## The arrays at the launch -/

/-- The logarithms of the fading rates. -/
def lA (c : Dev nD) : Vec Ideal S2x4 .f32 := V m c main_v1
/-- The keys. -/
def kA (c : Dev nD) : Vec Ideal S4x8320x512 .bf16 := V m c main_arg1
/-- The values. -/
def vA (c : Dev nD) : Vec Ideal S4x8320x512 .bf16 := V m c main_arg2

/-- The program's arguments, as the functions of `Spec`. -/
def args (c : Dev nD) : Args where
  decay := m (c, Proc.tc.devRef main_arg0)
  k := m (c, Proc.tc.devRef main_arg1)
  v := m (c, Proc.tc.devRef main_arg2)

theorem lA_apply (c : Dev nD) (d : Fin 2) (h : Fin 4) : lA m c (ix2 d h) = (args m c).rate d h := by
  unfold lA V
  after_reads_at
  rfl

theorem kA_apply (c : Dev nD) (b : Fin 4) (r : Fin 8320) (e : Fin 512) : kA m c (ix3 b r e) = (args m c).k (ix3 b r e) := by
  unfold kA V
  after_reads_at
  rfl

theorem vA_apply (c : Dev nD) (b : Fin 4) (r : Fin 8320) (e : Fin 512) : vA m c (ix3 b r e) = (args m c).v (ix3 b r e) := by
  unfold vA V
  after_reads_at
  rfl

/-! ## The blocks at a grid point -/

def blk0 (c : Dev nD) (t : Fin cfg0.N) : Vec Ideal S2x4 .f32 := iblk m c 0 t
def blk1 (c : Dev nD) (t : Fin cfg0.N) : Vec Ideal S4x640x512 .bf16 := iblk m c 1 t
def blk2 (c : Dev nD) (t : Fin cfg0.N) : Vec Ideal S4x640x512 .bf16 := iblk m c 2 t
def blk3 (c : Dev nD) (t : Fin cfg0.N) : Vec Ideal S4x640x512 .bf16 := iblk m c 3 t
def blk4 (c : Dev nD) (t : Fin cfg0.N) : Vec Ideal S4x640x512 .bf16 := iblk m c 4 t

/-- The grid has 13 points. -/
theorem lt13 (t : Fin cfg0.N) : t.val < 13 := Nat.lt_of_lt_of_eq t.isLt N_0

/-- Row `r` of tile `t`, and of tile `12 - t`. -/
def rowF (t : Fin cfg0.N) (r : Fin 640) : Fin 8320 := ⟨640 * t.val + r.val, by have := lt13 t; omega⟩
def rowB (t : Fin cfg0.N) (r : Fin 640) : Fin 8320 := ⟨640 * (12 - t.val) + r.val, by omega⟩

theorem idx0 : ∀ t : Fin cfg0.N, win0_0.index t 0 = 0 ∧ win0_0.index t 1 = 0 :=
  (by decide +kernel : ∀ t : Fin grid0.N, win0_0.index t 0 = 0 ∧ win0_0.index t 1 = 0)

theorem blk0_apply (c : Dev nD) (t : Fin cfg0.N) (d : Fin 2) (h : Fin 4) : blk0 m c t (ix2 d h) = (args m c).rate d h := by
  rw [← lA_apply]
  unfold blk0 lA
  have hi := idx0 t
  blk_ext [iblk, hi.1, hi.2]

theorem idx1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)

theorem blk1_apply (c : Dev nD) (t : Fin cfg0.N) (b : Fin 4) (r : Fin 640) (e : Fin 512) :
    blk1 m c t (ix3 b r e) = (args m c).k (ix3 b (rowF t r) e) := by
  rw [← kA_apply]
  unfold blk1 kA rowF
  have hi := idx1 t
  blk_ext [iblk, hi.1, hi.2.1, hi.2.2]

theorem idx2 : ∀ t : Fin cfg0.N, win0_2.index t 0 = 0 ∧ win0_2.index t 1 = t.val ∧ win0_2.index t 2 = 0 :=
  (by decide +kernel : ∀ t : Fin grid0.N, win0_2.index t 0 = 0 ∧ win0_2.index t 1 = t.val ∧ win0_2.index t 2 = 0)

theorem blk2_apply (c : Dev nD) (t : Fin cfg0.N) (b : Fin 4) (r : Fin 640) (e : Fin 512) :
    blk2 m c t (ix3 b r e) = (args m c).v (ix3 b (rowF t r) e) := by
  rw [← vA_apply]
  unfold blk2 vA rowF
  have hi := idx2 t
  blk_ext [iblk, hi.1, hi.2.1, hi.2.2]

theorem idx3 : ∀ t : Fin cfg0.N, win0_3.index t 0 = 0 ∧ win0_3.index t 1 = 12 - t.val ∧ win0_3.index t 2 = 0 :=
  (by decide +kernel : ∀ t : Fin grid0.N, win0_3.index t 0 = 0 ∧ win0_3.index t 1 = 12 - t.val ∧ win0_3.index t 2 = 0)

theorem blk3_apply (c : Dev nD) (t : Fin cfg0.N) (b : Fin 4) (r : Fin 640) (e : Fin 512) :
    blk3 m c t (ix3 b r e) = (args m c).k (ix3 b (rowB t r) e) := by
  rw [← kA_apply]
  unfold blk3 kA rowB
  have hi := idx3 t
  blk_ext [iblk, hi.1, hi.2.1, hi.2.2]

theorem idx4 : ∀ t : Fin cfg0.N, win0_4.index t 0 = 0 ∧ win0_4.index t 1 = 12 - t.val ∧ win0_4.index t 2 = 0 :=
  (by decide +kernel : ∀ t : Fin grid0.N, win0_4.index t 0 = 0 ∧ win0_4.index t 1 = 12 - t.val ∧ win0_4.index t 2 = 0)

theorem blk4_apply (c : Dev nD) (t : Fin cfg0.N) (b : Fin 4) (r : Fin 640) (e : Fin 512) :
    blk4 m c t (ix3 b r e) = (args m c).v (ix3 b (rowB t r) e) := by
  rw [← vA_apply]
  unfold blk4 vA rowB
  have hi := idx4 t
  blk_ext [iblk, hi.1, hi.2.1, hi.2.2]

theorem idx5 : ∀ t : Fin cfg0.N, win0_5.index t 0 = 0 ∧ win0_5.index t 1 = t.val ∧ win0_5.index t 2 = 0 ∧ win0_5.index t 3 = 0 ∧ win0_5.index t 4 = 0 :=
  (by decide +kernel : ∀ t : Fin grid0.N, win0_5.index t 0 = 0 ∧ win0_5.index t 1 = t.val ∧ win0_5.index t 2 = 0 ∧ win0_5.index t 3 = 0 ∧ win0_5.index t 4 = 0)

theorem emb5 (t : Fin cfg0.N) (b : Fin 4) (j : Fin 5) (h : Fin 4) (p q : Fin 128) :
    ((win0_5.blk t).view.emb (ix5 b j h p q) : S4x65x4x128x128.Idx)
      = ix5 b ⟨5 * t.val + j.val, by have := lt13 t; omega⟩ h p q := by
  have hi := idx5 t
  blk_ext [hi.1, hi.2.1, hi.2.2.1, hi.2.2.2.1, hi.2.2.2.2]

theorem idx6 : ∀ t : Fin cfg0.N, win0_6.index t 0 = 0 ∧ win0_6.index t 1 = 12 - t.val ∧ win0_6.index t 2 = 0 ∧ win0_6.index t 3 = 0 ∧ win0_6.index t 4 = 0 :=
  (by decide +kernel : ∀ t : Fin grid0.N, win0_6.index t 0 = 0 ∧ win0_6.index t 1 = 12 - t.val ∧ win0_6.index t 2 = 0 ∧ win0_6.index t 3 = 0 ∧ win0_6.index t 4 = 0)

theorem emb6 (t : Fin cfg0.N) (b : Fin 4) (j : Fin 5) (h : Fin 4) (p q : Fin 128) :
    ((win0_6.blk t).view.emb (ix5 b j h p q) : S4x65x4x128x128.Idx)
      = ix5 b ⟨5 * (12 - t.val) + j.val, by omega⟩ h p q := by
  have hi := idx6 t
  blk_ext [hi.1, hi.2.1, hi.2.2.1, hi.2.2.2.1, hi.2.2.2.2]

/-! ## The states a point goes through -/

section Point

variable (c : Dev nD) (t : Fin cfg0.N) (arg1 : Memref sig .tc .smem S2x4 .f32) (harg1 : arg1.IsWhole)
  (arg2 : Memref sig .tc .vmem S4x640x512 .bf16) (harg2 : arg2.IsWhole) (arg3 : Memref sig .tc .vmem S4x640x512 .bf16) (harg3 : arg3.IsWhole)
  (b h : Fin 4) (st : Vec Ideal S1x1x1x128x128 .f32)

theorem fwd_at (hst : ∀ p q : Fin 128, st (ix5 0 0 0 p q) = (args m c).state 0 b h (5 * t.val) p q) :
    ∀ n : ℕ, n ≤ 5 → ∀ p q : Fin 128,
      fwd (rdL arg1 harg1 (blk0 m c t) 0 h) st (rdK arg2 harg2 (blk1 m c t) b h) (rdK arg3 harg3 (blk2 m c t) b h) n (ix2 p q)
        = (args m c).state 0 b h (5 * t.val + n) p q
  | 0, _, p, q => (pay7_apply st p q).trans (hst p q)
  | n + 1, hn, p, q => by
    rw [fwd_succ _ _ _ _ n (by omega), fwd_at hst n (by omega) p q]
    simp only [rdL_apply, rdK_apply, blk0_apply, blk1_apply, blk2_apply]
    show _ = (args m c).state 0 b h (5 * t.val + n) p q * fade ((args m c).rate 0 h) + (args m c).kv 0 b h (5 * t.val + n) p q
    refine congrArg _ (Finset.sum_congr rfl fun r _ => ?_)
    have e : rowF t ⟨128 * n + r.val, by omega⟩ = row 0 (5 * t.val + n) r := by
      have ht := lt13 t
      refine Fin.ext ?_
      show 640 * t.val + (128 * n + r.val) = (128 * (5 * t.val + n) + r.val) % 8320
      omega
    rw [e]

theorem bwd_at (hst : ∀ p q : Fin 128, st (ix5 0 0 0 p q) = (args m c).state 1 b h (5 * t.val) p q) :
    ∀ n : ℕ, n ≤ 5 → ∀ p q : Fin 128,
      bwd (rdL arg1 harg1 (blk0 m c t) 1 h) st (rdK arg2 harg2 (blk3 m c t) b h) (rdK arg3 harg3 (blk4 m c t) b h) n (ix2 p q)
        = (args m c).state 1 b h (5 * t.val + n) p q
  | 0, _, p, q => (pay7_apply st p q).trans (hst p q)
  | n + 1, hn, p, q => by
    rw [bwd_succ _ _ _ _ n (by omega), bwd_at hst n (by omega) p q]
    simp only [rdL_apply, rdK_apply, blk0_apply, blk3_apply, blk4_apply]
    show _ = (args m c).state 1 b h (5 * t.val + n) p q * fade ((args m c).rate 1 h) + (args m c).kv 1 b h (5 * t.val + n) p q
    refine congrArg _ (Finset.sum_congr rfl fun r _ => ?_)
    have e : rowB t ⟨128 * (Fin.rev (⟨n, by omega⟩ : Fin 5)).val + r.rev.val, by omega⟩ = row 1 (5 * t.val + n) r := by
      have ht := lt13 t
      refine Fin.ext ?_
      show 640 * (12 - t.val) + (128 * (5 - (n + 1)) + (128 - (r.val + 1))) = 8319 - (128 * (5 * t.val + n) + r.val)
      omega
    rw [e]

end Point

/-! ## The first point, and the others -/

theorem zeroA (c : Dev nD) (t : Fin cfg0.N) (h0 : t.val % 13 = 0) (d : Fin 2) (b h : Fin 4) (p q : Fin 128) :
    (args m c).state d b h (5 * t.val) p q = 0 := by
  have : t.val = 0 := by have := lt13 t; omega
  rw [this]
  rfl

theorem pointA5 (c : Dev nD) (t : Fin cfg0.N) (h0 : t.val % 13 = 0) (b : Fin 4) (j : Fin 5) (h : Fin 4) (p q : Fin 128) :
    (outsAt0 m c t.val t.isLt).1 (ix5 b j h p q) = (args m c).state 0 b h (5 * t.val + j.val) p q := by
  rw [outsAt0_A m c t h0]
  dsimp only
  unfold out0_A_5
  rw [listA_5, read_outPieces _ _ _ (by decide)]
  exact fwd_at m c t _ _ _ _ _ _ b h _ (fun p q => (rdA_apply c _ _ _ _ _ _ _ _ _ _ _ _ _ _ _ _ b 0 h p q).trans (zeroA m c t h0 0 b h p q).symm) j.val (by omega) p q

theorem pointA6 (c : Dev nD) (t : Fin cfg0.N) (h0 : t.val % 13 = 0) (b : Fin 4) (j : Fin 5) (h : Fin 4) (p q : Fin 128) :
    (outsAt0 m c t.val t.isLt).2.1 (ix5 b j h p q) = (args m c).state 1 b h (5 * t.val + j.rev.val) p q := by
  rw [outsAt0_A m c t h0]
  dsimp only
  unfold out0_A_6
  rw [listA_6, read_outPieces _ _ _ (by decide)]
  exact bwd_at m c t _ _ _ _ _ _ b h _ (fun p q => (rdA_apply c _ _ _ _ _ _ _ _ _ _ _ _ _ _ _ _ b 1 h p q).trans (zeroA m c t h0 1 b h p q).symm) j.rev.val (by omega) p q

theorem pointAS (c : Dev nD) (t : Fin cfg0.N) (h0 : t.val % 13 = 0) (b : Fin 4) (d : Fin 2) (h : Fin 4) (p q : Fin 128) :
    (outsAt0 m c t.val t.isLt).2.2 (ix5 b d h p q) = (args m c).state d b h (5 * t.val + 5) p q := by
  rw [outsAt0_A m c t h0]
  dsimp only
  unfold sout0_A_0
  rw [listA_S, View.writes_append, read_scrPieces]
  have hm : ∀ d' : Fin 2, d' = 0 ∨ d' = 1 := by decide
  rcases hm d with rfl | rfl
  · refine (if_pos rfl).trans ?_
    exact fwd_at m c t _ _ _ _ _ _ b h _ (fun p q => (rdA_apply c _ _ _ _ _ _ _ _ _ _ _ _ _ _ _ _ b 0 h p q).trans (zeroA m c t h0 0 b h p q).symm) 5 (by omega) p q
  · refine (if_neg (by decide)).trans ?_
    exact bwd_at m c t _ _ _ _ _ _ b h _ (fun p q => (rdA_apply c _ _ _ _ _ _ _ _ _ _ _ _ _ _ _ _ b 1 h p q).trans (zeroA m c t h0 1 b h p q).symm) 5 (by omega) p q

section Later

variable (c : Dev nD) (t : Fin cfg0.N) (h0 : ¬t.val % 13 = 0)
  (hS : ∀ (b : Fin 4) (d : Fin 2) (h : Fin 4) (p q : Fin 128),
    (outsAt0 m c (t.val - 1) (Nat.lt_of_le_of_lt (Nat.sub_le _ _) t.isLt)).2.2 (ix5 b d h p q) = (args m c).state d b h (5 * t.val) p q)
include hS

/-- What a later point loads of the scratch array. -/
theorem loaded (arg8 : Memref sig .tc .vmem S4x2x4x128x128 .f32) (harg8 : arg8.IsWhole) (b : Fin 4) (d : Fin 2) (h : Fin 4) (p q : Fin 128) :
    rdS arg8 (harg8.unread (outsAt0 m c (t.val - 1) (Nat.lt_of_le_of_lt (Nat.sub_le _ _) t.isLt)).2.2) b d h (ix5 0 0 0 p q)
      = (args m c).state d b h (5 * t.val) p q := by
  rw [rdS_apply, harg8.read_unread]
  exact hS b d h p q

include h0

theorem pointB5 (b : Fin 4) (j : Fin 5) (h : Fin 4) (p q : Fin 128) :
    (outsAt0 m c t.val t.isLt).1 (ix5 b j h p q) = (args m c).state 0 b h (5 * t.val + j.val) p q := by
  rw [outsAt0_B m c t h0]
  dsimp only
  unfold out0_B_5
  rw [listB_5, read_outPieces _ _ _ (by decide)]
  exact fwd_at m c t _ _ _ _ _ _ b h _ (loaded m c t hS _ _ b 0 h) j.val (by omega) p q

theorem pointB6 (b : Fin 4) (j : Fin 5) (h : Fin 4) (p q : Fin 128) :
    (outsAt0 m c t.val t.isLt).2.1 (ix5 b j h p q) = (args m c).state 1 b h (5 * t.val + j.rev.val) p q := by
  rw [outsAt0_B m c t h0]
  dsimp only
  unfold out0_B_6
  rw [listB_6, read_outPieces _ _ _ (by decide)]
  exact bwd_at m c t _ _ _ _ _ _ b h _ (loaded m c t hS _ _ b 1 h) j.rev.val (by omega) p q

theorem pointBS (b : Fin 4) (d : Fin 2) (h : Fin 4) (p q : Fin 128) :
    (outsAt0 m c t.val t.isLt).2.2 (ix5 b d h p q) = (args m c).state d b h (5 * t.val + 5) p q := by
  rw [outsAt0_B m c t h0]
  dsimp only
  unfold sout0_B_0
  rw [listB_S, read_scrPieces]
  have hm : ∀ d' : Fin 2, d' = 0 ∨ d' = 1 := by decide
  rcases hm d with rfl | rfl
  · refine (if_pos rfl).trans ?_
    exact fwd_at m c t _ _ _ _ _ _ b h _ (loaded m c t hS _ _ b 0 h) 5 (by omega) p q
  · refine (if_neg (by decide)).trans ?_
    exact bwd_at m c t _ _ _ _ _ _ b h _ (loaded m c t hS _ _ b 1 h) 5 (by omega) p q

end Later

/-! ## All points -/

/-- What the scratch array holds after a point. -/
theorem scratch (c : Dev nD) : ∀ (n : ℕ) (hn : n < cfg0.N) (b : Fin 4) (d : Fin 2) (h : Fin 4) (p q : Fin 128),
    (outsAt0 m c n hn).2.2 (ix5 b d h p q) = (args m c).state d b h (5 * n + 5) p q
  | 0, hn, b, d, h, p, q => pointAS m c ⟨0, hn⟩ rfl b d h p q
  | n + 1, hn, b, d, h, p, q => by
    have h13 := Nat.lt_of_lt_of_eq hn N_0
    exact pointBS m c ⟨n + 1, hn⟩ (show ¬(n + 1) % 13 = 0 by omega) (fun b d h p q => scratch c n (by omega) b d h p q) b d h p q

theorem previous (c : Dev nD) (t : Fin cfg0.N) (h0 : ¬t.val % 13 = 0) (b : Fin 4) (d : Fin 2) (h : Fin 4) (p q : Fin 128) :
    (outsAt0 m c (t.val - 1) (Nat.lt_of_le_of_lt (Nat.sub_le _ _) t.isLt)).2.2 (ix5 b d h p q) = (args m c).state d b h (5 * t.val) p q := by
  rw [scratch]
  have e : 5 * (t.val - 1) + 5 = 5 * t.val := by omega
  rw [e]

theorem stored5 (c : Dev nD) (t : Fin cfg0.N) (b : Fin 4) (j : Fin 5) (h : Fin 4) (p q : Fin 128) :
    (outsAt0 m c t.val t.isLt).1 (ix5 b j h p q) = (args m c).state 0 b h (5 * t.val + j.val) p q := by
  by_cases h0 : t.val % 13 = 0
  · exact pointA5 m c t h0 b j h p q
  · exact pointB5 m c t h0 (previous m c t h0) b j h p q

theorem stored6 (c : Dev nD) (t : Fin cfg0.N) (b : Fin 4) (j : Fin 5) (h : Fin 4) (p q : Fin 128) :
    (outsAt0 m c t.val t.isLt).2.1 (ix5 b j h p q) = (args m c).state 1 b h (5 * t.val + j.rev.val) p q := by
  by_cases h0 : t.val % 13 = 0
  · exact pointA6 m c t h0 b j h p q
  · exact pointB6 m c t h0 (previous m c t h0) b j h p q

/-! ## The results -/

theorem exists_block (x : S4x5x4x128x128.Idx) : ∃ (b : Fin 4) (j : Fin 5) (h : Fin 4) (p q : Fin 128), x = ix5 b j h p q :=
  ⟨x 0, x 1, x 2, x 3, x 4, funext fun i => match i with
    | ⟨0, _⟩ => rfl
    | ⟨1, _⟩ => rfl
    | ⟨2, _⟩ => rfl
    | ⟨3, _⟩ => rfl
    | ⟨4, _⟩ => rfl⟩

/-- The forward states, as an array. -/
def G5 (c : Dev nD) : Vec Ideal S4x65x4x128x128 .bf16 := (args m c).forward

theorem block5 (c : Dev nD) (t : Fin cfg0.N) (y : S4x5x4x128x128.Idx) :
    (outsAt0 m c t.val t.isLt).1 y = G5 m c ((win0_5.blk t).view.emb y) := by
  obtain ⟨b, j, h, p, q, rfl⟩ := exists_block y
  exact (stored5 m c t b j h p q).trans (congrArg (G5 m c) (emb5 t b j h p q)).symm

theorem result5 (c : Dev nD) : (dats m 0 c).arrAt 5 cfg0.N = G5 m c := by
  refine (dats m 0 c).arrAt_eq_of_covers 5 _ (by decide +kernel) fun t hf y => ?_
  rw [after0_5]
  blk_simp
  exact block5 m c t y

/-- The backward states, as an array. -/
def G6 (c : Dev nD) : Vec Ideal S4x65x4x128x128 .bf16 := (args m c).backward

theorem block6 (c : Dev nD) (t : Fin cfg0.N) (y : S4x5x4x128x128.Idx) :
    (outsAt0 m c t.val t.isLt).2.1 y = G6 m c ((win0_6.blk t).view.emb y) := by
  obtain ⟨b, j, h, p, q, rfl⟩ := exists_block y
  refine (stored6 m c t b j h p q).trans ?_
  refine Eq.trans ?_ (congrArg (G6 m c) (emb6 t b j h p q)).symm
  have e : 5 * t.val + j.rev.val = 64 - (5 * (12 - t.val) + j.val) := by
    have := lt13 t
    rw [Fin.val_rev]
    omega
  rw [e]
  rfl

theorem result6 (c : Dev nD) : (dats m 0 c).arrAt 6 cfg0.N = G6 m c := by
  refine (dats m 0 c).arrAt_eq_of_covers 6 _ (by decide +kernel) fun t hf y => ?_
  rw [after0_6]
  blk_simp
  exact block6 m c t y

end Cert.Kernel3Ideal.Ret

end
-- ==== Proof.Ret.RefRows.lean ====
/- The reference's rows, weights and products, index by index. -/
module

public import proofs.«01_k».proof.Proof.Gen.Reference3Ideal.Step
public import proofs.«01_k».proof.Proof.Ret.Spec
public import Idealize.ShloMosaic.Lib.Pointwise

@[expose] public section

set_option maxRecDepth 16384

noncomputable section

namespace Cert.Reference3Ideal.RefValue

open Cert.Reference3Ideal Cert.Reference3Ideal.Gen Cert.Reference3Ideal.Step Cert.Ret Idealize.ShloMosaic
  Idealize.ShloMosaic.TcCoe Idealize.SL.Sem Idealize.ShloMosaic.StableHlo

variable (A : Args)

/-! ## Weights -/

theorem v5_apply (d : Fin 2) (h : Fin 4) : A_main_v5 (F := Ideal) A.decay A.k A.v (ix2 d h) = A.rate d h := by
  pointwise [A_main_v5, A_main_v4]
  rfl

theorem v14_apply (d : Fin 2) (i : Fin 128) (h : Fin 4) : A_main_v14 (F := Ideal) A.decay A.k A.v (ix3 d i h) = weight (A.rate d h) i.val := by
  pointwise [A_main_v14, A_main_v13, A_main_v11, A_main_v7, K_main_v12, K_main_v10, K_main_v9, K_main_v8, K_main_v6, K_main_cst]
  rw [v5_apply]
  exact congrArg (fun x => Ideal.exp (A.rate d h * x)) (congrArg₂ (· - ·) c127 (count i))

theorem v17_apply (d : Fin 2) (h : Fin 4) : A_main_v17 (F := Ideal) A.decay A.k A.v (ix2 d h) = fade (A.rate d h) := by
  pointwise [A_main_v17, A_main_v16, K_main_v15, K_main_cst_0]
  rw [v5_apply]
  exact congrArg (fun x => Ideal.exp (A.rate d h * x)) c128

/-! ## A chunk's rows in both directions -/

theorem two : ∀ d : Fin 2, d = 0 ∨ d = 1 := by decide

/-- The row that a direction has at place `i` of chunk `n`. -/
theorem row_forward (n : Fin 65) (i : Fin 128) : row 0 n.val i = ⟨n.val * 128 + i.val, by omega⟩ := by
  refine Fin.ext ?_
  show (128 * n.val + i.val) % 8320 = n.val * 128 + i.val
  omega

theorem row_backward (n : Fin 65) (i : Fin 128) : row 1 n.val i = Fin.rev ⟨n.val * 128 + i.val, by omega⟩ := by
  refine Fin.ext ?_
  rw [Fin.val_rev]
  show 8319 - (128 * n.val + i.val) = 8320 - (n.val * 128 + i.val + 1)
  omega

theorem col_eq (h : Fin 4) (p : Fin 128) (hp : h.val * 128 + p.val < 512) : (⟨h.val * 128 + p.val, hp⟩ : Fin 512) = col h p :=
  Fin.ext (congrArg (· + p.val) (Nat.mul_comm h.val 128))

theorem v1_apply (b : Fin 4) (r : Fin 8320) (h : Fin 4) (p : Fin 128) :
    A_main_v1 (F := Ideal) A.decay A.k A.v (ix4 b r h p) = A.k (ix3 b r (col h p)) := by
  pointwise [A_main_v1, A_main_v0]
  exact congrArg (fun x => A.k (ix3 b r x)) (col_eq h p _)

theorem v18_apply (b : Fin 4) (r : Fin 8320) (h : Fin 4) (p : Fin 128) :
    A_main_v18 (F := Ideal) A.decay A.k A.v (ix4 b r h p) = A.k (ix3 b r.rev (col h p)) := by
  unfold A_main_v18
  refine Eq.trans (congrArg (A_main_v1 (F := Ideal) A.decay A.k A.v) ?_) (v1_apply A b r.rev h p)
  exact funext fun a => match a with
    | ⟨0, _⟩ => rfl
    | ⟨1, _⟩ => rfl
    | ⟨2, _⟩ => rfl
    | ⟨3, _⟩ => rfl

theorem v21_forward (b : Fin 4) (r : Fin 8320) (h : Fin 4) (p : Fin 128) :
    A_main_v21 (F := Ideal) A.decay A.k A.v (ix5 0 b r h p) = A.k (ix3 b r (col h p)) := by
  pointwise [A_main_v21, A_main_v19]
  exact v1_apply A b r h p

theorem v21_backward (b : Fin 4) (r : Fin 8320) (h : Fin 4) (p : Fin 128) :
    A_main_v21 (F := Ideal) A.decay A.k A.v (ix5 1 b r h p) = A.k (ix3 b r.rev (col h p)) := by
  pointwise [A_main_v21, A_main_v20]
  exact v18_apply A b r h p

theorem v22_read (d : Fin 2) (b : Fin 4) (n : Fin 65) (i : Fin 128) (h : Fin 4) (p : Fin 128) :
    A_main_v22 (F := Ideal) A.decay A.k A.v (ix6 d b n i h p)
      = A_main_v21 (F := Ideal) A.decay A.k A.v (ix5 d b (Fin.mk (n := 8320) (n.val * 128 + i.val) (by omega)) h p) := by
  pointwise [A_main_v22]

theorem v22_apply (d : Fin 2) (b : Fin 4) (n : Fin 65) (i : Fin 128) (h : Fin 4) (p : Fin 128) :
    A_main_v22 (F := Ideal) A.decay A.k A.v (ix6 d b n i h p) = A.k (ix3 b (row d n.val i) (col h p)) := by
  refine (v22_read A d b n i h p).trans ?_
  rcases two d with e | e
  · rw [e, row_forward]
    exact v21_forward A b _ h p
  · rw [e, row_backward]
    exact v21_backward A b _ h p

theorem v3_apply (b : Fin 4) (r : Fin 8320) (h : Fin 4) (p : Fin 128) :
    A_main_v3 (F := Ideal) A.decay A.k A.v (ix4 b r h p) = A.v (ix3 b r (col h p)) := by
  pointwise [A_main_v3, A_main_v2]
  exact congrArg (fun x => A.v (ix3 b r x)) (col_eq h p _)

theorem v26_apply (b : Fin 4) (r : Fin 8320) (h : Fin 4) (p : Fin 128) :
    A_main_v26 (F := Ideal) A.decay A.k A.v (ix4 b r h p) = A.v (ix3 b r.rev (col h p)) := by
  unfold A_main_v26
  refine Eq.trans (congrArg (A_main_v3 (F := Ideal) A.decay A.k A.v) ?_) (v3_apply A b r.rev h p)
  exact funext fun a => match a with
    | ⟨0, _⟩ => rfl
    | ⟨1, _⟩ => rfl
    | ⟨2, _⟩ => rfl
    | ⟨3, _⟩ => rfl

theorem v29_forward (b : Fin 4) (r : Fin 8320) (h : Fin 4) (p : Fin 128) :
    A_main_v29 (F := Ideal) A.decay A.k A.v (ix5 0 b r h p) = A.v (ix3 b r (col h p)) := by
  pointwise [A_main_v29, A_main_v27]
  exact v3_apply A b r h p

theorem v29_backward (b : Fin 4) (r : Fin 8320) (h : Fin 4) (p : Fin 128) :
    A_main_v29 (F := Ideal) A.decay A.k A.v (ix5 1 b r h p) = A.v (ix3 b r.rev (col h p)) := by
  pointwise [A_main_v29, A_main_v28]
  exact v26_apply A b r h p

theorem v30_read (d : Fin 2) (b : Fin 4) (n : Fin 65) (i : Fin 128) (h : Fin 4) (p : Fin 128) :
    A_main_v30 (F := Ideal) A.decay A.k A.v (ix6 d b n i h p)
      = A_main_v29 (F := Ideal) A.decay A.k A.v (ix5 d b (Fin.mk (n := 8320) (n.val * 128 + i.val) (by omega)) h p) := by
  pointwise [A_main_v30]

theorem v30_apply (d : Fin 2) (b : Fin 4) (n : Fin 65) (i : Fin 128) (h : Fin 4) (p : Fin 128) :
    A_main_v30 (F := Ideal) A.decay A.k A.v (ix6 d b n i h p) = A.v (ix3 b (row d n.val i) (col h p)) := by
  refine (v30_read A d b n i h p).trans ?_
  rcases two d with e | e
  · rw [e, row_forward]
    exact v29_forward A b _ h p
  · rw [e, row_backward]
    exact v29_backward A b _ h p

theorem v24_apply (d : Fin 2) (b : Fin 4) (n : Fin 65) (i : Fin 128) (h : Fin 4) (p : Fin 128) :
    A_main_v24 (F := Ideal) A.decay A.k A.v (ix6 d b n i h p) = weight (A.rate d h) i.val := by
  have e : A_main_v24 (F := Ideal) A.decay A.k A.v (ix6 d b n i h p) = A_main_v14 (F := Ideal) A.decay A.k A.v (ix3 d i h) := by
    pointwise [A_main_v24, A_main_v23]
  exact e.trans (v14_apply A d i h)

/-- A product at an index. -/
theorem product {s : Shape} (x y : FVec Ideal s .f32) {i : s.Idx} {a b : EReal} (hx : x i = a) (hy : y i = b) : mulf x y i = a * b := by
  rw [← hx, ← hy]
  rfl

theorem v25_apply (d : Fin 2) (b : Fin 4) (n : Fin 65) (i : Fin 128) (h : Fin 4) (p : Fin 128) :
    A_main_v25 (F := Ideal) A.decay A.k A.v (ix6 d b n i h p) = A.k (ix3 b (row d n.val i) (col h p)) * weight (A.rate d h) i.val := by
  unfold A_main_v25
  exact product _ _ (v22_apply A d b n i h p) (v24_apply A d b n i h p)

/-- Every chunk's product of weighted keys and values. -/
theorem v31_apply (n : Fin 65) (d : Fin 2) (b h : Fin 4) (p q : Fin 128) :
    A_main_v31 (F := Ideal) A.decay A.k A.v (ix6 n d b h p q) = A.kv d b h n.val p q := by
  pointwise [A_main_v31]
  simp only [v25_apply, v30_apply]
  rfl

end Cert.Reference3Ideal.RefValue

end
-- ==== Proof.Ret.RefTrip.lean ====
/- What a trip of the reference's loop does to the states, index by index. -/
module

public import proofs.«01_k».proof.Proof.Gen.Reference3Ideal.Step
public import Idealize.ShloMosaic.Lib.Pointwise
public import Idealize.ShloMosaic.Lib.DynamicIndex
public import Idealize.ShloMosaic.Lib.WordCmp

@[expose] public section

set_option maxRecDepth 16384

noncomputable section

namespace Cert.Reference3Ideal.RefValue

open Cert.Reference3Ideal Cert.Reference3Ideal.Gen Cert.Reference3Ideal.Step Idealize.ShloMosaic
  Idealize.ShloMosaic.TcCoe Idealize.SL.Sem Idealize.ShloMosaic.StableHlo

/-! ## The loop -/

variable (j : ℕ) (s : State Ideal)

/-- Where trip `j` reads and writes. -/
theorem fits {j : ℕ} (hj : j < 65) : Shape.Slices S65x2x4x4x128x128 ![j, 0, 0, 0, 0, 0] S1x2x4x4x128x128 :=
  ⟨rfl, fun a => match a with
    | ⟨0, _⟩ => (show j + 1 ≤ 65 by omega)
    | ⟨1, _⟩ => (show 0 + 2 ≤ 2 by omega)
    | ⟨2, _⟩ => (show 0 + 4 ≤ 4 by omega)
    | ⟨3, _⟩ => (show 0 + 4 ≤ 4 by omega)
    | ⟨4, _⟩ => (show 0 + 128 ≤ 128 by omega)
    | ⟨5, _⟩ => (show 0 + 128 ≤ 128 by omega)⟩

theorem b5_apply (hj : j < 65) (d : Fin 2) (b h : Fin 4) (p q : Fin 128) :
    b5 (F := Ideal) j s (ix6 0 d b h p q) = s.main_v34_0 (ix6 ⟨j, hj⟩ d b h p q) := by
  unfold b5
  refine (congrFun (Host.dynamicSlice_eq_extractStridedSlice _ _ _ ![j, 0, 0, 0, 0, 0] _ (fits hj) (fun a => match a with
    | ⟨0, _⟩ => toInt_ofNat_of_lt (show j < 2 ^ 31 by omega)
    | ⟨1, _⟩ => rfl
    | ⟨2, _⟩ => rfl
    | ⟨3, _⟩ => rfl
    | ⟨4, _⟩ => rfl
    | ⟨5, _⟩ => rfl)) _).trans ?_
  pointwise

theorem b10_apply (hj : j < 65) (d : Fin 2) (b h : Fin 4) (p q : Fin 128) :
    b10 (F := Ideal) j s (ix5 d b h p q)
      = s.main_v34_3 (ix5 d b h p q) * s.main_v34_1 (ix2 d h) + s.main_v34_0 (ix6 ⟨j, hj⟩ d b h p q) := by
  pointwise [b10, b9, b8, b7, b6]
  rw [b5_apply j s hj]

theorem at_first {j n : ℕ} (H : j ≤ n ∧ n < j + 1) : n = j := by omega

theorem b17_apply (hj : j < 65) (n : Fin 65) (d : Fin 2) (b h : Fin 4) (p q : Fin 128) :
    b17 (F := Ideal) j s (ix6 n d b h p q) = if n.val = j then s.main_v34_3 (ix5 d b h p q) else s.main_v34_4 (ix6 n d b h p q) := by
  unfold b17
  refine (congrFun (WordCmp.dynamicUpdateSlice_eq_update _ _ _ _ ![j, 0, 0, 0, 0, 0] (fits hj) (fun a => match a with
    | ⟨0, _⟩ => toInt_ofNat_of_lt (show j < 2 ^ 31 by omega)
    | ⟨1, _⟩ => rfl
    | ⟨2, _⟩ => rfl
    | ⟨3, _⟩ => rfl
    | ⟨4, _⟩ => rfl
    | ⟨5, _⟩ => rfl)) _).trans ?_
  by_cases e : n.val = j
  · refine Eq.trans (dif_pos (fun a => match a with
      | ⟨0, _⟩ => (show j ≤ n.val ∧ n.val < j + 1 by omega)
      | ⟨1, _⟩ => (show 0 ≤ d.val ∧ d.val < 0 + 2 by omega)
      | ⟨2, _⟩ => (show 0 ≤ b.val ∧ b.val < 0 + 4 by omega)
      | ⟨3, _⟩ => (show 0 ≤ h.val ∧ h.val < 0 + 4 by omega)
      | ⟨4, _⟩ => (show 0 ≤ p.val ∧ p.val < 0 + 128 by omega)
      | ⟨5, _⟩ => (show 0 ≤ q.val ∧ q.val < 0 + 128 by omega))) ?_
    refine Eq.trans ?_ (if_pos e).symm
    unfold b11
    exact congrArg s.main_v34_3 (funext fun a => match a with
      | ⟨0, _⟩ => rfl
      | ⟨1, _⟩ => rfl
      | ⟨2, _⟩ => rfl
      | ⟨3, _⟩ => rfl
      | ⟨4, _⟩ => rfl)
  · refine Eq.trans (dif_neg (fun H => e ?_)) (if_neg e).symm
    exact at_first (H 0)

end Cert.Reference3Ideal.RefValue

end
-- ==== Proof.Ret.RefValue.lean ====
/- The reference's states, read into the functions of `Ret.Spec`: its loop carries both directions' states and stacks them. -/
module

public import proofs.«01_k».proof.Proof.Gen.Reference3Ideal.Run
public import proofs.«01_k».proof.Proof.Gen.Reference3Ideal.Step
public import proofs.«01_k».proof.Proof.Ret.RefRows
public import proofs.«01_k».proof.Proof.Ret.RefTrip
public import Idealize.ShloMosaic.Lib.Pointwise

@[expose] public section

set_option maxRecDepth 16384

noncomputable section

namespace Cert.Reference3Ideal.RefValue

open Cert.Reference3Ideal Cert.Reference3Ideal.Gen Cert.Reference3Ideal.Step Cert.Ret Idealize.ShloMosaic
  Idealize.ShloMosaic.TcCoe Idealize.SL.Sem Idealize.ShloMosaic.StableHlo

variable (A : Args)

/-- The loop's valuation before trip `k`: the states before chunk `k`, the earlier ones stacked, the products, the fading and the number. -/
structure At (V : Valuation τ sig (Elt Ideal)) (k : ℕ) : Prop where
  carry : ∀ (d : Fin 2) (b h : Fin 4) (p q : Fin 128),
    (V (Proc.devRef .tc main_v34_3) : FVec Ideal S2x4x4x128x128 .f32) (ix5 d b h p q) = A.state d b h k p q
  stack : ∀ (n : Fin 65), n.val < k → ∀ (d : Fin 2) (b h : Fin 4) (p q : Fin 128),
    (V (Proc.devRef .tc main_v34_4) : FVec Ideal S65x2x4x4x128x128 .f32) (ix6 n d b h p q) = A.state d b h n.val p q
  kv : ∀ (n : Fin 65) (d : Fin 2) (b h : Fin 4) (p q : Fin 128),
    (V (Proc.devRef .tc main_v34_0) : FVec Ideal S65x2x4x4x128x128 .f32) (ix6 n d b h p q) = A.kv d b h n.val p q
  fades : ∀ (d : Fin 2) (h : Fin 4), (V (Proc.devRef .tc main_v34_1) : FVec Ideal S2x4 .f32) (ix2 d h) = fade (A.rate d h)
  number : V (Proc.devRef .tc main_v34_2) = constantI S_ 32 (BitVec.ofNat 32 k)

/-- The carried values of a valuation. -/
def carried (V : Valuation τ sig (Elt Ideal)) : State Ideal where
  main_v34_3 := V (Proc.devRef .tc main_v34_3)
  main_v34_4 := V (Proc.devRef .tc main_v34_4)
  main_v34_0 := V (Proc.devRef .tc main_v34_0)
  main_v34_1 := V (Proc.devRef .tc main_v34_1)

theorem trip_carry (V : Valuation τ sig (Elt Ideal)) (k : ℕ) (hk : V (Proc.devRef .tc main_v34_2) = constantI S_ 32 (BitVec.ofNat 32 k)) :
    Value.STEP V (Proc.devRef .tc main_v34_3) = b10 k (carried V) := by
  rw [Value.STEP_main_v34_3]
  unfold Value.step_main_v34_3
  rw [hk]
  rfl

theorem trip_stack (V : Valuation τ sig (Elt Ideal)) (k : ℕ) (hk : V (Proc.devRef .tc main_v34_2) = constantI S_ 32 (BitVec.ofNat 32 k)) :
    Value.STEP V (Proc.devRef .tc main_v34_4) = b17 k (carried V) := by
  rw [Value.STEP_main_v34_4]
  unfold Value.step_main_v34_4
  rw [hk]
  rfl

theorem trip_number (V : Valuation τ sig (Elt Ideal)) (k : ℕ) (hk : V (Proc.devRef .tc main_v34_2) = constantI S_ 32 (BitVec.ofNat 32 k)) :
    Value.STEP V (Proc.devRef .tc main_v34_2) = constantI S_ 32 (BitVec.ofNat 32 (k + 1)) := by
  rw [Value.STEP_main_v34_2]
  unfold Value.step_main_v34_2
  rw [hk]
  funext i
  exact (BitVec.ofNat_add k 1).symm

/-- One trip. -/
theorem At.trip {A : Args} {V : Valuation τ sig (Elt Ideal)} {k : ℕ} (hk : k < 65) (H : At A V k) : At A (Value.STEP V) (k + 1) where
  carry d b h p q := by
    rw [trip_carry V k H.number]
    refine (b10_apply k (carried V) hk d b h p q).trans ?_
    exact congrArg₂ (· + ·) (congrArg₂ (· * ·) (H.carry d b h p q) (H.fades d h)) (H.kv ⟨k, hk⟩ d b h p q)
  stack n hn d b h p q := by
    rw [trip_stack V k H.number]
    refine (b17_apply k (carried V) hk n d b h p q).trans ?_
    by_cases e : n.val = k
    · refine (if_pos e).trans ?_
      rw [e]
      exact H.carry d b h p q
    · refine (if_neg e).trans ?_
      exact H.stack n (by omega) d b h p q
  kv n d b h p q := (congrFun (Value.STEP_main_v34_0 V) _).trans (H.kv n d b h p q)
  fades d h := (congrFun (Value.STEP_main_v34_1 V) _).trans (H.fades d h)
  number := trip_number V k H.number

variable (m : (ℓ : Loc nD τ sig) → Buf (Elt Ideal) ℓ) (c : Dev nD)

/-- The program's arguments, as the functions of `Spec`. -/
def args : Args where
  decay := m ((c.tc : Thread nD τ).loc main_arg0)
  k := m ((c.tc : Thread nD τ).loc main_arg1)
  v := m ((c.tc : Thread nD τ).loc main_arg2)

set_option maxRecDepth 65536 in
theorem entry_carry : entryContents Value.preI m c (Proc.devRef .tc main_v34_3) = K_main_v32 (F := Ideal) := by
  simp only [entryContents, afterL_cons, afterL_nil]; after_reads_simp; rfl

set_option maxRecDepth 65536 in
theorem entry_kv : entryContents Value.preI m c (Proc.devRef .tc main_v34_0) = A_main_v31 (F := Ideal) (args m c).decay (args m c).k (args m c).v := by
  simp only [entryContents, afterL_cons, afterL_nil]; after_reads_simp; rfl

set_option maxRecDepth 65536 in
theorem entry_fades : entryContents Value.preI m c (Proc.devRef .tc main_v34_1) = A_main_v17 (F := Ideal) (args m c).decay (args m c).k (args m c).v := by
  simp only [entryContents, afterL_cons, afterL_nil]; after_reads_simp; rfl

set_option maxRecDepth 65536 in
theorem entry_number : entryContents Value.preI m c (Proc.devRef .tc main_v34_2) = constantI S_ 32 (BitVec.ofNat 32 0) := by
  simp only [entryContents, afterL_cons, afterL_nil]; after_reads_simp; rfl

theorem v32_apply (y : S2x4x4x128x128.Idx) : K_main_v32 (F := Ideal) y = (0 : EReal) := by
  pointwise [K_main_v32, K_main_cst_1]

/-- Before the first trip. -/
theorem entry : At (args m c) (entryContents Value.preI m c) 0 where
  carry d b h p q := (congrFun (entry_carry m c) _).trans (v32_apply _)
  stack n hn := absurd hn (by omega)
  kv n d b h p q := (congrFun (entry_kv m c) _).trans (v31_apply _ n d b h p q)
  fades d h := (congrFun (entry_fades m c) _).trans (v17_apply _ d h)
  number := entry_number m c

theorem trips : ∀ k : ℕ, k ≤ 65 → At (args m c) (Value.STEP^[k] (entryContents Value.preI m c)) k
  | 0, _ => entry m c
  | k + 1, hk => by
    rw [Function.iterate_succ_apply']
    exact (trips k (by omega)).trip (by omega)

/-! ## The results -/

theorem exists_idx (y : S4x65x4x128x128.Idx) : ∃ (b : Fin 4) (n : Fin 65) (h : Fin 4) (p q : Fin 128), y = ix5 b n h p q :=
  ⟨y 0, y 1, y 2, y 3, y 4, funext fun i => match i with
    | ⟨0, _⟩ => rfl
    | ⟨1, _⟩ => rfl
    | ⟨2, _⟩ => rfl
    | ⟨3, _⟩ => rfl
    | ⟨4, _⟩ => rfl⟩

theorem result42 : Value.out_main_v42 (Value.STEP^[65] (entryContents Value.preI m c)) = (args m c).forward := by
  have H := trips m c 65 (le_refl _)
  generalize Value.STEP^[65] (entryContents Value.preI m c) = V at H
  funext y
  obtain ⟨b, n, h, p, q, rfl⟩ := exists_idx y
  show R_main_v42 (carried V) (ix5 b n h p q) = _
  pointwise [R_main_v42]
  exact H.stack n n.isLt 0 b h p q

theorem result43 : Value.out_main_v43 (Value.STEP^[65] (entryContents Value.preI m c)) = (args m c).backward := by
  have H := trips m c 65 (le_refl _)
  generalize Value.STEP^[65] (entryContents Value.preI m c) = V at H
  funext y
  obtain ⟨b, n, h, p, q, rfl⟩ := exists_idx y
  show R_main_v43 (carried V) (ix5 b n h p q) = _
  pointwise [R_main_v43]
  refine (H.stack n.rev n.rev.isLt 1 b h p q).trans ?_
  show (args m c).state 1 b h n.rev.val p q = (args m c).state 1 b h (64 - n.val) p q
  have e : n.rev.val = 64 - n.val := by rw [Fin.val_rev]; omega
  rw [e]

end Cert.Reference3Ideal.RefValue

end
-- ==== Proof.RetClaim.lean ====
/- The claim on the retention's states: both programs run and their two results agree. -/
module

public import proofs.«01_k».proof.Defs
public import proofs.«01_k».proof.Proof.Ret.KernelValue
public import proofs.«01_k».proof.Proof.Ret.RefValue
public import proofs.«01_k».proof.Proof.Gen.Kernel3Ideal
public import proofs.«01_k».proof.Proof.Gen.Reference3Ideal
public import proofs.«01_k».proof.Proof.Gen.Reference3Ideal.Run

@[expose] public section

noncomputable section

namespace Cert.Ret

open Idealize.ShloMosaic Idealize.ShloMosaic.TcCoe Idealize.SL.Sem

attribute [local instance] Cert.Kernel3Ideal.Gen.facts Cert.Reference3Ideal.Gen.facts

/-- The reference's arguments are the kernel's, where the memories agree on them. -/
theorem ref_args (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = (Cert.Kernel3Ideal.Ret.args m c).decay)
    (h1 : m' ((c.tc : Thread Cert.Reference3Ideal.nD Cert.Reference3Ideal.τ).loc Cert.Reference3Ideal.main_arg1) = (Cert.Kernel3Ideal.Ret.args m c).k)
    (h2 : m' ((c.tc : Thread Cert.Reference3Ideal.nD Cert.Reference3Ideal.τ).loc Cert.Reference3Ideal.main_arg2) = (Cert.Kernel3Ideal.Ret.args m c).v) :
    Cert.Reference3Ideal.RefValue.args m' c = Cert.Kernel3Ideal.Ret.args m c := by
  unfold Cert.Reference3Ideal.RefValue.args
  rw [h0, h1, h2]

theorem algebraic : Cert.algebraic_Kernel3Ideal_Reference3Ideal := by
  intro m g m' g' _ h
  refine ⟨fun c => Cert.Kernel3Ideal.Ret.G5 m c, fun c => Cert.Kernel3Ideal.Ret.G6 m c, ?_, ?_⟩
  · refine (θ_run Cert.Kernel3Ideal.defs _ _).mono (fun r hr c => ?_) (Cert.Kernel3Ideal.Value.run_blocks m g)
    obtain ⟨h0, h1, hargs⟩ := hr c
    exact ⟨h0.trans (Cert.Kernel3Ideal.Ret.result5 m c), h1.trans (Cert.Kernel3Ideal.Ret.result6 m c), hargs⟩
  · refine (θ_run Cert.Reference3Ideal.defs _ _).mono (fun r hr c => ?_) (Cert.Reference3Ideal.Value.run m' g')
    obtain ⟨h0, h1, hargs⟩ := hr c
    obtain ⟨a0, a1, a2⟩ := h c
    have e := ref_args m m' c a0 a1 a2
    exact ⟨h0.trans ((Cert.Reference3Ideal.RefValue.result42 m' c).trans (congrArg Args.forward e)),
      h1.trans ((Cert.Reference3Ideal.RefValue.result43 m' c).trans (congrArg Args.backward e)), hargs⟩

end Cert.Ret

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Step
public import proofs.«01_k».proof.Proof.Gen.Kernel3Ideal.Value
public import proofs.«01_k».proof.Proof.InProjClaim
public import proofs.«01_k».proof.Proof.FfnClaim
public import proofs.«01_k».proof.Proof.RetClaim
public import Idealize.ShloMosaic.Lib.Quiescent
public import Idealize.ShloMosaic.Lib.Tactic

@[expose] public section

noncomputable section

namespace Cert.Proof

open Idealize.ShloMosaic Idealize.SL.Sem

attribute [local instance] Cert.ReferenceIdeal.Gen.facts Cert.Kernel2.Gen.facts Cert.Kernel2Ideal.Gen.facts
  Cert.Reference2Ideal.Gen.facts Cert.Kernel3.Gen.facts Cert.Kernel3Ideal.Gen.facts Cert.Reference3Ideal.Gen.facts

/-- The reference of the input projection leaves its arguments as they were. It has no semaphore. -/
theorem frame_reference : Cert.quiescent_ReferenceIdeal := fun m ρ _ =>
  (θ_run Cert.ReferenceIdeal.defs _ _).mono
    (fun r h => ⟨fun c => (h c).2.2.2.2.2.2.2.2, sem_eq_zero_of_no_sems (by decide) r.2⟩)
    (Cert.ReferenceIdeal.Value.run (F := Ideal) m ρ)

/-- The feed-forward kernel and its idealization run the same bodies. -/
theorem defs_kernel2 : Cert.Kernel2.defs (F := Bits) = Cert.Kernel2Ideal.defs := by sl_kernel_rfl

/-- The feed-forward kernel's frame, of the run that its idealization has at any float values: the two are one program. -/
theorem frame_kernel2 : Cert.quiescent_Kernel2 := by
  intro m ρ _
  rw [defs_kernel2]
  exact (θ_run Cert.Kernel2Ideal.defs _ _).mono (fun _ h => h) (Cert.Kernel2Ideal.Ffn.frame (F := Bits) m ρ)

/-- The reference of the feed-forward call leaves its arguments as they were. It has no semaphore. -/
theorem frame_reference2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The kernel of the retention's states and its idealization run the same bodies. -/
theorem defs_kernel3 : Cert.Kernel3.defs (F := Bits) = Cert.Kernel3Ideal.defs := by sl_kernel_rfl

/-- The frame of the retention's states, of the run that the idealization has at any float values. -/
theorem frame_kernel3 : Cert.quiescent_Kernel3 := by
  intro m ρ _
  rw [defs_kernel3]
  exact (θ_run Cert.Kernel3Ideal.defs _ _).mono (fun _ h => h) (Cert.Kernel3Ideal.Gen.frame (F := Bits) m ρ)

/-- The reference of the retention's states leaves its arguments as they were. It has no semaphore. -/
theorem frame_reference3 : Cert.quiescent_Reference3Ideal := fun m ρ _ =>
  (θ_run Cert.Reference3Ideal.defs _ _).mono
    (fun r h => ⟨fun c => (h c).2.2, sem_eq_zero_of_no_sems (by decide) r.2⟩)
    (Cert.Reference3Ideal.Value.run (F := Ideal) m ρ)

/-- The one named constant: the literal of the retention keys' scale stands for the inverse of the root of 128. -/
theorem preserves_kernel : Cert.preserves_Kernel_KernelIdeal :=
  IdealRules.named_const.statement Cert.KernelIdeal.κ "kScale" .f32 0x3DB504F3#32 (((Real.sqrt 128)⁻¹ : ℝ) : EReal) rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    fun m ρ _ => Cert.Kernel.Gen.frame m ρ, fun m ρ _ => Cert.KernelIdeal.Gen.frame m ρ, frame_reference,
    frame_kernel2, fun m ρ _ => Cert.Kernel2Ideal.Ffn.frame m ρ, frame_reference2,
    frame_kernel3, fun m ρ _ => Cert.Kernel3Ideal.Gen.frame m ρ, frame_reference3,
    preserves_kernel, Cert.InProj.algebraic, trivial, Cert.Ffn.algebraic,
    trivial, Cert.Ret.algebraic⟩

end Cert.Proof

end
